-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_rows" .f32 0x3A2AAAAB#32 ((1 / 1536 : ℝ) : EReal)
  ∧ IdealRules.named_const.Statement Cert.KernelIdeal.κ "t_gain" .f32 0x421044FE#32 ((25 * (Real.log 2)⁻¹ : ℝ) : EReal)
  ∧ IdealRules.named_const.Statement Cert.KernelIdeal.κ "s_gain" .f32 0x4166D4CA#32 ((10 * (Real.log 2)⁻¹ : ℝ) : EReal)
  ∧ IdealRules.named_const.Statement Cert.KernelIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3x256x512 : Shape := ⟨4, ![2, 3, 256, 512]⟩
abbrev S2x3x256 : Shape := ⟨3, ![2, 3, 256]⟩
abbrev S4x3x256x512 : Shape := ⟨4, ![4, 3, 256, 512]⟩
abbrev S4x3x256 : Shape := ⟨3, ![4, 3, 256]⟩
abbrev S16384x512 : Shape := ⟨2, ![16384, 512]⟩
abbrev S16384x4 : Shape := ⟨2, ![16384, 4]⟩
abbrev S16384 : Shape := ⟨1, ![16384]⟩
abbrev S_ : Shape := ⟨0, ![]⟩

class Facts : Prop where
  bcast_S_S2x3x256x512 : S_.BroadcastsInDim S2x3x256x512 (![] : Fin 0 → Fin S2x3x256x512.rank)
  reducesTo_S2x3x256x512_S_d0_1_2_3 : S2x3x256x512.ReducesTo [0, 1, 2, 3] S_
  h_S_ : 0 < S_.numel
  bcast_S_S2x3x256 : S_.BroadcastsInDim S2x3x256 (![] : Fin 0 → Fin S2x3x256.rank)
  reducesTo_S2x3x256_S_d0_1_2 : S2x3x256.ReducesTo [0, 1, 2] S_
  bcast_S_S4x3x256x512 : S_.BroadcastsInDim S4x3x256x512 (![] : Fin 0 → Fin S4x3x256x512.rank)
  reducesTo_S4x3x256x512_S_d0_1_2_3 : S4x3x256x512.ReducesTo [0, 1, 2, 3] S_
  bcast_S_S4x3x256 : S_.BroadcastsInDim S4x3x256 (![] : Fin 0 → Fin S4x3x256.rank)
  reducesTo_S4x3x256_S_d0_1_2 : S4x3x256.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg6 : FVec F S16384 .f32) (main_arg7 : FVec F S16384 .f32) (main_v13 : IVec S_ 1) (main_v16 : IVec S4x3x256 1) : IVec S_ 1 :=
  let main_c_5 : IVec S_ 1 := constantI S_ 1 1#1
  let main_v17 : IVec S_ 1 := (fun x v => Host.reduce IntOp.andi x v reducesTo_S4x3x256_S_d0_1_2 h_S_) main_v16 main_c_5
  let main_v18 : IVec S_ 1 := andi main_v13 main_v17
  let main_v19 : FVec F S16384 .f32 := Host.absf main_arg6
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384 .f32 := Host.absf main_arg7
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  main_v28

def fn {F : FTy → Type} [FloatOps F] (main_arg0 : FVec F S2x3x256x512 .f32) (main_arg1 : FVec F S2x3x256 .f32) (main_arg2 : FVec F S4x3x256x512 .f32) (main_arg3 : FVec F S4x3x256 .f32) (main_arg4 : FVec F S16384x512 .fp8e4m3) (main_arg5 : FVec F S16384x4 .f32) (main_arg6 : FVec F S16384 .f32) (main_arg7 : FVec F S16384 .f32) : IVec S_ 1 :=
  let main_v0 : FVec F S2x3x256x512 .f32 := Host.absf main_arg0
  let main_cst : FVec F S_ .f32 := constant S_ .f32 0x7F800000#32
  let main_v1 : FVec F S2x3x256x512 .f32 := broadcastInDim S2x3x256x512 ![] bcast_S_S2x3x256x512 main_cst
  let main_v2 : IVec S2x3x256x512 1 := cmpf .olt main_v0 main_v1
  let main_c : IVec S_ 1 := constantI S_ 1 1#1
  let main_v3 : IVec S_ 1 := (fun x v => Host.reduce IntOp.andi x v reducesTo_S2x3x256x512_S_d0_1_2_3 h_S_) main_v2 main_c
  let main_v4 : FVec F S2x3x256 .f32 := Host.absf main_arg1
  let main_cst_0 : FVec F S_ .f32 := constant S_ .f32 0x7F800000#32
  let main_v5 : FVec F S2x3x256 .f32 := broadcastInDim S2x3x256 ![] bcast_S_S2x3x256 main_cst_0
  let main_v6 : IVec S2x3x256 1 := cmpf .olt main_v4 main_v5
  let main_c_1 : IVec S_ 1 := constantI S_ 1 1#1
  let main_v7 : IVec S_ 1 := (fun x v => Host.reduce IntOp.andi x v reducesTo_S2x3x256_S_d0_1_2 h_S_) main_v6 main_c_1
  let main_v8 : IVec S_ 1 := andi main_v3 main_v7
  let main_v9 : FVec F S4x3x256x512 .f32 := Host.absf main_arg2
  let main_cst_2 : FVec F S_ .f32 := constant S_ .f32 0x7F800000#32
  let main_v10 : FVec F S4x3x256x512 .f32 := broadcastInDim S4x3x256x512 ![] bcast_S_S4x3x256x512 main_cst_2
  let main_v11 : IVec S4x3x256x512 1 := cmpf .olt main_v9 main_v10
  let main_c_3 : IVec S_ 1 := constantI S_ 1 1#1
  let main_v12 : IVec S_ 1 := (fun x v => Host.reduce IntOp.andi x v reducesTo_S4x3x256x512_S_d0_1_2_3 h_S_) main_v11 main_c_3
  let main_v13 : IVec S_ 1 := andi main_v8 main_v12
  let main_v14 : FVec F S4x3x256 .f32 := Host.absf main_arg3
  let main_cst_4 : FVec F S_ .f32 := constant S_ .f32 0x7F800000#32
  let main_v15 : FVec F S4x3x256 .f32 := broadcastInDim S4x3x256 ![] bcast_S_S4x3x256 main_cst_4
  let main_v16 : IVec S4x3x256 1 := cmpf .olt main_v14 main_v15
  fn_part1 (F := F) main_arg6 main_arg7 main_v13 main_v16
-- ==== Kernel.lean ====
abbrev S2x3x256x512 : Shape := ⟨4, ![2, 3, 256, 512]⟩
abbrev S2x3x256 : Shape := ⟨3, ![2, 3, 256]⟩
abbrev S4x3x256x512 : Shape := ⟨4, ![4, 3, 256, 512]⟩
abbrev S4x3x256 : Shape := ⟨3, ![4, 3, 256]⟩
abbrev S16384x512 : Shape := ⟨2, ![16384, 512]⟩
abbrev S16384x4 : Shape := ⟨2, ![16384, 4]⟩
abbrev S16384 : Shape := ⟨1, ![16384]⟩
abbrev S4x16384 : Shape := ⟨2, ![4, 16384]⟩
abbrev S128x128 : Shape := ⟨2, ![128, 128]⟩
abbrev S2x4x3x256 : Shape := ⟨4, ![2, 4, 3, 256]⟩
abbrev S2x4 : Shape := ⟨2, ![2, 4]⟩
abbrev S6x3x512x256 : Shape := ⟨4, ![6, 3, 512, 256]⟩
abbrev S2x256x512 : Shape := ⟨3, ![2, 256, 512]⟩
abbrev S2x3x256x128 : Shape := ⟨4, ![2, 3, 256, 128]⟩
abbrev S2x6x256x256 : Shape := ⟨4, ![2, 6, 256, 256]⟩
abbrev S3x12x8x256 : Shape := ⟨4, ![3, 12, 8, 256]⟩
abbrev S3x6x8x256 : Shape := ⟨4, ![3, 6, 8, 256]⟩
abbrev S8x512 : Shape := ⟨2, ![8, 512]⟩
abbrev S8x128 : Shape := ⟨2, ![8, 128]⟩
abbrev S1x1x256x512 : Shape := ⟨4, ![1, 1, 256, 512]⟩
abbrev S256x512 : Shape := ⟨2, ![256, 512]⟩
abbrev S1x1x256 : Shape := ⟨3, ![1, 1, 256]⟩
abbrev S1x256 : Shape := ⟨2, ![1, 256]⟩
abbrev S512x256 : Shape := ⟨2, ![512, 256]⟩
abbrev S1x1x512x256 : Shape := ⟨4, ![1, 1, 512, 256]⟩
abbrev S8x256 : Shape := ⟨2, ![8, 256]⟩
abbrev S4x128 : Shape := ⟨2, ![4, 128]⟩
abbrev S1x128 : Shape := ⟨2, ![1, 128]⟩
abbrev S128x8 : Shape := ⟨2, ![128, 8]⟩
abbrev S1x512 : Shape := ⟨2, ![1, 512]⟩
abbrev S128x1 : Shape := ⟨2, ![128, 1]⟩
abbrev S1x128x128 : Shape := ⟨3, ![1, 128, 128]⟩
abbrev S128 : Shape := ⟨1, ![128]⟩
abbrev S1x1x128x128 : Shape := ⟨4, ![1, 1, 128, 128]⟩
abbrev S1x256x512 : Shape := ⟨3, ![1, 256, 512]⟩
abbrev S256x256 : Shape := ⟨2, ![256, 256]⟩
abbrev S1x1x256x256 : Shape := ⟨4, ![1, 1, 256, 256]⟩
abbrev S1x1x8x128 : Shape := ⟨4, ![1, 1, 8, 128]⟩
abbrev S1x1x8x256 : Shape := ⟨4, ![1, 1, 8, 256]⟩
abbrev S256 : Shape := ⟨1, ![256]⟩
abbrev S1x1x1x256 : Shape := ⟨4, ![1, 1, 1, 256]⟩
abbrev S1 : Shape := ⟨1, ![1]⟩
abbrev S1x1 : Shape := ⟨2, ![1, 1]⟩
abbrev S1x1x1 : Shape := ⟨3, ![1, 1, 1]⟩

abbrev nBuf : Space → Nat
  | .hbm => 16
  | .vmem => 20
  | .smem => 0
  | _ => 0

abbrev bufTy : (tb : Table) → Fin (tcTables nBuf tb) → BufTy
  | .hbm, ⟨0, _⟩ => ⟨S2x3x256x512, .f32⟩
  | .hbm, ⟨1, _⟩ => ⟨S2x3x256, .f32⟩
  | .hbm, ⟨2, _⟩ => ⟨S4x3x256x512, .f32⟩
  | .hbm, ⟨3, _⟩ => ⟨S4x3x256, .f32⟩
  | .hbm, ⟨4, _⟩ => ⟨S16384x512, .fp8e4m3⟩
  | .hbm, ⟨5, _⟩ => ⟨S16384x4, .f32⟩
  | .hbm, ⟨6, _⟩ => ⟨S16384, .f32⟩
  | .hbm, ⟨7, _⟩ => ⟨S16384, .f32⟩
  | .hbm, ⟨8, _⟩ => ⟨S2x3x256x512, .fp8e4m3⟩
  | .hbm, ⟨9, _⟩ => ⟨S4x3x256x512, .fp8e4m3⟩
  | .hbm, ⟨10, _⟩ => ⟨S4x16384, .f32⟩
  | .hbm, ⟨11, _⟩ => ⟨S128x128, .f32⟩
  | .hbm, ⟨12, _⟩ => ⟨S128x128, .f32⟩
  | .hbm, ⟨13, _⟩ => ⟨S2x4x3x256, .f32⟩
  | .hbm, ⟨14, _⟩ => ⟨S2x4, .f32⟩
  | .hbm, ⟨15, _⟩ => ⟨S128x128, .f32⟩
  | .local _ .vmem, ⟨0, _⟩ => ⟨S2x3x256x512, .fp8e4m3⟩
  | .local _ .vmem, ⟨1, _⟩ => ⟨S2x3x256, .f32⟩
  | .local _ .vmem, ⟨2, _⟩ => ⟨S4x3x256x512, .fp8e4m3⟩
  | .local _ .vmem, ⟨3, _⟩ => ⟨S4x3x256, .f32⟩
  | .local _ .vmem, ⟨4, _⟩ => ⟨S16384x512, .fp8e4m3⟩
  | .local _ .vmem, ⟨5, _⟩ => ⟨S4x16384, .f32⟩
  | .local _ .vmem, ⟨6, _⟩ => ⟨S128x128, .f32⟩
  | .local _ .vmem, ⟨7, _⟩ => ⟨S128x128, .f32⟩
  | .local _ .vmem, ⟨8, _⟩ => ⟨S2x4x3x256, .f32⟩
  | .local _ .vmem, ⟨9, _⟩ => ⟨S2x4, .f32⟩
  | .local _ .vmem, ⟨10, _⟩ => ⟨S128x128, .f32⟩
  | .local _ .vmem, ⟨11, _⟩ => ⟨S6x3x512x256, .bf16⟩
  | .local _ .vmem, ⟨12, _⟩ => ⟨S2x256x512, .bf16⟩
  | .local _ .vmem, ⟨13, _⟩ => ⟨S2x3x256x128, .f32⟩
  | .local _ .vmem, ⟨14, _⟩ => ⟨S2x6x256x256, .f32⟩
  | .local _ .vmem, ⟨15, _⟩ => ⟨S3x12x8x256, .f32⟩
  | .local _ .vmem, ⟨16, _⟩ => ⟨S3x6x8x256, .f32⟩
  | .local _ .vmem, ⟨17, _⟩ => ⟨S8x512, .f32⟩
  | .local _ .vmem, ⟨18, _⟩ => ⟨S8x128, .f32⟩
  | .local _ .vmem, ⟨19, _⟩ => ⟨S128x128, .f32⟩
  | _, _ => ⟨S2x3x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_244 : BitVec 32 := 0#32
  c0_i32_244
def k0_mult3 : BitVec 32 :=
  let c0_i32_249 : BitVec 32 := 0#32
  c0_i32_249
def k0_mult4 : BitVec 32 :=
  let c0_i32_253 : BitVec 32 := 0#32
  c0_i32_253
def k0_mult5 : BitVec 32 :=
  let c0_i32_257 : BitVec 32 := 0#32
  c0_i32_257
def k0_mult6 : BitVec 32 :=
  let c128_i32 : BitVec 32 := 128#32
  c128_i32
def k0_mult7 : BitVec 32 :=
  let c128_i32_302 : BitVec 32 := 128#32
  c128_i32_302
def k0_mult8 : BitVec 32 :=
  let c128_i32_307 : BitVec 32 := 128#32
  c128_i32_307
def k0_mult9 : BitVec 32 :=
  let c128_i32_312 : BitVec 32 := 128#32
  c128_i32_312
def k0_mult10 : BitVec 32 :=
  let c128_i32_317 : BitVec 32 := 128#32
  c128_i32_317
@[reducible] def k0_t1_loop : Scf.Loop 32 :=
  let c0_i32_345 : BitVec 32 := 0#32
  let c32_i32 : BitVec 32 := 32#32
  let v554 : BitVec 32 := Scalar.addi c0_i32_345 c32_i32
  let c1_i32_346 : BitVec 32 := 1#32
  ⟨c0_i32_345, v554, c1_i32_346⟩
def k0_mult11 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let c0_i32_8499 : BitVec 32 := 0#32
  let v11530 : BitVec 32 := Scalar.addi v11529 c0_i32_8499
  let c128_i32_8500 : BitVec 32 := 128#32
  let v11531 : BitVec 32 := Scalar.muli v11530 c128_i32_8500
  v11531
def k0_off1 (k0_t1 : Fin k0_t1_loop.trips) (c0_i32_3335 : BitVec 32) (c0_i32_8499 : BitVec 32) : Fin 2 → Nat :=
  let c0_8501 : Index := 0#32
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let c128_i32_8500 : BitVec 32 := 128#32
  let v11531 : BitVec 32 := Scalar.muli v11530 c128_i32_8500
  let v11532 : BitVec 32 := v11531
  let v11533 : Index := Scalar.indexCast v11532
  ![0, v11533.toNat]
def k0_off2 (k0_t1 : Fin k0_t1_loop.trips) (c0_i32_3335 : BitVec 32) (c0_i32_8499 : BitVec 32) : Fin 2 → Nat :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let v11539 : Index := Scalar.indexCast v11530
  let c0_8504 : Index := 0#32
  ![v11539.toNat, 0]
def k0_mult12 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let c0_i32_8499 : BitVec 32 := 0#32
  let v11530 : BitVec 32 := Scalar.addi v11529 c0_i32_8499
  let c128_i32_8516 : BitVec 32 := 128#32
  let v11556 : BitVec 32 := Scalar.muli v11530 c128_i32_8516
  v11556
def k0_off3 (k0_t1 : Fin k0_t1_loop.trips) (c0_i32_3335 : BitVec 32) (c0_i32_8499 : BitVec 32) : Fin 2 → Nat :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let c128_i32_8516 : BitVec 32 := 128#32
  let v11556 : BitVec 32 := Scalar.muli v11530 c128_i32_8516
  let v11557 : BitVec 32 := v11556
  let v11558 : Index := Scalar.indexCast v11557
  let c0_8517 : Index := 0#32
  ![v11558.toNat, 0]
def k0_mult13 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let c0_i32_8499 : BitVec 32 := 0#32
  let v11530 : BitVec 32 := Scalar.addi v11529 c0_i32_8499
  let c128_i32_8521 : BitVec 32 := 128#32
  let v11576 : BitVec 32 := Scalar.muli v11530 c128_i32_8521
  v11576
def k0_off4 (k0_t1 : Fin k0_t1_loop.trips) (c0_i32_3335 : BitVec 32) (c0_i32_8499 : BitVec 32) : Fin 2 → Nat :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let c128_i32_8521 : BitVec 32 := 128#32
  let v11576 : BitVec 32 := Scalar.muli v11530 c128_i32_8521
  let v11577 : BitVec 32 := v11576
  let v11578 : Index := Scalar.indexCast v11577
  let c128_8522 : Index := 128#32
  ![v11578.toNat, 128]
def k0_mult14 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let c0_i32_8499 : BitVec 32 := 0#32
  let v11530 : BitVec 32 := Scalar.addi v11529 c0_i32_8499
  let c128_i32_8526 : BitVec 32 := 128#32
  let v11596 : BitVec 32 := Scalar.muli v11530 c128_i32_8526
  v11596
def k0_off5 (k0_t1 : Fin k0_t1_loop.trips) (c0_i32_3335 : BitVec 32) (c0_i32_8499 : BitVec 32) : Fin 2 → Nat :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let c128_i32_8526 : BitVec 32 := 128#32
  let v11596 : BitVec 32 := Scalar.muli v11530 c128_i32_8526
  let v11597 : BitVec 32 := v11596
  let v11598 : Index := Scalar.indexCast v11597
  let c256_8527 : Index := 256#32
  ![v11598.toNat, 256]
def k0_mult15 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let c0_i32_8499 : BitVec 32 := 0#32
  let v11530 : BitVec 32 := Scalar.addi v11529 c0_i32_8499
  let c128_i32_8531 : BitVec 32 := 128#32
  let v11616 : BitVec 32 := Scalar.muli v11530 c128_i32_8531
  v11616
def k0_off6 (k0_t1 : Fin k0_t1_loop.trips) (c0_i32_3335 : BitVec 32) (c0_i32_8499 : BitVec 32) : Fin 2 → Nat :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8498 : BitVec 32 := 2#32
  let v11529 : BitVec 32 := Scalar.muli v11528 c2_i32_8498
  let v11530 : BitVec 32 := Scalar.addi v11529 c0_i32_8499
  let c128_i32_8531 : BitVec 32 := 128#32
  let v11616 : BitVec 32 := Scalar.muli v11530 c128_i32_8531
  let v11617 : BitVec 32 := v11616
  let v11618 : Index := Scalar.indexCast v11617
  let c384_8532 : Index := 384#32
  ![v11618.toNat, 384]
def k0_mult16 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8559 : BitVec 32 := 2#32
  let v11680 : BitVec 32 := Scalar.muli v11528 c2_i32_8559
  let c1_i32_8560 : BitVec 32 := 1#32
  let v11681 : BitVec 32 := Scalar.addi v11680 c1_i32_8560
  let c128_i32_8561 : BitVec 32 := 128#32
  let v11682 : BitVec 32 := Scalar.muli v11681 c128_i32_8561
  v11682
def k0_mult17 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8559 : BitVec 32 := 2#32
  let v11680 : BitVec 32 := Scalar.muli v11528 c2_i32_8559
  let c1_i32_8560 : BitVec 32 := 1#32
  let v11681 : BitVec 32 := Scalar.addi v11680 c1_i32_8560
  let c128_i32_8577 : BitVec 32 := 128#32
  let v11707 : BitVec 32 := Scalar.muli v11681 c128_i32_8577
  v11707
def k0_mult18 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8559 : BitVec 32 := 2#32
  let v11680 : BitVec 32 := Scalar.muli v11528 c2_i32_8559
  let c1_i32_8560 : BitVec 32 := 1#32
  let v11681 : BitVec 32 := Scalar.addi v11680 c1_i32_8560
  let c128_i32_8582 : BitVec 32 := 128#32
  let v11727 : BitVec 32 := Scalar.muli v11681 c128_i32_8582
  v11727
def k0_mult19 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8559 : BitVec 32 := 2#32
  let v11680 : BitVec 32 := Scalar.muli v11528 c2_i32_8559
  let c1_i32_8560 : BitVec 32 := 1#32
  let v11681 : BitVec 32 := Scalar.addi v11680 c1_i32_8560
  let c128_i32_8587 : BitVec 32 := 128#32
  let v11747 : BitVec 32 := Scalar.muli v11681 c128_i32_8587
  v11747
def k0_mult20 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_3334 : BitVec 32 := 2#32
  let v4740 : BitVec 32 := Scalar.muli arg20 c2_i32_3334
  let c0_i32_3335 : BitVec 32 := 0#32
  let v4741 : BitVec 32 := Scalar.addi v4740 c0_i32_3335
  let c1_i32_8497 : BitVec 32 := 1#32
  let v11527 : BitVec 32 := Scalar.addi v4741 c1_i32_8497
  let c63_i32 : BitVec 32 := 63#32
  let v11528 : BitVec 32 := Scalar.minsi v11527 c63_i32
  let c2_i32_8559 : BitVec 32 := 2#32
  let v11680 : BitVec 32 := Scalar.muli v11528 c2_i32_8559
  let c1_i32_8560 : BitVec 32 := 1#32
  let v11681 : BitVec 32 := Scalar.addi v11680 c1_i32_8560
  let c128_i32_8592 : BitVec 32 := 128#32
  let v11767 : BitVec 32 := Scalar.muli v11681 c128_i32_8592
  v11767
def k0_mult21 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16377 : BitVec 32 := 2#32
  let v22012 : BitVec 32 := Scalar.muli v22011 c2_i32_16377
  let c0_i32_16378 : BitVec 32 := 0#32
  let v22013 : BitVec 32 := Scalar.addi v22012 c0_i32_16378
  let c128_i32_16379 : BitVec 32 := 128#32
  let v22014 : BitVec 32 := Scalar.muli v22013 c128_i32_16379
  v22014
def k0_mult22 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16377 : BitVec 32 := 2#32
  let v22012 : BitVec 32 := Scalar.muli v22011 c2_i32_16377
  let c0_i32_16378 : BitVec 32 := 0#32
  let v22013 : BitVec 32 := Scalar.addi v22012 c0_i32_16378
  let c128_i32_16395 : BitVec 32 := 128#32
  let v22039 : BitVec 32 := Scalar.muli v22013 c128_i32_16395
  v22039
def k0_mult23 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16377 : BitVec 32 := 2#32
  let v22012 : BitVec 32 := Scalar.muli v22011 c2_i32_16377
  let c0_i32_16378 : BitVec 32 := 0#32
  let v22013 : BitVec 32 := Scalar.addi v22012 c0_i32_16378
  let c128_i32_16400 : BitVec 32 := 128#32
  let v22059 : BitVec 32 := Scalar.muli v22013 c128_i32_16400
  v22059
def k0_mult24 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16377 : BitVec 32 := 2#32
  let v22012 : BitVec 32 := Scalar.muli v22011 c2_i32_16377
  let c0_i32_16378 : BitVec 32 := 0#32
  let v22013 : BitVec 32 := Scalar.addi v22012 c0_i32_16378
  let c128_i32_16405 : BitVec 32 := 128#32
  let v22079 : BitVec 32 := Scalar.muli v22013 c128_i32_16405
  v22079
def k0_mult25 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16377 : BitVec 32 := 2#32
  let v22012 : BitVec 32 := Scalar.muli v22011 c2_i32_16377
  let c0_i32_16378 : BitVec 32 := 0#32
  let v22013 : BitVec 32 := Scalar.addi v22012 c0_i32_16378
  let c128_i32_16410 : BitVec 32 := 128#32
  let v22099 : BitVec 32 := Scalar.muli v22013 c128_i32_16410
  v22099
def k0_mult26 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16438 : BitVec 32 := 2#32
  let v22163 : BitVec 32 := Scalar.muli v22011 c2_i32_16438
  let c1_i32_16439 : BitVec 32 := 1#32
  let v22164 : BitVec 32 := Scalar.addi v22163 c1_i32_16439
  let c128_i32_16440 : BitVec 32 := 128#32
  let v22165 : BitVec 32 := Scalar.muli v22164 c128_i32_16440
  v22165
def k0_mult27 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16438 : BitVec 32 := 2#32
  let v22163 : BitVec 32 := Scalar.muli v22011 c2_i32_16438
  let c1_i32_16439 : BitVec 32 := 1#32
  let v22164 : BitVec 32 := Scalar.addi v22163 c1_i32_16439
  let c128_i32_16456 : BitVec 32 := 128#32
  let v22190 : BitVec 32 := Scalar.muli v22164 c128_i32_16456
  v22190
def k0_mult28 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16438 : BitVec 32 := 2#32
  let v22163 : BitVec 32 := Scalar.muli v22011 c2_i32_16438
  let c1_i32_16439 : BitVec 32 := 1#32
  let v22164 : BitVec 32 := Scalar.addi v22163 c1_i32_16439
  let c128_i32_16461 : BitVec 32 := 128#32
  let v22210 : BitVec 32 := Scalar.muli v22164 c128_i32_16461
  v22210
def k0_mult29 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16438 : BitVec 32 := 2#32
  let v22163 : BitVec 32 := Scalar.muli v22011 c2_i32_16438
  let c1_i32_16439 : BitVec 32 := 1#32
  let v22164 : BitVec 32 := Scalar.addi v22163 c1_i32_16439
  let c128_i32_16466 : BitVec 32 := 128#32
  let v22230 : BitVec 32 := Scalar.muli v22164 c128_i32_16466
  v22230
def k0_mult30 (k0_t1 : Fin k0_t1_loop.trips) : BitVec 32 :=
  let c0_i32_345 : BitVec 32 := 0#32
  let c1_i32_346 : BitVec 32 := 1#32
  let arg20 : BitVec 32 := Scf.iv c0_i32_345 c1_i32_346 k0_t1
  let c2_i32_11212 : BitVec 32 := 2#32
  let v15223 : BitVec 32 := Scalar.muli arg20 c2_i32_11212
  let c1_i32_11213 : BitVec 32 := 1#32
  let v15224 : BitVec 32 := Scalar.addi v15223 c1_i32_11213
  let c1_i32_16375 : BitVec 32 := 1#32
  let v22010 : BitVec 32 := Scalar.addi v15224 c1_i32_16375
  let c63_i32_16376 : BitVec 32 := 63#32
  let v22011 : BitVec 32 := Scalar.minsi v22010 c63_i32_16376
  let c2_i32_16438 : BitVec 32 := 2#32
  let v22163 : BitVec 32 := Scalar.muli v22011 c2_i32_16438
  let c1_i32_16439 : BitVec 32 := 1#32
  let v22164 : BitVec 32 := Scalar.addi v22163 c1_i32_16439
  let c128_i32_16471 : BitVec 32 := 128#32
  let v22250 : BitVec 32 := Scalar.muli v22164 c128_i32_16471
  v22250
@[reducible] def k0_t2_loop : Scf.Loop 32 :=
  let c0_i32_3344 : BitVec 32 := 0#32
  let c64_i32 : BitVec 32 := 64#32
  let v4748 : BitVec 32 := Scalar.addi c0_i32_3344 c64_i32
  let c1_i32_3345 : BitVec 32 := 1#32
  ⟨c0_i32_3344, v4748, c1_i32_3345⟩
def k0_mult31 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let c0_i32_3789 : BitVec 32 := 0#32
  let v5397 : BitVec 32 := Scalar.addi v5396 c0_i32_3789
  let c128_i32_3790 : BitVec 32 := 128#32
  let v5398 : BitVec 32 := Scalar.muli v5397 c128_i32_3790
  v5398
def k0_off7 (k0_t2 : Fin k0_t2_loop.trips) (c0_i32_3789 : BitVec 32) : Fin 2 → Nat :=
  let c0_3791 : Index := 0#32
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let c128_i32_3790 : BitVec 32 := 128#32
  let v5398 : BitVec 32 := Scalar.muli v5397 c128_i32_3790
  let v5399 : BitVec 32 := v5398
  let v5400 : Index := Scalar.indexCast v5399
  ![0, v5400.toNat]
def k0_off8 (k0_t2 : Fin k0_t2_loop.trips) (c0_i32_3789 : BitVec 32) : Fin 2 → Nat :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let v5406 : Index := Scalar.indexCast v5397
  let c0_3794 : Index := 0#32
  ![v5406.toNat, 0]
def k0_mult32 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let c0_i32_3789 : BitVec 32 := 0#32
  let v5397 : BitVec 32 := Scalar.addi v5396 c0_i32_3789
  let c128_i32_3806 : BitVec 32 := 128#32
  let v5423 : BitVec 32 := Scalar.muli v5397 c128_i32_3806
  v5423
def k0_off9 (k0_t2 : Fin k0_t2_loop.trips) (c0_i32_3789 : BitVec 32) : Fin 2 → Nat :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let c128_i32_3806 : BitVec 32 := 128#32
  let v5423 : BitVec 32 := Scalar.muli v5397 c128_i32_3806
  let v5424 : BitVec 32 := v5423
  let v5425 : Index := Scalar.indexCast v5424
  let c0_3807 : Index := 0#32
  ![v5425.toNat, 0]
def k0_mult33 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let c0_i32_3789 : BitVec 32 := 0#32
  let v5397 : BitVec 32 := Scalar.addi v5396 c0_i32_3789
  let c128_i32_3811 : BitVec 32 := 128#32
  let v5443 : BitVec 32 := Scalar.muli v5397 c128_i32_3811
  v5443
def k0_off10 (k0_t2 : Fin k0_t2_loop.trips) (c0_i32_3789 : BitVec 32) : Fin 2 → Nat :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let c128_i32_3811 : BitVec 32 := 128#32
  let v5443 : BitVec 32 := Scalar.muli v5397 c128_i32_3811
  let v5444 : BitVec 32 := v5443
  let v5445 : Index := Scalar.indexCast v5444
  let c128_3812 : Index := 128#32
  ![v5445.toNat, 128]
def k0_mult34 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let c0_i32_3789 : BitVec 32 := 0#32
  let v5397 : BitVec 32 := Scalar.addi v5396 c0_i32_3789
  let c128_i32_3816 : BitVec 32 := 128#32
  let v5463 : BitVec 32 := Scalar.muli v5397 c128_i32_3816
  v5463
def k0_off11 (k0_t2 : Fin k0_t2_loop.trips) (c0_i32_3789 : BitVec 32) : Fin 2 → Nat :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let c128_i32_3816 : BitVec 32 := 128#32
  let v5463 : BitVec 32 := Scalar.muli v5397 c128_i32_3816
  let v5464 : BitVec 32 := v5463
  let v5465 : Index := Scalar.indexCast v5464
  let c256_3817 : Index := 256#32
  ![v5465.toNat, 256]
def k0_mult35 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let c0_i32_3789 : BitVec 32 := 0#32
  let v5397 : BitVec 32 := Scalar.addi v5396 c0_i32_3789
  let c128_i32_3821 : BitVec 32 := 128#32
  let v5483 : BitVec 32 := Scalar.muli v5397 c128_i32_3821
  v5483
def k0_off12 (k0_t2 : Fin k0_t2_loop.trips) (c0_i32_3789 : BitVec 32) : Fin 2 → Nat :=
  let c0_i32_3344 : BitVec 32 := 0#32
  let c1_i32_3345 : BitVec 32 := 1#32
  let arg20 : BitVec 32 := Scf.iv c0_i32_3344 c1_i32_3345 k0_t2
  let c2_i32_3788 : BitVec 32 := 2#32
  let v5396 : BitVec 32 := Scalar.muli arg20 c2_i32_3788
  let v5397 : BitVec 32 := Scalar.addi v5396 c0_i32_3789
  let c128_i32_3821 : BitVec 32 := 128#32
  let v5483 : BitVec 32 := Scalar.muli v5397 c128_i32_3821
  let v5484 : BitVec 32 := v5483
  let v5485 : Index := Scalar.indexCast v5484
  let c384_3822 : Index := 384#32
  ![v5485.toNat, 384]
def k0_mult36 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3849 : BitVec 32 := 2#32
  let v5547 : BitVec 32 := Scalar.muli arg20 c2_i32_3849
  let c1_i32_3850 : BitVec 32 := 1#32
  let v5548 : BitVec 32 := Scalar.addi v5547 c1_i32_3850
  let c128_i32_3851 : BitVec 32 := 128#32
  let v5549 : BitVec 32 := Scalar.muli v5548 c128_i32_3851
  v5549
def k0_mult37 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3849 : BitVec 32 := 2#32
  let v5547 : BitVec 32 := Scalar.muli arg20 c2_i32_3849
  let c1_i32_3850 : BitVec 32 := 1#32
  let v5548 : BitVec 32 := Scalar.addi v5547 c1_i32_3850
  let c128_i32_3867 : BitVec 32 := 128#32
  let v5574 : BitVec 32 := Scalar.muli v5548 c128_i32_3867
  v5574
def k0_mult38 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3849 : BitVec 32 := 2#32
  let v5547 : BitVec 32 := Scalar.muli arg20 c2_i32_3849
  let c1_i32_3850 : BitVec 32 := 1#32
  let v5548 : BitVec 32 := Scalar.addi v5547 c1_i32_3850
  let c128_i32_3872 : BitVec 32 := 128#32
  let v5594 : BitVec 32 := Scalar.muli v5548 c128_i32_3872
  v5594
def k0_mult39 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3849 : BitVec 32 := 2#32
  let v5547 : BitVec 32 := Scalar.muli arg20 c2_i32_3849
  let c1_i32_3850 : BitVec 32 := 1#32
  let v5548 : BitVec 32 := Scalar.addi v5547 c1_i32_3850
  let c128_i32_3877 : BitVec 32 := 128#32
  let v5614 : BitVec 32 := Scalar.muli v5548 c128_i32_3877
  v5614
def k0_mult40 (k0_t2 : Fin k0_t2_loop.trips) : BitVec 32 :=
  let c0_i32_3344 : BitVec 32 := 0#32
  let c1_i32_3345 : BitVec 32 := 1#32
  let arg20 : BitVec 32 := Scf.iv c0_i32_3344 c1_i32_3345 k0_t2
  let c2_i32_3849 : BitVec 32 := 2#32
  let v5547 : BitVec 32 := Scalar.muli arg20 c2_i32_3849
  let c1_i32_3850 : BitVec 32 := 1#32
  let v5548 : BitVec 32 := Scalar.addi v5547 c1_i32_3850
  let c128_i32_3882 : BitVec 32 := 128#32
  let v5634 : BitVec 32 := Scalar.muli v5548 c128_i32_3882
  v5634
@[reducible] def k0_t3_loop : Scf.Loop 32 :=
  let c0_i32_3983 : BitVec 32 := 0#32
  let c32_i32_3984 : BitVec 32 := 32#32
  let v5746 : BitVec 32 := Scalar.addi c0_i32_3983 c32_i32_3984
  let c1_i32_3985 : BitVec 32 := 1#32
  ⟨c0_i32_3983, v5746, c1_i32_3985⟩
def k0_mult41 (k0_t3 : Fin k0_t3_loop.trips) : BitVec 32 :=
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  v5845
def k0_off13 (k0_t3 : Fin k0_t3_loop.trips) : Fin 4 → Nat :=
  let c0_4141 : Index := 0#32
  let c0_4142 : Index := 0#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5847 : Index := Scalar.indexCast v5846
  let c0_4143 : Index := 0#32
  ![0, 0, v5847.toNat, 0]
def k0_off14 (k0_t3 : Fin k0_t3_loop.trips) : Fin 4 → Nat :=
  let c0_4144 : Index := 0#32
  let c1_4145 : Index := 1#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5850 : Index := Scalar.indexCast v5846
  let c0_4146 : Index := 0#32
  ![0, 1, v5850.toNat, 0]
def k0_off15 (k0_t3 : Fin k0_t3_loop.trips) : Fin 4 → Nat :=
  let c0_4147 : Index := 0#32
  let c2_4148 : Index := 2#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5853 : Index := Scalar.indexCast v5846
  let c0_4149 : Index := 0#32
  ![0, 2, v5853.toNat, 0]
def k0_off16 (k0_t3 : Fin k0_t3_loop.trips) : Fin 4 → Nat :=
  let c0_4150 : Index := 0#32
  let c0_4151 : Index := 0#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5856 : Index := Scalar.indexCast v5846
  let c0_4152 : Index := 0#32
  ![0, 0, v5856.toNat, 0]
def k0_off17 (k0_t3 : Fin k0_t3_loop.trips) : Fin 4 → Nat :=
  let c0_4153 : Index := 0#32
  let c1_4154 : Index := 1#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5861 : Index := Scalar.indexCast v5846
  let c0_4155 : Index := 0#32
  ![0, 1, v5861.toNat, 0]
def k0_off18 (k0_t3 : Fin k0_t3_loop.trips) : Fin 4 → Nat :=
  let c0_4156 : Index := 0#32
  let c2_4157 : Index := 2#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5866 : Index := Scalar.indexCast v5846
  let c0_4158 : Index := 0#32
  ![0, 2, v5866.toNat, 0]
def k0_off19 (k0_t3 : Fin k0_t3_loop.trips) : Fin 4 → Nat :=
  let c0_4159 : Index := 0#32
  let c3_4160 : Index := 3#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5870 : Index := Scalar.indexCast v5846
  let c0_4161 : Index := 0#32
  ![0, 3, v5870.toNat, 0]
def k0_off20 (k0_t3 : Fin k0_t3_loop.trips) : Fin 4 → Nat :=
  let c0_4162 : Index := 0#32
  let c4_4163 : Index := 4#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5874 : Index := Scalar.indexCast v5846
  let c0_4164 : Index := 0#32
  ![0, 4, v5874.toNat, 0]
def k0_off21 (k0_t3 : Fin k0_t3_loop.trips) : Fin 4 → Nat :=
  let c0_4165 : Index := 0#32
  let c5_4166 : Index := 5#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v5878 : Index := Scalar.indexCast v5846
  let c0_4167 : Index := 0#32
  ![0, 5, v5878.toNat, 0]
def k0_off22 (k0_t3 : Fin k0_t3_loop.trips) : Fin 4 → Nat :=
  let c0_4285 : Index := 0#32
  let c0_4286 : Index := 0#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6077 : Index := Scalar.indexCast v5846
  let c128_4287 : Index := 128#32
  ![0, 0, v6077.toNat, 128]
def k0_off23 (k0_t3 : Fin k0_t3_loop.trips) : Fin 4 → Nat :=
  let c0_4288 : Index := 0#32
  let c1_4289 : Index := 1#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6082 : Index := Scalar.indexCast v5846
  let c128_4290 : Index := 128#32
  ![0, 1, v6082.toNat, 128]
def k0_off24 (k0_t3 : Fin k0_t3_loop.trips) : Fin 4 → Nat :=
  let c0_4291 : Index := 0#32
  let c2_4292 : Index := 2#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6087 : Index := Scalar.indexCast v5846
  let c128_4293 : Index := 128#32
  ![0, 2, v6087.toNat, 128]
def k0_off25 (k0_t3 : Fin k0_t3_loop.trips) : Fin 4 → Nat :=
  let c0_4294 : Index := 0#32
  let c3_4295 : Index := 3#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6091 : Index := Scalar.indexCast v5846
  let c128_4296 : Index := 128#32
  ![0, 3, v6091.toNat, 128]
def k0_off26 (k0_t3 : Fin k0_t3_loop.trips) : Fin 4 → Nat :=
  let c0_4297 : Index := 0#32
  let c4_4298 : Index := 4#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6095 : Index := Scalar.indexCast v5846
  let c128_4299 : Index := 128#32
  ![0, 4, v6095.toNat, 128]
def k0_off27 (k0_t3 : Fin k0_t3_loop.trips) : Fin 4 → Nat :=
  let c0_4300 : Index := 0#32
  let c5_4301 : Index := 5#32
  let c0_i32_3983 : BitVec 32 := 0#32
  let c1_i32_3985 : BitVec 32 := 1#32
  let arg21 : BitVec 32 := Scf.iv c0_i32_3983 c1_i32_3985 k0_t3
  let c8_i32 : BitVec 32 := 8#32
  let v5845 : BitVec 32 := Scalar.muli arg21 c8_i32
  let v5846 : BitVec 32 := v5845
  let v6099 : Index := Scalar.indexCast v5846
  let c128_4302 : Index := 128#32
  ![0, 5, v6099.toNat, 128]
@[reducible] def k0_t4_loop : Scf.Loop 32 :=
  let c0_i32_4060 : BitVec 32 := 0#32
  let c32_i32_4061 : BitVec 32 := 32#32
  let v5795 : BitVec 32 := Scalar.addi c0_i32_4060 c32_i32_4061
  let c1_i32_4062 : BitVec 32 := 1#32
  ⟨c0_i32_4060, v5795, c1_i32_4062⟩
def k0_mult42 (k0_t4 : Fin k0_t4_loop.trips) : BitVec 32 :=
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  v5845
def k0_off28 (k0_t4 : Fin k0_t4_loop.trips) : Fin 4 → Nat :=
  let c0_4141 : Index := 0#32
  let c0_4142 : Index := 0#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5847 : Index := Scalar.indexCast v5846
  let c0_4143 : Index := 0#32
  ![0, 0, v5847.toNat, 0]
def k0_off29 (k0_t4 : Fin k0_t4_loop.trips) : Fin 4 → Nat :=
  let c0_4144 : Index := 0#32
  let c1_4145 : Index := 1#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5850 : Index := Scalar.indexCast v5846
  let c0_4146 : Index := 0#32
  ![0, 1, v5850.toNat, 0]
def k0_off30 (k0_t4 : Fin k0_t4_loop.trips) : Fin 4 → Nat :=
  let c0_4147 : Index := 0#32
  let c2_4148 : Index := 2#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5853 : Index := Scalar.indexCast v5846
  let c0_4149 : Index := 0#32
  ![0, 2, v5853.toNat, 0]
def k0_off31 (k0_t4 : Fin k0_t4_loop.trips) : Fin 4 → Nat :=
  let c0_4150 : Index := 0#32
  let c0_4151 : Index := 0#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5856 : Index := Scalar.indexCast v5846
  let c0_4152 : Index := 0#32
  ![0, 0, v5856.toNat, 0]
def k0_off32 (k0_t4 : Fin k0_t4_loop.trips) : Fin 4 → Nat :=
  let c0_4153 : Index := 0#32
  let c1_4154 : Index := 1#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5861 : Index := Scalar.indexCast v5846
  let c0_4155 : Index := 0#32
  ![0, 1, v5861.toNat, 0]
def k0_off33 (k0_t4 : Fin k0_t4_loop.trips) : Fin 4 → Nat :=
  let c0_4156 : Index := 0#32
  let c2_4157 : Index := 2#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5866 : Index := Scalar.indexCast v5846
  let c0_4158 : Index := 0#32
  ![0, 2, v5866.toNat, 0]
def k0_off34 (k0_t4 : Fin k0_t4_loop.trips) : Fin 4 → Nat :=
  let c0_4159 : Index := 0#32
  let c3_4160 : Index := 3#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5870 : Index := Scalar.indexCast v5846
  let c0_4161 : Index := 0#32
  ![0, 3, v5870.toNat, 0]
def k0_off35 (k0_t4 : Fin k0_t4_loop.trips) : Fin 4 → Nat :=
  let c0_4162 : Index := 0#32
  let c4_4163 : Index := 4#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5874 : Index := Scalar.indexCast v5846
  let c0_4164 : Index := 0#32
  ![0, 4, v5874.toNat, 0]
def k0_off36 (k0_t4 : Fin k0_t4_loop.trips) : Fin 4 → Nat :=
  let c0_4165 : Index := 0#32
  let c5_4166 : Index := 5#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v5878 : Index := Scalar.indexCast v5846
  let c0_4167 : Index := 0#32
  ![0, 5, v5878.toNat, 0]
def k0_off37 (k0_t4 : Fin k0_t4_loop.trips) : Fin 4 → Nat :=
  let c0_4285 : Index := 0#32
  let c0_4286 : Index := 0#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6077 : Index := Scalar.indexCast v5846
  let c128_4287 : Index := 128#32
  ![0, 0, v6077.toNat, 128]
def k0_off38 (k0_t4 : Fin k0_t4_loop.trips) : Fin 4 → Nat :=
  let c0_4288 : Index := 0#32
  let c1_4289 : Index := 1#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6082 : Index := Scalar.indexCast v5846
  let c128_4290 : Index := 128#32
  ![0, 1, v6082.toNat, 128]
def k0_off39 (k0_t4 : Fin k0_t4_loop.trips) : Fin 4 → Nat :=
  let c0_4291 : Index := 0#32
  let c2_4292 : Index := 2#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6087 : Index := Scalar.indexCast v5846
  let c128_4293 : Index := 128#32
  ![0, 2, v6087.toNat, 128]
def k0_off40 (k0_t4 : Fin k0_t4_loop.trips) : Fin 4 → Nat :=
  let c0_4294 : Index := 0#32
  let c3_4295 : Index := 3#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6091 : Index := Scalar.indexCast v5846
  let c128_4296 : Index := 128#32
  ![0, 3, v6091.toNat, 128]
def k0_off41 (k0_t4 : Fin k0_t4_loop.trips) : Fin 4 → Nat :=
  let c0_4297 : Index := 0#32
  let c4_4298 : Index := 4#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6095 : Index := Scalar.indexCast v5846
  let c128_4299 : Index := 128#32
  ![0, 4, v6095.toNat, 128]
def k0_off42 (k0_t4 : Fin k0_t4_loop.trips) : Fin 4 → Nat :=
  let c0_4300 : Index := 0#32
  let c5_4301 : Index := 5#32
  let c0_i32_4060 : BitVec 32 := 0#32
  let c1_i32_4062 : BitVec 32 := 1#32
  let arg21 : BitVec 32 := Scf.iv c0_i32_4060 c1_i32_4062 k0_t4
  let c8_i32 : BitVec 32 := 8#32
  let v5845 : BitVec 32 := Scalar.muli arg21 c8_i32
  let v5846 : BitVec 32 := v5845
  let v6099 : Index := Scalar.indexCast v5846
  let c128_4302 : Index := 128#32
  ![0, 5, v6099.toNat, 128]
@[reducible] def k0_t5_loop : Scf.Loop 32 :=
  let c0_i32_4137 : BitVec 32 := 0#32
  let c32_i32_4138 : BitVec 32 := 32#32
  let v5844 : BitVec 32 := Scalar.addi c0_i32_4137 c32_i32_4138
  let c1_i32_4139 : BitVec 32 := 1#32
  ⟨c0_i32_4137, v5844, c1_i32_4139⟩
def k0_mult43 (k0_t5 : Fin k0_t5_loop.trips) : BitVec 32 :=
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  v5845
def k0_off43 (k0_t5 : Fin k0_t5_loop.trips) : Fin 4 → Nat :=
  let c0_4141 : Index := 0#32
  let c0_4142 : Index := 0#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5847 : Index := Scalar.indexCast v5846
  let c0_4143 : Index := 0#32
  ![0, 0, v5847.toNat, 0]
def k0_off44 (k0_t5 : Fin k0_t5_loop.trips) : Fin 4 → Nat :=
  let c0_4144 : Index := 0#32
  let c1_4145 : Index := 1#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5850 : Index := Scalar.indexCast v5846
  let c0_4146 : Index := 0#32
  ![0, 1, v5850.toNat, 0]
def k0_off45 (k0_t5 : Fin k0_t5_loop.trips) : Fin 4 → Nat :=
  let c0_4147 : Index := 0#32
  let c2_4148 : Index := 2#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5853 : Index := Scalar.indexCast v5846
  let c0_4149 : Index := 0#32
  ![0, 2, v5853.toNat, 0]
def k0_off46 (k0_t5 : Fin k0_t5_loop.trips) : Fin 4 → Nat :=
  let c0_4150 : Index := 0#32
  let c0_4151 : Index := 0#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5856 : Index := Scalar.indexCast v5846
  let c0_4152 : Index := 0#32
  ![0, 0, v5856.toNat, 0]
def k0_off47 (k0_t5 : Fin k0_t5_loop.trips) : Fin 4 → Nat :=
  let c0_4153 : Index := 0#32
  let c1_4154 : Index := 1#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5861 : Index := Scalar.indexCast v5846
  let c0_4155 : Index := 0#32
  ![0, 1, v5861.toNat, 0]
def k0_off48 (k0_t5 : Fin k0_t5_loop.trips) : Fin 4 → Nat :=
  let c0_4156 : Index := 0#32
  let c2_4157 : Index := 2#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5866 : Index := Scalar.indexCast v5846
  let c0_4158 : Index := 0#32
  ![0, 2, v5866.toNat, 0]
def k0_off49 (k0_t5 : Fin k0_t5_loop.trips) : Fin 4 → Nat :=
  let c0_4159 : Index := 0#32
  let c3_4160 : Index := 3#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5870 : Index := Scalar.indexCast v5846
  let c0_4161 : Index := 0#32
  ![0, 3, v5870.toNat, 0]
def k0_off50 (k0_t5 : Fin k0_t5_loop.trips) : Fin 4 → Nat :=
  let c0_4162 : Index := 0#32
  let c4_4163 : Index := 4#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5874 : Index := Scalar.indexCast v5846
  let c0_4164 : Index := 0#32
  ![0, 4, v5874.toNat, 0]
def k0_off51 (k0_t5 : Fin k0_t5_loop.trips) : Fin 4 → Nat :=
  let c0_4165 : Index := 0#32
  let c5_4166 : Index := 5#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v5878 : Index := Scalar.indexCast v5846
  let c0_4167 : Index := 0#32
  ![0, 5, v5878.toNat, 0]
def k0_off52 (k0_t5 : Fin k0_t5_loop.trips) : Fin 4 → Nat :=
  let c0_4285 : Index := 0#32
  let c0_4286 : Index := 0#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6077 : Index := Scalar.indexCast v5846
  let c128_4287 : Index := 128#32
  ![0, 0, v6077.toNat, 128]
def k0_off53 (k0_t5 : Fin k0_t5_loop.trips) : Fin 4 → Nat :=
  let c0_4288 : Index := 0#32
  let c1_4289 : Index := 1#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6082 : Index := Scalar.indexCast v5846
  let c128_4290 : Index := 128#32
  ![0, 1, v6082.toNat, 128]
def k0_off54 (k0_t5 : Fin k0_t5_loop.trips) : Fin 4 → Nat :=
  let c0_4291 : Index := 0#32
  let c2_4292 : Index := 2#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6087 : Index := Scalar.indexCast v5846
  let c128_4293 : Index := 128#32
  ![0, 2, v6087.toNat, 128]
def k0_off55 (k0_t5 : Fin k0_t5_loop.trips) : Fin 4 → Nat :=
  let c0_4294 : Index := 0#32
  let c3_4295 : Index := 3#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6091 : Index := Scalar.indexCast v5846
  let c128_4296 : Index := 128#32
  ![0, 3, v6091.toNat, 128]
def k0_off56 (k0_t5 : Fin k0_t5_loop.trips) : Fin 4 → Nat :=
  let c0_4297 : Index := 0#32
  let c4_4298 : Index := 4#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6095 : Index := Scalar.indexCast v5846
  let c128_4299 : Index := 128#32
  ![0, 4, v6095.toNat, 128]
def k0_off57 (k0_t5 : Fin k0_t5_loop.trips) : Fin 4 → Nat :=
  let c0_4300 : Index := 0#32
  let c5_4301 : Index := 5#32
  let c0_i32_4137 : BitVec 32 := 0#32
  let c1_i32_4139 : BitVec 32 := 1#32
  let arg21 : BitVec 32 := Scf.iv c0_i32_4137 c1_i32_4139 k0_t5
  let c8_i32 : BitVec 32 := 8#32
  let v5845 : BitVec 32 := Scalar.muli arg21 c8_i32
  let v5846 : BitVec 32 := v5845
  let v6099 : Index := Scalar.indexCast v5846
  let c128_4302 : Index := 128#32
  ![0, 5, v6099.toNat, 128]
abbrev stage0_0 : Fin 1 → Memref sig .tc .vmem S2x3x256x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x256x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "inv_rows" => some ((1 / 1536 : ℝ) : EReal)
  | "ln_2" => some ((Real.log 2 : ℝ) : EReal)
  | "s_gain" => some ((10 * (Real.log 2)⁻¹ : ℝ) : EReal)
  | "t_gain" => some ((25 * (Real.log 2)⁻¹ : ℝ) : EReal)
  | _ => none
-- ==== ReferenceIdeal.lean ====
abbrev S2x3x256x512 : Shape := ⟨4, ![2, 3, 256, 512]⟩
abbrev S2x3x256 : Shape := ⟨3, ![2, 3, 256]⟩
abbrev S4x3x256x512 : Shape := ⟨4, ![4, 3, 256, 512]⟩
abbrev S4x3x256 : Shape := ⟨3, ![4, 3, 256]⟩
abbrev S16384x512 : Shape := ⟨2, ![16384, 512]⟩
abbrev S16384x4 : Shape := ⟨2, ![16384, 4]⟩
abbrev S16384 : Shape := ⟨1, ![16384]⟩
abbrev S2x4 : Shape := ⟨2, ![2, 4]⟩
abbrev S2x4x3x256 : Shape := ⟨4, ![2, 4, 3, 256]⟩
abbrev S128x128 : Shape := ⟨2, ![128, 128]⟩
abbrev S16384x4x128 : Shape := ⟨3, ![16384, 4, 128]⟩
abbrev S16384x4x1 : Shape := ⟨3, ![16384, 4, 1]⟩
abbrev S1536x512 : Shape := ⟨2, ![1536, 512]⟩
abbrev S1536x16384 : Shape := ⟨2, ![1536, 16384]⟩
abbrev S2x3x256x16384 : Shape := ⟨4, ![2, 3, 256, 16384]⟩
abbrev S2x3x256x1 : Shape := ⟨4, ![2, 3, 256, 1]⟩
abbrev S1x1x1x16384 : Shape := ⟨4, ![1, 1, 1, 16384]⟩
abbrev S3072x512 : Shape := ⟨2, ![3072, 512]⟩
abbrev S3072x16384 : Shape := ⟨2, ![3072, 16384]⟩
abbrev S4x3x256x16384 : Shape := ⟨4, ![4, 3, 256, 16384]⟩
abbrev S4x3x256x1 : Shape := ⟨4, ![4, 3, 256, 1]⟩
abbrev S2x1x3x256x16384 : Shape := ⟨5, ![2, 1, 3, 256, 16384]⟩
abbrev S1x4x3x256x16384 : Shape := ⟨5, ![1, 4, 3, 256, 16384]⟩
abbrev S2x4x3x256x16384 : Shape := ⟨5, ![2, 4, 3, 256, 16384]⟩

abbrev nBuf : Space → Nat
  | .hbm => 13
  | .vmem => 11
  | .smem => 0
  | _ => 0

abbrev bufTy : (tb : Table) → Fin (tcTables nBuf tb) → BufTy
  | .hbm, ⟨0, _⟩ => ⟨S2x3x256x512, .f32⟩
  | .hbm, ⟨1, _⟩ => ⟨S2x3x256, .f32⟩
  | .hbm, ⟨2, _⟩ => ⟨S4x3x256x512, .f32⟩
  | .hbm, ⟨3, _⟩ => ⟨S4x3x256, .f32⟩
  | .hbm, ⟨4, _⟩ => ⟨S16384x512, .fp8e4m3⟩
  | .hbm, ⟨5, _⟩ => ⟨S16384x4, .f32⟩
  | .hbm, ⟨6, _⟩ => ⟨S16384, .f32⟩
  | .hbm, ⟨7, _⟩ => ⟨S16384, .f32⟩
  | .hbm, ⟨8, _⟩ => ⟨S2x3x256x512, .fp8e4m3⟩
  | .hbm, ⟨9, _⟩ => ⟨S4x3x256x512, .fp8e4m3⟩
  | .hbm, ⟨10, _⟩ => ⟨S2x4, .f32⟩
  | .hbm, ⟨11, _⟩ => ⟨S2x4x3x256, .f32⟩
  | .hbm, ⟨12, _⟩ => ⟨S128x128, .f32⟩
  | .local _ .vmem, ⟨0, _⟩ => ⟨S2x3x256x512, .fp8e4m3⟩
  | .local _ .vmem, ⟨1, _⟩ => ⟨S2x3x256, .f32⟩
  | .local _ .vmem, ⟨2, _⟩ => ⟨S4x3x256x512, .fp8e4m3⟩
  | .local _ .vmem, ⟨3, _⟩ => ⟨S4x3x256, .f32⟩
  | .local _ .vmem, ⟨4, _⟩ => ⟨S16384x512, .fp8e4m3⟩
  | .local _ .vmem, ⟨5, _⟩ => ⟨S16384x4, .f32⟩
  | .local _ .vmem, ⟨6, _⟩ => ⟨S16384, .f32⟩
  | .local _ .vmem, ⟨7, _⟩ => ⟨S16384, .f32⟩
  | .local _ .vmem, ⟨8, _⟩ => ⟨S2x4, .f32⟩
  | .local _ .vmem, ⟨9, _⟩ => ⟨S2x4x3x256, .f32⟩
  | .local _ .vmem, ⟨10, _⟩ => ⟨S128x128, .f32⟩
  | _, _ => ⟨S2x3x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x3x256x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x256x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4x3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Body.lean ====
/-
  The kernel's body, written as its loops.

  The printed program is the body unrolled: 36950 statements in the main loop alone. This module writes the same program
  once more with the Python loops kept (over the crops `x`, the batch rows `b`, the column halves `j`, the row groups
  `q`, the blocks `k`), every block taking the rest of the program as its last argument. `Proof/Match.lean` checks that
  the printed program is this one; every later module reads this one.
-/
module

public import Idealize.ShloMosaic.Lib.Pipeline
public import Idealize.ShloMosaic.Lib.Scf
public import Idealize.ShloMosaic.Lib.Sig
public import Idealize.ShloMosaic.Lib.StableHlo
public import Idealize.ShloMosaic.Lib.Decide
public import Idealize.ShloMosaic.PureOps

@[expose] public section

noncomputable section

namespace Dino

open Idealize.ShloMosaic Idealize.SL.Sem

/-! ## Shapes -/

abbrev S1x1 : Shape := ⟨2, ![1, 1]⟩
abbrev S2x4 : Shape := ⟨2, ![2, 4]⟩
abbrev S4x128 : Shape := ⟨2, ![4, 128]⟩
abbrev S1x128 : Shape := ⟨2, ![1, 128]⟩
abbrev S8x128 : Shape := ⟨2, ![8, 128]⟩
abbrev S128x1 : Shape := ⟨2, ![128, 1]⟩
abbrev S128x8 : Shape := ⟨2, ![128, 8]⟩
abbrev S128 : Shape := ⟨1, ![128]⟩
abbrev S256 : Shape := ⟨1, ![256]⟩
abbrev S128x128 : Shape := ⟨2, ![128, 128]⟩
abbrev S1x512 : Shape := ⟨2, ![1, 512]⟩
abbrev S1x256 : Shape := ⟨2, ![1, 256]⟩
abbrev S8x256 : Shape := ⟨2, ![8, 256]⟩
abbrev S8x512 : Shape := ⟨2, ![8, 512]⟩
abbrev S256x512 : Shape := ⟨2, ![256, 512]⟩
abbrev S512x256 : Shape := ⟨2, ![512, 256]⟩
abbrev S256x256 : Shape := ⟨2, ![256, 256]⟩
abbrev S2x3x256x512 : Shape := ⟨4, ![2, 3, 256, 512]⟩
abbrev S2x3x256 : Shape := ⟨3, ![2, 3, 256]⟩
abbrev S4x3x256x512 : Shape := ⟨4, ![4, 3, 256, 512]⟩
abbrev S4x3x256 : Shape := ⟨3, ![4, 3, 256]⟩
abbrev S16384x512 : Shape := ⟨2, ![16384, 512]⟩
abbrev S4x16384 : Shape := ⟨2, ![4, 16384]⟩
abbrev S2x4x3x256 : Shape := ⟨4, ![2, 4, 3, 256]⟩
abbrev S6x3x512x256 : Shape := ⟨4, ![6, 3, 512, 256]⟩
abbrev S2x256x512 : Shape := ⟨3, ![2, 256, 512]⟩
abbrev S2x3x256x128 : Shape := ⟨4, ![2, 3, 256, 128]⟩
abbrev S2x6x256x256 : Shape := ⟨4, ![2, 6, 256, 256]⟩
abbrev S3x12x8x256 : Shape := ⟨4, ![3, 12, 8, 256]⟩
abbrev S3x6x8x256 : Shape := ⟨4, ![3, 6, 8, 256]⟩
abbrev S1x1x256x512 : Shape := ⟨4, ![1, 1, 256, 512]⟩
abbrev S1x1x256 : Shape := ⟨3, ![1, 1, 256]⟩
abbrev S1x1x512x256 : Shape := ⟨4, ![1, 1, 512, 256]⟩
abbrev S1x1x1x256 : Shape := ⟨4, ![1, 1, 1, 256]⟩
abbrev S1x256x512 : Shape := ⟨3, ![1, 256, 512]⟩
abbrev S1x128x128 : Shape := ⟨3, ![1, 128, 128]⟩
abbrev S1x1x128x128 : Shape := ⟨4, ![1, 1, 128, 128]⟩
abbrev S1x1x256x256 : Shape := ⟨4, ![1, 1, 256, 256]⟩
abbrev S1x1x8x128 : Shape := ⟨4, ![1, 1, 8, 128]⟩
abbrev S1x1x8x256 : Shape := ⟨4, ![1, 1, 8, 256]⟩

/-! ## Buffers -/

/-- The body's twenty references, in the order it takes them: eight inputs, three results, nine scratch buffers. -/
inductive Ref' | tc | ts | sc | ss | pc | ps | g | cen | row | pair | bc | xt | v | fac | s | acc | m | xsum | par | bct
  deriving DecidableEq

@[reducible] def Ref'.shape : Ref' → Shape
  | .tc => S2x3x256x512 | .ts => S2x3x256 | .sc => S4x3x256x512 | .ss => S4x3x256
  | .pc => S16384x512 | .ps => S4x16384 | .g => S128x128 | .cen => S128x128
  | .row => S2x4x3x256 | .pair => S2x4 | .bc => S128x128
  | .xt => S6x3x512x256 | .v => S2x256x512 | .fac => S2x3x256x128 | .s => S2x6x256x256
  | .acc => S3x12x8x256 | .m => S3x6x8x256 | .xsum => S8x512 | .par => S8x128 | .bct => S128x128

@[reducible] def Ref'.elt : Ref' → EltTy
  | .tc => .fp8e4m3 | .sc => .fp8e4m3 | .pc => .fp8e4m3 | .xt => .bf16 | .v => .bf16
  | _ => .f32

/-- The body's constants that are roundings of irrational numbers, as the program at hand reads them: the logits' factors
`log2(e) / 0.04` and `log2(e) / 0.1`, and `log(2)`. -/
class Gains (F : FTy → Type) where
  tg : F .f32
  sg : F .f32
  ln2 : F .f32

variable {nD : Nat} {τ : Topo} {sig : RefSig} {Λ : Labels} {F : FTy → Type} [FloatOps F] [Gains F]

/-- The body's programs. -/
abbrev PR (nD : Nat) (τ : Topo) (sig : RefSig) (Λ : Labels) (F : FTy → Type) (α : Type) : Type 1 :=
  Prog (TpuEff nD τ sig (Elt F) Λ .tc) α

/-- What the body is handed: a memref per reference. -/
abbrev Refs (sig : RefSig) : Type := (i : Ref') → Memref sig .tc .vmem i.shape i.elt

variable {α : Type}

/-- A block of reference `i`. -/
abbrev blk (i : Ref') (off size : Fin i.shape.rank → Nat) (inb : ∀ a, off a + size a ≤ i.shape.size a) : Rect i.shape :=
  Rect.unit (s := i.shape) off size inb

/-- Load a block, go on with what it holds. -/
def ld (B : Refs sig) (i : Ref') (off size : Fin i.shape.rank → Nat) (inb : ∀ a, off a + size a ≤ i.shape.size a)
    (pos : 0 < (⟨i.shape.rank, size⟩ : Shape).numel)
    (k : ((blk i off size inb).toLoadRect.shape.Idx → Elt F i.elt) → PR nD τ sig Λ F α) : PR nD τ sig Λ F α :=
  .op (.load (B i) (blk i off size inb).toLoadRect (View.loadsAt_vmem pos)) k

/-- Store a block, go on. -/
def st (B : Refs sig) (i : Ref') (off size : Fin i.shape.rank → Nat) (inb : ∀ a, off a + size a ≤ i.shape.size a)
    (ok : ((B i).access (blk i off size inb)).Stores Finset.univ)
    (w : (blk i off size inb).shape.Idx → Elt F i.elt) (k : PR nD τ sig Λ F α) : PR nD τ sig Λ F α :=
  .op (.store (B i) (blk i off size inb) w Finset.univ ok (.inl rfl)) fun _ => k

/-- A store to a buffer of 32-bit elements. -/
abbrev st32 (B : Refs sig) (i : Ref') (off size : Fin i.shape.rank → Nat) (inb : ∀ a, off a + size a ≤ i.shape.size a)
    (pos : 0 < (⟨i.shape.rank, size⟩ : Shape).numel) (he : i.elt.bits = 32)
    (w : (blk i off size inb).shape.Idx → Elt F i.elt) (k : PR nD τ sig Λ F α) : PR nD τ sig Λ F α :=
  st B i off size inb (View.stores_vmem_bits_univ pos he) w k

/-- A store of packed rows. -/
abbrev stP (B : Refs sig) (hB : ∀ i, (B i).IsWhole) (i : Ref') (off size : Fin i.shape.rank → Nat)
    (inb : ∀ a, off a + size a ≤ i.shape.size a) (pos : 0 < (⟨i.shape.rank, size⟩ : Shape).numel)
    (hr : (blk i off size inb).PackedRows i.elt.packing)
    (w : (blk i off size inb).shape.Idx → Elt F i.elt) (k : PR nD τ sig Λ F α) : PR nD τ sig Λ F α :=
  st B i off size inb (View.stores_vmem pos ((hB i).storeExact_slice rfl _ hr) (fun _ => rfl)) w k

/-- Do `f` for `i, i + 1, …, N - 1`, handing a value on. -/
def rep {σ : Type} {N : Nat} (f : Fin N → σ → (σ → PR nD τ sig Λ F α) → PR nD τ sig Λ F α) :
    (n i : Nat) → i + n = N → σ → (σ → PR nD τ sig Λ F α) → PR nD τ sig Λ F α
  | 0, _, _, a, k => k a
  | n + 1, i, h, a, k => f ⟨i, by omega⟩ a fun a' => rep f n (i + 1) (by omega) a' k

/-- The loop `for i in range(N)` with a value handed on, -/
abbrev loop {σ : Type} (N : Nat) (a : σ) (f : Fin N → σ → (σ → PR nD τ sig Λ F α) → PR nD τ sig Λ F α)
    (k : σ → PR nD τ sig Λ F α) : PR nD τ sig Λ F α := rep f N 0 (Nat.zero_add N) a k

/-- and without one. -/
abbrev each (N : Nat) (f : Fin N → PR nD τ sig Λ F α → PR nD τ sig Λ F α) (k : PR nD τ sig Λ F α) :
    PR nD τ sig Λ F α := loop N () (fun i _ k => f i (k ())) fun _ => k

/-! ## Side conditions -/

/-- Every shape loaded or stored has an element. -/
theorem inb2 {d s : Fin 2 → Nat} {o0 o1 : Nat} (h0 : o0 + s 0 ≤ d 0) (h1 : o1 + s 1 ≤ d 1) :
    ∀ a, (![o0, o1] : Fin 2 → Nat) a + s a ≤ d a := by
  intro a; fin_cases a <;> assumption

theorem inb3 {d s : Fin 3 → Nat} {o0 o1 o2 : Nat} (h0 : o0 + s 0 ≤ d 0) (h1 : o1 + s 1 ≤ d 1) (h2 : o2 + s 2 ≤ d 2) :
    ∀ a, (![o0, o1, o2] : Fin 3 → Nat) a + s a ≤ d a := by
  intro a; fin_cases a <;> assumption

theorem inb4 {d s : Fin 4 → Nat} {o0 o1 o2 o3 : Nat} (h0 : o0 + s 0 ≤ d 0) (h1 : o1 + s 1 ≤ d 1) (h2 : o2 + s 2 ≤ d 2)
    (h3 : o3 + s 3 ≤ d 3) : ∀ a, (![o0, o1, o2, o3] : Fin 4 → Nat) a + s a ≤ d a := by
  intro a; fin_cases a <;> assumption

theorem inb_acc (b : Fin 3) (a : Fin 12) (j : Fin 2) : ∀ x, (![b, a, 0, 128 * j] : Fin 4 → Nat) x + S1x1x8x128.size x ≤ S3x12x8x256.size x :=
  inb4 (by simp; omega) (by simp; omega) (by simp) (by simp; omega)
theorem inb_fac (sl : Fin 2) (f : Fin 3) (q : Fin 32) : ∀ x, (![sl, f, 8 * q, 0] : Fin 4 → Nat) x + S1x1x8x128.size x ≤ S2x3x256x128.size x :=
  inb4 (by simp; omega) (by simp; omega) (by simp; omega) (by simp)
theorem inb_s (bf : Fin 2) (x : Fin 6) (q : Fin 32) (j : Fin 2) : ∀ a, (![bf, x, 8 * q, 128 * j] : Fin 4 → Nat) a + S1x1x8x128.size a ≤ S2x6x256x256.size a :=
  inb4 (by simp; omega) (by simp; omega) (by simp; omega) (by simp; omega)
theorem inb_sFull (bf : Fin 2) (x : Fin 6) : ∀ a, (![bf, x, 0, 0] : Fin 4 → Nat) a + S1x1x256x256.size a ≤ S2x6x256x256.size a :=
  inb4 (by simp; omega) (by simp; omega) (by simp) (by simp)
theorem inb_v (sl : Fin 2) : ∀ a, (![sl, 0, 0] : Fin 3 → Nat) a + S1x256x512.size a ≤ S2x256x512.size a :=
  inb3 (by simp; omega) (by simp) (by simp)
theorem inb_xt (x : Fin 6) (b : Fin 3) : ∀ a, (![x, b, 0, 0] : Fin 4 → Nat) a + S1x1x512x256.size a ≤ S6x3x512x256.size a :=
  inb4 (by simp; omega) (by simp; omega) (by simp) (by simp)

/-! ## The products of one chunk -/

def dotS : DotDims S256x512 S512x256 S256x256 where
  lhsContracting := [1]
  rhsContracting := [0]
  lhsNonContracting := [0]
  rhsNonContracting := [1]
  lhsBatch := []
  rhsBatch := []
  wf := by decide

/-- `s[buf, x] = v[slot] @ xt[x, b]` for one crop. -/
def logit (B : Refs sig) (slot : Fin 2) (b : Fin 3) (buf : Fin 2) (x : Fin 6) (k : PR nD τ sig Λ F α) : PR nD τ sig Λ F α :=
  ld B .v ![slot, 0, 0] S1x256x512.size (inb_v slot) (by decide) fun v =>
  ld B .xt ![x, b, 0, 0] S1x1x512x256.size (inb_xt x b) (by decide) fun xt =>
  ld B .s ![buf, x, 0, 0] S1x1x256x256.size (inb_sFull buf x) (by decide) fun _ =>
  st32 B .s ![buf, x, 0, 0] S1x1x256x256.size (inb_sFull buf x) (by decide) rfl
    (shapeCast S1x1x256x256 (matmul dotS none (shapeCast (s := S1x256x512) S256x512 v (by decide))
      (shapeCast (s := S1x1x512x256) S512x256 xt (by decide)) (constant S256x256 .f32 0x00000000#32)) (by decide)) k

/-- The same for `n` crops from crop `i` on, -/
def logitsOf (B : Refs sig) (slot : Fin 2) (b : Fin 3) (buf : Fin 2) :
    (n i : Nat) → i + n ≤ 6 → PR nD τ sig Λ F α → PR nD τ sig Λ F α
  | 0, _, _, k => k
  | n + 1, i, h, k => logit B slot b buf ⟨i, by omega⟩ (logitsOf B slot b buf n (i + 1) (by omega) k)

/-- and for all six. -/
def logits (B : Refs sig) (slot : Fin 2) (b : Fin 3) (buf : Fin 2) (k : PR nD τ sig Λ F α) : PR nD τ sig Λ F α :=
  logitsOf B slot b buf 6 0 (by decide) k

/-! ## Accumulating one chunk's exponentials -/

/-- The twelve accumulators' `[8, 128]` blocks at one column half. -/
structure Acc (F : FTy → Type) where
  (a0 a1 a2 a3 a4 a5 a6 a7 a8 a9 a10 a11 : FVec F S8x128 .f32)

/-- A block of an accumulator buffer, as an `[8, 128]` array, and back. -/
abbrev flat (w : FVec F S1x1x8x128 .f32) : FVec F S8x128 .f32 := shapeCast S8x128 w (by decide)
abbrev lift8 (w : FVec F S8x128 .f32) : FVec F S1x1x8x128 .f32 := shapeCast S1x1x8x128 w (by decide)

def ldAcc (B : Refs sig) (b : Fin 3) (j : Fin 2) (a : Fin 12) (k : FVec F S8x128 .f32 → PR nD τ sig Λ F α) : PR nD τ sig Λ F α :=
  ld B .acc ![b, a, 0, 128 * j] S1x1x8x128.size (inb_acc b a j) (by decide) fun w => k (flat (w : FVec F S1x1x8x128 .f32))

def stAcc (B : Refs sig) (b : Fin 3) (j : Fin 2) (a : Fin 12) (w : FVec F S8x128 .f32) (k : PR nD τ sig Λ F α) : PR nD τ sig Λ F α :=
  ld B .acc ![b, a, 0, 128 * j] S1x1x8x128.size (inb_acc b a j) (by decide) fun _ =>
  st32 B .acc ![b, a, 0, 128 * j] S1x1x8x128.size (inb_acc b a j) (by decide) rfl (lift8 w) k

def ldFac (B : Refs sig) (slot : Fin 2) (q : Fin 32) (f : Fin 3) (k : FVec F S8x128 .f32 → PR nD τ sig Λ F α) : PR nD τ sig Λ F α :=
  ld B .fac ![slot, f, 8 * q, 0] S1x1x8x128.size (inb_fac slot f q) (by decide) fun w => k (flat (w : FVec F S1x1x8x128 .f32))

def ldS (B : Refs sig) (buf : Fin 2) (q : Fin 32) (j : Fin 2) (x : Fin 6) (k : FVec F S8x128 .f32 → PR nD τ sig Λ F α) : PR nD τ sig Λ F α :=
  ld B .s ![buf, x, 8 * q, 128 * j] S1x1x8x128.size (inb_s buf x q j) (by decide) fun w => k (flat (w : FVec F S1x1x8x128 .f32))

/-- One group of eight rows: the six scaled logits, their exponentials, the twelve sums. -/
def accRows (B : Refs sig) (slot : Fin 2) (buf : Fin 2) (j : Fin 2) (q : Fin 32) (A : Acc F) (k : Acc F → PR nD τ sig Λ F α) :
    PR nD τ sig Λ F α :=
  ldFac B slot q 0 fun ft => ldFac B slot q 1 fun fs => ldFac B slot q 2 fun fc =>
  ldS B buf q j 0 fun s0 => ldS B buf q j 1 fun s1 => ldS B buf q j 2 fun s2 =>
  ldS B buf q j 3 fun s3 => ldS B buf q j 4 fun s4 => ldS B buf q j 5 fun s5 =>
  let z0 := subf (mulf s0 ft) fc
  let z1 := subf (mulf s1 ft) fc
  let z2 := mulf s2 fs
  let z3 := mulf s3 fs
  let z4 := mulf s4 fs
  let z5 := mulf s5 fs
  k { a0 := addf A.a0 (exp2 z0), a1 := addf A.a1 (exp2 z1), a2 := addf A.a2 (exp2 z2)
      a3 := addf A.a3 (exp2 z3), a4 := addf A.a4 (exp2 z4), a5 := addf A.a5 (exp2 z5)
      a6 := addf A.a6 (mulf (exp2 z0) z3), a7 := addf A.a7 (mulf (exp2 z0) z4), a8 := addf A.a8 (mulf (exp2 z0) z5)
      a9 := addf A.a9 (mulf (exp2 z1) z2), a10 := addf A.a10 (mulf (exp2 z1) z4), a11 := addf A.a11 (mulf (exp2 z1) z5) }

/-- One column half. -/
def accHalf (B : Refs sig) (slot : Fin 2) (b : Fin 3) (buf : Fin 2) (keep : BitVec 1) (j : Fin 2) (k : PR nD τ sig Λ F α) :
    PR nD τ sig Λ F α :=
  ldAcc B b j 0 fun o0 => ldAcc B b j 1 fun o1 => ldAcc B b j 2 fun o2 => ldAcc B b j 3 fun o3 =>
  ldAcc B b j 4 fun o4 => ldAcc B b j 5 fun o5 => ldAcc B b j 6 fun o6 => ldAcc B b j 7 fun o7 =>
  ldAcc B b j 8 fun o8 => ldAcc B b j 9 fun o9 => ldAcc B b j 10 fun o10 => ldAcc B b j 11 fun o11 =>
  loop 32 (⟨o0, o1, o2, o3, o4, o5, o6, o7, o8, o9, o10, o11⟩ : Acc F) (fun q A k => accRows B slot buf j q A k) fun A =>
  stAcc B b j 0 (Scalar.select keep A.a0 o0) <| stAcc B b j 1 (Scalar.select keep A.a1 o1) <|
  stAcc B b j 2 (Scalar.select keep A.a2 o2) <| stAcc B b j 3 (Scalar.select keep A.a3 o3) <|
  stAcc B b j 4 (Scalar.select keep A.a4 o4) <| stAcc B b j 5 (Scalar.select keep A.a5 o5) <|
  stAcc B b j 6 (Scalar.select keep A.a6 o6) <| stAcc B b j 7 (Scalar.select keep A.a7 o7) <|
  stAcc B b j 8 (Scalar.select keep A.a8 o8) <| stAcc B b j 9 (Scalar.select keep A.a9 o9) <|
  stAcc B b j 10 (Scalar.select keep A.a10 o10) <| stAcc B b j 11 (Scalar.select keep A.a11 o11) k

/-- `accumulate(slot, b, buf, keep)`. -/
def accumulate (B : Refs sig) (slot : Fin 2) (b : Fin 3) (buf : Fin 2) (keep : BitVec 1) (k : PR nD τ sig Λ F α) :
    PR nD τ sig Λ F α :=
  accHalf B slot b buf keep 0 <| accHalf B slot b buf keep 1 k

/-! ## Preparing one chunk of prototypes -/

/-- The row of `g` and `center` that group `r` of 128 prototypes reads, and the row its codes start at. -/
abbrev rowOf (r : BitVec 32) : Nat := (Scalar.indexCast r).toNat
abbrev row128 (r : BitVec 32) : Nat := (Scalar.indexCast (Scalar.muli r 128#32)).toNat

/-- A group number in range: its rows lie inside the arrays. -/
def Group (r : BitVec 32) : Prop := rowOf r + 1 ≤ 128 ∧ row128 r + 128 ≤ 16384

theorem inb_ps {r : BitVec 32} (h : Group r) : ∀ a, (![0, row128 r] : Fin 2 → Nat) a + S4x128.size a ≤ S4x16384.size a :=
  inb2 (by simp) h.2
theorem inb_row {r : BitVec 32} (h : Group r) : ∀ a, (![rowOf r, 0] : Fin 2 → Nat) a + S1x128.size a ≤ S128x128.size a :=
  inb2 h.1 (by simp)
theorem inb_pc {r : BitVec 32} (h : Group r) (kk : Fin 4) : ∀ a, (![row128 r, 128 * kk] : Fin 2 → Nat) a + S128x128.size a ≤ S16384x512.size a :=
  inb2 h.2 (by simp; omega)
theorem inb_vBlk (sl : Fin 2) (h : Fin 2) (kk : Fin 4) : ∀ a, (![sl, 128 * h, 128 * kk] : Fin 3 → Nat) a + S1x128x128.size a ≤ S2x256x512.size a :=
  inb3 (by simp; omega) (by simp; omega) (by simp; omega)
theorem inb_facBlk (sl : Fin 2) (f : Fin 3) (h : Fin 2) : ∀ a, (![sl, f, 128 * h, 0] : Fin 4 → Nat) a + S1x1x128x128.size a ≤ S2x3x256x128.size a :=
  inb4 (by simp; omega) (by simp; omega) (by simp; omega) (by simp)
theorem packed_v (sl : Fin 2) (h : Fin 2) (kk : Fin 4) :
    (blk .v ![sl, 128 * h, 128 * kk] S1x128x128.size (inb_vBlk sl h kk)).PackedRows (EltTy.packing .bf16) := by
  fin_cases sl <;> fin_cases h <;> fin_cases kk <;> decide

/-- Column `kk` of the group's parameters. -/
abbrev parCol (par : FVec F S128x8 .f32) (kk : Nat) (h : S128x8.Slices ![0, kk] S128x1) : FVec F S128x1 .f32 :=
  extractStridedSlice S128x1 ![0, kk] par h

theorem slices_par (kk : Fin 6) : S128x8.Slices ![0, (kk : Nat)] S128x1 := by fin_cases kk <;> decide
theorem slices_xs (kk : Fin 4) : S1x512.Slices ![0, 128 * (kk : Nat)] S1x128 := by fin_cases kk <;> decide

/-- One block of 128 columns of the scaled codes, -/
abbrev vBlock (codes : FVec F S128x128 .fp8e4m3) (par : FVec F S128x8 .f32) (kk : Fin 4) : FVec F S128x128 .bf16 :=
  mulf (extf .bf16 codes (by decide))
    (truncf .bf16 (broadcastTo S128x128 (shapeCast S128x1 (parCol par kk (slices_par ⟨kk, by omega⟩)) (by decide)) (by decide)) (by decide))

/-- its squares' sum so far, -/
abbrev n2Step (n2 : FVec F S128x128 .f32) (v : FVec F S128x128 .bf16) : FVec F S128x128 .f32 :=
  addf n2 (mulf (extf .f32 v (by decide)) (extf .f32 v (by decide)))

/-- and its product with the summed features so far. -/
abbrev tmStep (xs : FVec F S1x512 .f32) (kk : Fin 4) (tm : FVec F S128x128 .f32) (v : FVec F S128x128 .bf16) : FVec F S128x128 .f32 :=
  addf tm (mulf (extf .f32 v (by decide))
    (broadcastTo S128x128 (extractStridedSlice S1x128 ![0, 128 * (kk : Nat)] xs (slices_xs kk)) (by decide)))

/-- The row sums of an array. -/
abbrev rowSum (x : FVec F S128x128 .f32) : FVec F S128x1 .f32 :=
  shapeCast S128x1 (multiReduction .add [1] S128 x 0x00000000#32 (by decide) (.inl rfl) rfl) (by decide)

/-- The weights `g / norm` of the group. -/
abbrev weight (par : FVec F S128x8 .f32) (n2 : FVec F S128x128 .f32) : FVec F S128x1 .f32 :=
  divf (parCol par 4 (by decide))
    (select (cmpf .ogt (sqrt (rowSum n2)) (broadcast S128x1 (Scalar.ofBits .f32 0x00000000#32))) (sqrt (rowSum n2))
      (broadcast S128x1 (Scalar.ofBits .f32 0x3F800000#32)))

/-- A column spread over 128 lanes. -/
abbrev spread (x : FVec F S128x1 .f32) : FVec F S128x128 .f32 :=
  broadcastTo S128x128 (shapeCast S128x1 x (by decide)) (by decide)

def stFac (B : Refs sig) (slot : Fin 2) (h : Fin 2) (f : Fin 3) (w : FVec F S128x128 .f32) (k : PR nD τ sig Λ F α) : PR nD τ sig Λ F α :=
  ld B .fac ![slot, f, 128 * h, 0] S1x1x128x128.size (inb_facBlk slot f h) (by decide) fun _ =>
  st32 B .fac ![slot, f, 128 * h, 0] S1x1x128x128.size (inb_facBlk slot f h) (by decide) rfl
    (shapeCast (s := S128x128) S1x1x128x128 w (by decide)) k

/-- What is gathered over the four column blocks of a group. -/
structure Sums (F : FTy → Type) where
  (n2 tm : FVec F S128x128 .f32)

/-- The scaled codes of one block of 128 columns. -/
def vCol (B : Refs sig) (hB : ∀ i, (B i).IsWhole) (slot : Fin 2) (h : Fin 2) (kk : Fin 4) (r : BitVec 32) (hr : Group r) (par : FVec F S128x8 .f32)
    (k : FVec F S128x128 .bf16 → PR nD τ sig Λ F α) : PR nD τ sig Λ F α :=
  ld B .pc ![row128 r, 128 * (kk : Nat)] S128x128.size (inb_pc hr kk) (by decide) fun codes =>
  ld B .v ![slot, 128 * h, 128 * (kk : Nat)] S1x128x128.size (inb_vBlk slot h kk) (by decide) fun _ =>
  stP B hB .v ![slot, 128 * h, 128 * (kk : Nat)] S1x128x128.size (inb_vBlk slot h kk) (by decide) (packed_v slot h kk)
    (shapeCast (s := S128x128) S1x128x128 (vBlock (codes : FVec F S128x128 .fp8e4m3) par kk) (by decide)) <|
  k (vBlock (codes : FVec F S128x128 .fp8e4m3) par kk)

/-- One group `r` of 128 prototypes, half `h` of chunk buffer `slot`. -/
def prepHalf (B : Refs sig) (hB : ∀ i, (B i).IsWhole) (slot : Fin 2) (h : Fin 2) (r : BitVec 32) (hr : Group r) (k : PR nD τ sig Λ F α) :
    PR nD τ sig Λ F α :=
  ld B .ps ![0, row128 r] S4x128.size (inb_ps hr) (by decide) fun ps =>
  ld B .par ![0, 0] S4x128.size (by decide) (by decide) fun _ =>
  st32 B .par ![0, 0] S4x128.size (by decide) (by decide) rfl (shapeCast (s := S4x128) S4x128 (shapeCast (s := S4x128) S4x128 ps (by decide)) (by decide)) <|
  ld B .g ![rowOf r, 0] S1x128.size (inb_row hr) (by decide) fun g =>
  ld B .par ![4, 0] S1x128.size (by decide) (by decide) fun _ =>
  st32 B .par ![4, 0] S1x128.size (by decide) (by decide) rfl (shapeCast (s := S1x128) S1x128 (shapeCast (s := S1x128) S1x128 g (by decide)) (by decide)) <|
  ld B .cen ![rowOf r, 0] S1x128.size (inb_row hr) (by decide) fun cen =>
  ld B .par ![5, 0] S1x128.size (by decide) (by decide) fun _ =>
  st32 B .par ![5, 0] S1x128.size (by decide) (by decide) rfl (shapeCast (s := S1x128) S1x128 (shapeCast (s := S1x128) S1x128 cen (by decide)) (by decide)) <|
  ld B .par ![0, 0] S8x128.size (by decide) (by decide) fun par8 =>
  let par : FVec F S128x8 .f32 := transpose (s := S8x128) S128x8 [1, 0] par8 (by decide)
  ld B .xsum ![0, 0] S1x512.size (by decide) (by decide) fun xs =>
  loop 4 (⟨broadcast S128x128 (Scalar.ofBits .f32 0x00000000#32), broadcast S128x128 (Scalar.ofBits .f32 0x00000000#32)⟩ : Sums F)
    (fun kk A k =>
      vCol B hB slot h kk r hr par fun v => k ⟨n2Step A.n2 v, tmStep (xs : FVec F S1x512 .f32) kk A.tm v⟩)
  fun A =>
  ld B .bct ![0, 0] S128x128.size (by decide) (by decide) fun old =>
  ld B .bct ![0, 0] S128x128.size (by decide) (by decide) fun _ =>
  st32 B .bct ![0, 0] S128x128.size (by decide) (by decide) rfl
    (shapeCast (s := S128x128) S128x128
      (select (cmpi .eq (iota .tc S128x128 32 [1] (by decide)) (broadcast S128x128 r))
        (spread (mulf (rowSum A.tm) (weight par A.n2))) (old : FVec F S128x128 .f32)) (by decide)) <|
  stFac B slot h 0 (spread (mulf (weight par A.n2) (broadcast S128x1 ((Gains.tg : F .f32))))) <|
  stFac B slot h 1 (spread (mulf (weight par A.n2) (broadcast S128x1 ((Gains.sg : F .f32))))) <|
  stFac B slot h 2 (spread (mulf (parCol par 5 (by decide)) (broadcast S128x1 ((Gains.tg : F .f32))))) k

/-- `prep(c, slot)`, the groups `2 * c` and `2 * c + 1`. -/
def prep (B : Refs sig) (hB : ∀ i, (B i).IsWhole) (slot : Fin 2) (r0 r1 : BitVec 32) (h0 : Group r0) (h1 : Group r1) (k : PR nD τ sig Λ F α) :
    PR nD τ sig Λ F α :=
  prepHalf B hB slot 0 r0 h0 <| prepHalf B hB slot 1 r1 h1 k

/-! ## The main loop's body -/

/-- The group `2 * min(2 * t + half + 1, 63) + h` that trip `t` prepares. -/
def nextGroup (t : BitVec 32) (half h : BitVec 32) : BitVec 32 :=
  Scalar.addi (Scalar.muli (Scalar.minsi (Scalar.addi (Scalar.addi (Scalar.muli t 2#32) half) 1#32) 63#32) 2#32) h

/-- The half `half` of a trip: three rounds of `logits` and `accumulate`, the next chunk prepared in the second. -/
def halfTrip (B : Refs sig) (hB : ∀ i, (B i).IsWhole) (t : BitVec 32) (half : Fin 2) (halfW : BitVec 32)
    (h0 : Group (nextGroup t halfW 0#32)) (h1 : Group (nextGroup t halfW 1#32)) (k : PR nD τ sig Λ F α) : PR nD τ sig Λ F α :=
  logits B half 0 half <|
  accumulate B (1 - half) 2 (1 - half) (Scalar.cmpi .sgt (Scalar.addi (Scalar.muli t 2#32) halfW) 0#32) <|
  logits B half 1 (1 - half) <|
  accumulate B half 0 half 1#1 <|
  prep B hB (1 - half) (nextGroup t halfW 0#32) (nextGroup t halfW 1#32) h0 h1 <|
  logits B half 2 half <|
  accumulate B half 1 (1 - half) 1#1 k

/-- One trip of the main loop. -/
def trip (B : Refs sig) (hB : ∀ i, (B i).IsWhole) (t : BitVec 32) (h : ∀ half h : Fin 2, Group (nextGroup t (BitVec.ofNat 32 half) (BitVec.ofNat 32 h)))
    (k : PR nD τ sig Λ F α) : PR nD τ sig Λ F α :=
  halfTrip B hB t 0 0#32 (h 0 0) (h 0 1) <| halfTrip B hB t 1 1#32 (h 1 0) (h 1 1) k

end Dino
-- ==== Proof.Whole.lean ====
/-
  The rest of the kernel's body: the buffers' first contents, the features, the losses read off the accumulators, the
  second pass with running maxima, and the whole.
-/
module

public import proofs.«01_k».proof.Proof.Body

@[expose] public section

noncomputable section

namespace Dino

open Idealize.ShloMosaic Idealize.SL.Sem

abbrev S1 : Shape := ⟨1, ![1]⟩
abbrev S1x1x1 : Shape := ⟨3, ![1, 1, 1]⟩

variable {nD : Nat} {τ : Topo} {sig : RefSig} {Λ : Labels} {F : FTy → Type} [FloatOps F] [Gains F] {α : Type}

/-! ## First contents -/

/-- Store one number everywhere in a buffer of shape `s`. -/
def fill2 (B : Refs sig) (i : Ref') (size : Fin i.shape.rank → Nat) (off : Fin i.shape.rank → Nat)
    (inb : ∀ a, off a + size a ≤ i.shape.size a) (pos : 0 < (⟨i.shape.rank, size⟩ : Shape).numel) (hb : i.elt.bits = 32)
    (w : (blk i off size inb).shape.Idx → Elt F i.elt) (k : PR nD τ sig Λ F α) : PR nD τ sig Λ F α :=
  ld B i off size inb pos fun _ => st32 B i off size inb pos hb w k

def initAll (B : Refs sig) (k : PR nD τ sig Λ F α) : PR nD τ sig Λ F α :=
  fill2 B .par S8x128.size ![0, 0] (by decide) (by decide) rfl
    (shapeCast (s := S8x128) S8x128 (broadcast S8x128 (Scalar.ofBits .f32 0x00000000#32)) (by decide)) <|
  fill2 B .bct S128x128.size ![0, 0] (by decide) (by decide) rfl
    (shapeCast (s := S128x128) S128x128 (broadcast S128x128 (Scalar.ofBits .f32 0x00000000#32)) (by decide)) <|
  fill2 B .acc S3x12x8x256.size ![0, 0, 0, 0] (by decide) (by decide) rfl
    (shapeCast (s := S3x12x8x256) S3x12x8x256 (broadcast S3x12x8x256 (Scalar.ofBits .f32 0x00000000#32)) (by decide)) <|
  fill2 B .m S3x6x8x256.size ![0, 0, 0, 0] (by decide) (by decide) rfl
    (shapeCast (s := S3x6x8x256) S3x6x8x256 (broadcast S3x6x8x256 (Scalar.ofBits .f32 0x00000000#32)) (by decide)) <|
  fill2 B .s S2x6x256x256.size ![0, 0, 0, 0] (by decide) (by decide) rfl
    (shapeCast (s := S2x6x256x256) S2x6x256x256 (broadcast S2x6x256x256 (Scalar.ofBits .f32 0x00000000#32)) (by decide)) <|
  fill2 B .fac S2x3x256x128.size ![0, 0, 0, 0] (by decide) (by decide) rfl
    (shapeCast (s := S2x3x256x128) S2x3x256x128 (broadcast S2x3x256x128 (Scalar.ofBits .f32 0x00000000#32)) (by decide)) k

/-! ## The features -/

theorem inb_tc (x : Fin 2) (b : Fin 3) : ∀ a, (![x, b, 0, 0] : Fin 4 → Nat) a + S1x1x256x512.size a ≤ S2x3x256x512.size a :=
  inb4 (by simp; omega) (by simp; omega) (by simp) (by simp)
theorem inb_ts (x : Fin 2) (b : Fin 3) : ∀ a, (![x, b, 0] : Fin 3 → Nat) a + S1x1x256.size a ≤ S2x3x256.size a :=
  inb3 (by simp; omega) (by simp; omega) (by simp)
theorem inb_sc (x : Fin 4) (b : Fin 3) : ∀ a, (![x, b, 0, 0] : Fin 4 → Nat) a + S1x1x256x512.size a ≤ S4x3x256x512.size a :=
  inb4 (by simp; omega) (by simp; omega) (by simp) (by simp)
theorem inb_ss (x : Fin 4) (b : Fin 3) : ∀ a, (![x, b, 0] : Fin 3 → Nat) a + S1x1x256.size a ≤ S4x3x256.size a :=
  inb3 (by simp; omega) (by simp; omega) (by simp)
theorem packed_xt (x : Fin 6) (b : Fin 3) :
    (blk .xt ![x, b, 0, 0] S1x1x512x256.size (inb_xt x b)).PackedRows (EltTy.packing .bf16) := by
  fin_cases x <;> fin_cases b <;> decide

def dotX : DotDims S8x256 S256x512 S8x512 where
  lhsContracting := [1]
  rhsContracting := [0]
  lhsNonContracting := [0]
  rhsNonContracting := [1]
  lhsBatch := []
  rhsBatch := []
  wf := by decide

abbrev codesB (codes : FVec F S1x1x256x512 .fp8e4m3) : FVec F S256x512 .bf16 :=
  extf .bf16 (shapeCast (s := S1x1x256x512) S256x512 codes (by decide)) (by decide)
abbrev scaleB (scale : FVec F S1x1x256 .f32) : FVec F S1x256 .bf16 :=
  truncf .bf16 (shapeCast (s := S1x1x256) S1x256 scale (by decide)) (by decide)

/-- Store crop `x`'s features of batch row `b`, transposed and scaled. -/
def putXt (B : Refs sig) (hB : ∀ i, (B i).IsWhole) (x : Fin 6) (b : Fin 3) (codes : FVec F S256x512 .bf16)
    (scale : FVec F S1x256 .bf16) (k : PR nD τ sig Λ F α) : PR nD τ sig Λ F α :=
  ld B .xt ![x, b, 0, 0] S1x1x512x256.size (inb_xt x b) (by decide) fun _ =>
  stP B hB .xt ![x, b, 0, 0] S1x1x512x256.size (inb_xt x b) (by decide) (packed_xt x b)
    (shapeCast (s := S512x256) S1x1x512x256 (mulf (transpose (s := S256x512) S512x256 [1, 0] codes (by decide))
      (broadcastTo (s := S1x256) S512x256 scale (by decide))) (by decide)) k

/-- The sum of the teacher's scaled features so far, eight equal rows. -/
abbrev xsStep (codes : FVec F S256x512 .bf16) (scale : FVec F S1x256 .bf16) (xs : FVec F S8x512 .f32) : FVec F S8x512 .f32 :=
  addf xs (matmul dotX none (broadcastTo (s := S1x256) S8x256 (shapeCast (s := S1x256) S1x256 scale (by decide)) (by decide))
    codes (constant S8x512 .f32 0x00000000#32))

def teacherCrop (B : Refs sig) (hB : ∀ i, (B i).IsWhole) (x : Fin 2) (b : Fin 3) (xs : FVec F S8x512 .f32)
    (k : FVec F S8x512 .f32 → PR nD τ sig Λ F α) : PR nD τ sig Λ F α :=
  ld B .tc ![x, b, 0, 0] S1x1x256x512.size (inb_tc x b) (by decide) fun codes =>
  ld B .ts ![x, b, 0] S1x1x256.size (inb_ts x b) (by decide) fun scale =>
  putXt B hB ⟨x, by omega⟩ b (codesB codes) (scaleB scale) <|
  k (xsStep (codesB codes) (scaleB scale) xs)

def studentCrop (B : Refs sig) (hB : ∀ i, (B i).IsWhole) (x : Fin 4) (b : Fin 3) (k : PR nD τ sig Λ F α) : PR nD τ sig Λ F α :=
  ld B .sc ![x, b, 0, 0] S1x1x256x512.size (inb_sc x b) (by decide) fun codes =>
  ld B .ss ![x, b, 0] S1x1x256.size (inb_ss x b) (by decide) fun scale =>
  putXt B hB ⟨x + 2, by omega⟩ b (codesB codes) (scaleB scale) k

def loadFeatures (B : Refs sig) (hB : ∀ i, (B i).IsWhole) (inv : F .f32) (k : PR nD τ sig Λ F α) : PR nD τ sig Λ F α :=
  loop 2 (broadcast S8x512 (Scalar.ofBits .f32 0x00000000#32)) (fun x xs k => loop 3 xs (fun b xs k => teacherCrop B hB x b xs k) k) fun xs =>
  each 4 (fun x k => each 3 (fun b k => studentCrop B hB x b k) k) <|
  fill2 B .xsum S8x512.size ![0, 0] (by decide) (by decide) rfl
    (shapeCast (s := S8x512) S8x512 (mulf xs (broadcast S8x512 inv)) (by decide)) k

/-! ## The losses -/

theorem inb_m8 (b : Fin 3) (x : Fin 6) : ∀ a, (![b, x, 0, 0] : Fin 4 → Nat) a + S1x1x8x256.size a ≤ S3x6x8x256.size a :=
  inb4 (by simp; omega) (by simp; omega) (by simp) (by simp)
theorem inb_acc8 (b : Fin 3) (x : Fin 12) : ∀ a, (![b, x, 0, 0] : Fin 4 → Nat) a + S1x1x8x256.size a ≤ S3x12x8x256.size a :=
  inb4 (by simp; omega) (by simp; omega) (by simp) (by simp)
theorem inb_rowLoss (i : Fin 2) (v : Fin 4) (b : Fin 3) : ∀ a, (![i, v, b, 0] : Fin 4 → Nat) a + S1x1x1x256.size a ≤ S2x4x3x256.size a :=
  inb4 (by simp; omega) (by simp; omega) (by simp; omega) (by simp)

abbrev colMax (m : FVec F S8x256 .f32) : FVec F S1x256 .f32 :=
  shapeCast S1x256 (multiReduction .maximumf [0] S256 m 0xFF800000#32 (by decide) (.inl rfl) rfl) (by decide)
abbrev colSum (m : FVec F S8x256 .f32) : FVec F S1x256 .f32 :=
  shapeCast S1x256 (multiReduction .add [0] S256 m 0x00000000#32 (by decide) (.inl rfl) rfl) (by decide)

/-- One crop's maximum, shift factors and total. -/
structure Tot (F : FTy → Type) where
  (mx : FVec F S1x256 .f32) (sh : FVec F S8x256 .f32) (tot : FVec F S1x256 .f32)

abbrev flat256 (w : FVec F S1x1x8x256 .f32) : FVec F S8x256 .f32 := shapeCast S8x256 w (by decide)

abbrev shiftOf (m : FVec F S8x256 .f32) : FVec F S8x256 .f32 :=
  exp2 (subf m (broadcastTo (s := S1x256) S8x256 (colMax m) (by decide)))

/-- Read a crop's total, narrowing what is known to be in range. -/
def finCrop (B : Refs sig) (b : Fin 3) (x : Fin 6) (good : IVec S1x256 1) (k : IVec S1x256 1 → Tot F → PR nD τ sig Λ F α) :
    PR nD τ sig Λ F α :=
  ld B .m ![b, x, 0, 0] S1x1x8x256.size (inb_m8 b x) (by decide) fun m =>
  ld B .acc ![b, x, 0, 0] S1x1x8x256.size (inb_acc8 b ⟨x, by omega⟩) (by decide) fun a =>
  let tot := colSum (mulf (flat256 a) (shiftOf (flat256 m)))
  k (andi (andi good (cmpf .oge tot (broadcast S1x256 (Scalar.ofBits .f32 0x17800000#32))))
      (cmpf .olt tot (broadcast S1x256 (Scalar.ofBits .f32 0x7F800000#32))))
    ⟨colMax (flat256 m), shiftOf (flat256 m), tot⟩

def stRow (B : Refs sig) (i : Fin 2) (v : Fin 4) (b : Fin 3) (w : FVec F S1x256 .f32) (k : PR nD τ sig Λ F α) : PR nD τ sig Λ F α :=
  ld B .row ![i, v, b, 0] S1x1x1x256.size (inb_rowLoss i v b) (by decide) fun _ =>
  st32 B .row ![i, v, b, 0] S1x1x1x256.size (inb_rowLoss i v b) (by decide) rfl (shapeCast (s := S1x256) S1x1x1x256 w (by decide)) k

/-- The loss of one pair of crops over one batch row. -/
abbrev lossOf (a : FVec F S1x256 .f32) (ti tv : Tot F) : FVec F S1x256 .f32 :=
  mulf (subf (addf tv.mx (divf (log tv.tot) (broadcast S1x256 (Scalar.log (Scalar.ofBits .f32 0x40000000#32)))))
    (divf a ti.tot)) (broadcast S1x256 ((Gains.ln2 : F .f32)))

def finPair (B : Refs sig) (b : Fin 3) (i : Fin 2) (v : Fin 4) (n : Fin 6) (ti tv : Tot F) (good : IVec S1x256 1)
    (pair : FVec F S1x256 .f32) (k : IVec S1x256 1 → FVec F S1x256 .f32 → PR nD τ sig Λ F α) : PR nD τ sig Λ F α :=
  ld B .acc ![b, n + 6, 0, 0] S1x1x8x256.size (inb_acc8 b ⟨n + 6, by omega⟩) (by decide) fun a =>
  let sum := colSum (mulf (flat256 a) ti.sh)
  stRow B i v b (lossOf sum ti tv) <|
  k (andi good (cmpf .olt (absf sum) (broadcast S1x256 (Scalar.ofBits .f32 0x7F800000#32)))) (addf pair (lossOf sum ti tv))

/-- What is gathered over the batch rows: the columns in range, the six pairs' losses. -/
structure Fin6 (F : FTy → Type) where
  (good : IVec S1x256 1) (p0 p1 p2 p3 p4 p5 : FVec F S1x256 .f32)

def finBatch (B : Refs sig) (b : Fin 3) (A : Fin6 F) (k : Fin6 F → PR nD τ sig Λ F α) : PR nD τ sig Λ F α :=
  finCrop B b 0 A.good fun g t0 => finCrop B b 1 g fun g t1 => finCrop B b 2 g fun g t2 =>
  finCrop B b 3 g fun g t3 => finCrop B b 4 g fun g t4 => finCrop B b 5 g fun g t5 =>
  finPair B b 0 1 0 t0 t3 g A.p0 fun g p0 => finPair B b 0 2 1 t0 t4 g A.p1 fun g p1 =>
  finPair B b 0 3 2 t0 t5 g A.p2 fun g p2 => finPair B b 1 0 3 t1 t2 g A.p3 fun g p3 =>
  finPair B b 1 2 4 t1 t4 g A.p4 fun g p4 => finPair B b 1 3 5 t1 t5 g A.p5 fun g p5 =>
  stRow B 0 0 b (broadcast S1x256 (Scalar.ofBits .f32 0x00000000#32)) <|
  stRow B 1 1 b (broadcast S1x256 (Scalar.ofBits .f32 0x00000000#32)) <|
  k ⟨g, p0, p1, p2, p3, p4, p5⟩

/-- Put one pair's mean at its place. -/
abbrev putPair (i v : BitVec 32) (p : FVec F S1x256 .f32) (out : FVec F S8x128 .f32) : FVec F S8x128 .f32 :=
  select (andi (cmpi .eq (iota .tc S8x128 32 [0] (by decide)) (broadcast S8x128 i))
      (cmpi .eq (iota .tc S8x128 32 [1] (by decide)) (broadcast S8x128 v)))
    (broadcastTo (s := S1x1) S8x128 (shapeCast (s := S1x1) S1x1
      (mulf (shapeCast (s := S1) S1x1 (multiReduction .add [1] S1 p 0x00000000#32 (by decide) (.inl rfl) rfl) (by decide))
        (broadcast S1x1 (Scalar.ofBits .f32 0x3AAAAAAB#32))) (by decide)) (by decide)) out

abbrev pairOut (A : Fin6 F) : FVec F S2x4 .f32 :=
  extractStridedSlice S2x4 ![0, 0] (putPair 1#32 3#32 A.p5 <| putPair 1#32 2#32 A.p4 <| putPair 1#32 0#32 A.p3 <|
    putPair 0#32 3#32 A.p2 <| putPair 0#32 2#32 A.p1 <| putPair 0#32 1#32 A.p0 <|
    broadcast S8x128 (Scalar.ofBits .f32 0x00000000#32)) (by decide)

/-- Whether every column was in range. -/
abbrev allGood (g : IVec S1x256 1) : BitVec 1 :=
  Scalar.cmpf .ogt (extractAt ![0, 0, 0] (shapeCast (s := S1) S1x1x1
    (multiReduction (F := F) .minimumf [1, 2] S1 (shapeCast (s := S1x256) S1x1x256 (sitofp (F := F) .f32 (extui 32 g (by decide))) (by decide))
      0x7F800000#32 (by decide) (.inl rfl) rfl) (by decide)) (by decide)) (Scalar.ofBits (F := F) .f32 0x3F000000#32)

def finish (B : Refs sig) (k : IVec S1x256 1 → PR nD τ sig Λ F α) : PR nD τ sig Λ F α :=
  loop 3 (⟨broadcast S1x256 1#1, broadcast S1x256 (Scalar.ofBits .f32 0x00000000#32), broadcast S1x256 (Scalar.ofBits .f32 0x00000000#32),
      broadcast S1x256 (Scalar.ofBits .f32 0x00000000#32), broadcast S1x256 (Scalar.ofBits .f32 0x00000000#32),
      broadcast S1x256 (Scalar.ofBits .f32 0x00000000#32), broadcast S1x256 (Scalar.ofBits .f32 0x00000000#32)⟩ : Fin6 F)
    (fun b A k => finBatch B b A k) fun A =>
  ld B .pair ![0, 0] S2x4.size (by decide) (by decide) fun _ =>
  st32 B .pair ![0, 0] S2x4.size (by decide) (by decide) rfl (pairOut A) <|
  k A.good

/-! ## The second pass -/

theorem inb_facRow {r : Nat} (h : r + 8 ≤ 256) (f : Fin 3) : ∀ a, (![0, f, r, 0] : Fin 4 → Nat) a + S1x1x8x128.size a ≤ S2x3x256x128.size a :=
  inb4 (by simp) (by simp; omega) (by simpa using h) (by simp)
theorem inb_sRow {r : Nat} (h : r + 8 ≤ 256) (x : Fin 6) (j : Fin 2) : ∀ a, (![0, x, r, 128 * j] : Fin 4 → Nat) a + S1x1x8x128.size a ≤ S2x6x256x256.size a :=
  inb4 (by simp) (by simp; omega) (by simpa using h) (by simp; omega)
theorem inb_mHalf (b : Fin 3) (x : Fin 6) (j : Fin 2) : ∀ a, (![b, x, 0, 128 * j] : Fin 4 → Nat) a + S1x1x8x128.size a ≤ S3x6x8x256.size a :=
  inb4 (by simp; omega) (by simp; omega) (by simp) (by simp; omega)

def ldFacR (B : Refs sig) {r : Nat} (h : r + 8 ≤ 256) (f : Fin 3) (k : FVec F S8x128 .f32 → PR nD τ sig Λ F α) : PR nD τ sig Λ F α :=
  ld B .fac ![0, f, r, 0] S1x1x8x128.size (inb_facRow h f) (by decide) fun w => k (flat (w : FVec F S1x1x8x128 .f32))

def ldSR (B : Refs sig) {r : Nat} (h : r + 8 ≤ 256) (j : Fin 2) (x : Fin 6) (k : FVec F S8x128 .f32 → PR nD τ sig Λ F α) : PR nD τ sig Λ F α :=
  ld B .s ![0, x, r, 128 * j] S1x1x8x128.size (inb_sRow h x j) (by decide) fun w => k (flat (w : FVec F S1x1x8x128 .f32))

def ldM (B : Refs sig) (b : Fin 3) (j : Fin 2) (x : Fin 6) (k : FVec F S8x128 .f32 → PR nD τ sig Λ F α) : PR nD τ sig Λ F α :=
  ld B .m ![b, x, 0, 128 * j] S1x1x8x128.size (inb_mHalf b x j) (by decide) fun w => k (flat (w : FVec F S1x1x8x128 .f32))

def stM (B : Refs sig) (b : Fin 3) (j : Fin 2) (x : Fin 6) (w : FVec F S8x128 .f32) (k : PR nD τ sig Λ F α) : PR nD τ sig Λ F α :=
  ld B .m ![b, x, 0, 128 * j] S1x1x8x128.size (inb_mHalf b x j) (by decide) fun _ =>
  st32 B .m ![b, x, 0, 128 * j] S1x1x8x128.size (inb_mHalf b x j) (by decide) rfl (lift8 w) k

/-- Take eight more rows of crop `x` into its maximum and its total; go on with the old total's factor and the new
exponentials. -/
def shCrop (B : Refs sig) (b : Fin 3) (j : Fin 2) (x : Fin 6) (z : FVec F S8x128 .f32)
    (k : FVec F S8x128 .f32 → FVec F S8x128 .f32 → PR nD τ sig Λ F α) : PR nD τ sig Λ F α :=
  ldM B b j x fun old =>
  stM B b j x (maximumf old z) <|
  ldAcc B b j ⟨x, by omega⟩ fun a =>
  stAcc B b j ⟨x, by omega⟩ (addf (mulf a (exp2 (subf old (maximumf old z)))) (exp2 (subf z (maximumf old z)))) <|
  k (exp2 (subf old (maximumf old z))) (exp2 (subf z (maximumf old z)))

def shPair (B : Refs sig) (b : Fin 3) (j : Fin 2) (n : Fin 6) (shrink e z : FVec F S8x128 .f32) (k : PR nD τ sig Λ F α) : PR nD τ sig Λ F α :=
  ldAcc B b j ⟨n + 6, by omega⟩ fun a =>
  stAcc B b j ⟨n + 6, by omega⟩ (addf (mulf a shrink) (mulf e z)) k

/-- Eight rows of one column half. -/
def shHalf (B : Refs sig) (b : Fin 3) {r : Nat} (h : r + 8 ≤ 256) (j : Fin 2) (k : PR nD τ sig Λ F α) : PR nD τ sig Λ F α :=
  ldFacR B h 0 fun ft => ldFacR B h 1 fun fs => ldFacR B h 2 fun fc =>
  ldSR B h j 0 fun s0 => ldSR B h j 1 fun s1 => ldSR B h j 2 fun s2 =>
  ldSR B h j 3 fun s3 => ldSR B h j 4 fun s4 => ldSR B h j 5 fun s5 =>
  let z0 := subf (mulf s0 ft) fc
  let z1 := subf (mulf s1 ft) fc
  let z2 := mulf s2 fs
  let z3 := mulf s3 fs
  let z4 := mulf s4 fs
  let z5 := mulf s5 fs
  shCrop B b j 0 z0 fun f0 e0 => shCrop B b j 1 z1 fun f1 e1 => shCrop B b j 2 z2 fun _ _ =>
  shCrop B b j 3 z3 fun _ _ => shCrop B b j 4 z4 fun _ _ => shCrop B b j 5 z5 fun _ _ =>
  shPair B b j 0 f0 e0 z3 <| shPair B b j 1 f0 e0 z4 <| shPair B b j 2 f0 e0 z5 <|
  shPair B b j 3 f1 e1 z2 <| shPair B b j 4 f1 e1 z4 <| shPair B b j 5 f1 e1 z5 k

/-! ## Loops -/

/-- The loop `for t in range(N)`. -/
def forN (N : BitVec 32) (ok : (⟨0#32, N, 1#32⟩ : Scf.Loop 32).OK)
    (f : Fin (⟨0#32, N, 1#32⟩ : Scf.Loop 32).trips → PR nD τ sig Λ F PUnit) : PR nD τ sig Λ F PUnit :=
  Scf.Loop.for (⟨0#32, N, 1#32⟩ : Scf.Loop 32) ok PUnit.unit fun t _ => f t

/-- The first row of group `t` of eight rows. -/
def rowAt (t : Nat) : Nat := (Scalar.indexCast (Scalar.muli (Scf.iv 0#32 1#32 t) 8#32)).toNat

theorem ok32 : (⟨0#32, 32#32, 1#32⟩ : Scf.Loop 32).OK := by decide
theorem ok64 : (⟨0#32, 64#32, 1#32⟩ : Scf.Loop 32).OK := by decide
theorem trips32 : (⟨0#32, 32#32, 1#32⟩ : Scf.Loop 32).trips = 32 := by decide
theorem trips64 : (⟨0#32, 64#32, 1#32⟩ : Scf.Loop 32).trips = 64 := by decide

theorem rowAt_le : ∀ t : Fin 32, rowAt t + 8 ≤ 256 := by decide

/-- The group `2 * t + h` that trip `t` of the second pass prepares. -/
def sameGroup (t h : BitVec 32) : BitVec 32 := Scalar.addi (Scalar.muli t 2#32) h

theorem same_ok : ∀ t : Fin 64, ∀ h : Fin 2, Group (sameGroup (Scf.iv 0#32 1#32 t) (BitVec.ofNat 32 h)) := by
  unfold Group; decide +kernel

theorem next_ok : ∀ t : Fin 32, ∀ half h : Fin 2, Group (nextGroup (Scf.iv 0#32 1#32 t) (BitVec.ofNat 32 half) (BitVec.ofNat 32 h)) := by
  unfold Group; decide +kernel

theorem zero_ok : ∀ h : Fin 2, Group (BitVec.ofNat 32 h) := by unfold Group; decide

/-- The products of one batch row and their rows taken in. -/
def shBatch (B : Refs sig) (b : Fin 3) (t : Fin (⟨0#32, 32#32, 1#32⟩ : Scf.Loop 32).trips) : PR nD τ sig Λ F PUnit :=
  have h : rowAt t + 8 ≤ 256 := rowAt_le ⟨t, t.2.trans_eq trips32⟩
  shHalf B b h 0 <| shHalf B b h 1 (.ret ⟨⟩)

def shChunk (B : Refs sig) (hB : ∀ i, (B i).IsWhole) (t : Fin (⟨0#32, 64#32, 1#32⟩ : Scf.Loop 32).trips) : PR nD τ sig Λ F PUnit :=
  prep B hB 0 (sameGroup (Scf.iv 0#32 1#32 t) 0#32) (sameGroup (Scf.iv 0#32 1#32 t) 1#32)
    (same_ok ⟨t, t.2.trans_eq trips64⟩ 0) (same_ok ⟨t, t.2.trans_eq trips64⟩ 1) <|
  logits B 0 0 0 <| forN 32#32 ok32 (shBatch B 0) >>= fun _ =>
  logits B 0 1 0 <| forN 32#32 ok32 (shBatch B 1) >>= fun _ =>
  logits B 0 2 0 <| forN 32#32 ok32 (shBatch B 2) >>= fun _ => .ret ⟨⟩

/-- The second pass and the losses once more. -/
def redo (B : Refs sig) (hB : ∀ i, (B i).IsWhole) : PR nD τ sig Λ F PUnit :=
  fill2 B .m S3x6x8x256.size ![0, 0, 0, 0] (by decide) (by decide) rfl
    (shapeCast (s := S3x6x8x256) S3x6x8x256 (broadcast S3x6x8x256 (Scalar.ofBits .f32 0xFF800000#32)) (by decide)) <|
  fill2 B .acc S3x12x8x256.size ![0, 0, 0, 0] (by decide) (by decide) rfl
    (shapeCast (s := S3x12x8x256) S3x12x8x256 (broadcast S3x12x8x256 (Scalar.ofBits .f32 0x00000000#32)) (by decide)) <|
  forN 64#32 ok64 (shChunk B hB) >>= fun _ =>
  finish B fun _ => .ret ⟨⟩

/-! ## The whole -/

/-- What follows the main loop: `redo` runs where some column was out of range. -/
def after (B : Refs sig) (again : PR nD τ sig Λ F PUnit) : PR nD τ sig Λ F PUnit :=
  accumulate B 1 2 1 1#1 <|
  ld B .bct ![0, 0] S128x128.size (by decide) (by decide) fun bct =>
  fill2 B .bc S128x128.size ![0, 0] (by decide) (by decide) rfl
    (transpose (s := S128x128) S128x128 [1, 0] bct (by decide)) <|
  finish B fun good =>
  (if Scalar.cmpi .ne (Scalar.extui (Scalar.xori (allGood (F := F) good) 1#1)) 0#32 = 1#1 then again else .ret ⟨⟩)

/-- What precedes it. -/
def before (B : Refs sig) (hB : ∀ i, (B i).IsWhole) (inv : F .f32) (k : PR nD τ sig Λ F PUnit) : PR nD τ sig Λ F PUnit :=
  initAll B <| loadFeatures B hB inv <|
  prep B hB 0 0#32 1#32 (zero_ok 0) (zero_ok 1) k

def body (B : Refs sig) (hB : ∀ i, (B i).IsWhole) (inv : F .f32) : PR nD τ sig Λ F PUnit :=
  before B hB inv <|
  forN 32#32 ok32 (fun t => trip B hB (Scf.iv 0#32 1#32 t) (next_ok ⟨t, t.2.trans_eq trips32⟩) (.ret ⟨⟩)) >>= fun _ =>
  after B (redo B hB)

end Dino
-- ==== Proof.State.lean ====
/-
  The body's memory as a function of the reference, and the rules for the body's steps over it.

  `Own B c st` says that core `c` holds every reference's buffer, reading `st i` at reference `i`. `Wp st p Q` says that
  `p`, started there, ends with the buffers at some contents `Q` allows. `Fr S st p Q` says so of every start that differs
  from `st` only at references `S` names: the form in which a block that only writes buffers of `S` is passed over.
-/
module

public import proofs.«01_k».proof.Proof.Whole
public import Idealize.ShloMosaic.Rules.Step
public import Idealize.ShloMosaic.Lib.Memref
public import Idealize.ShloMosaic.Lib.Tactic
public import Idealize.ShloMosaic.Lib.Pipeline.Frame

@[expose] public section

noncomputable section

namespace Dino

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

instance : Fintype Ref' where
  elems := {.tc, .ts, .sc, .ss, .pc, .ps, .g, .cen, .row, .pair, .bc, .xt, .v, .fac, .s, .acc, .m, .xsum, .par, .bct}
  complete i := by cases i <;> decide

variable {nD : Nat} {τ : Topo} {sig : RefSig} {Λ : Labels} {F : FTy → Type} [FloatOps F]

local notation "𝕄" => MT nD τ sig Unit (Elt F) ℕ (UR sig nD τ) ℕ

/-- What every buffer reads. -/
abbrev St (F : FTy → Type) : Type := (i : Ref') → i.shape.Idx → Elt F i.elt

/-- The contents `f` with the rectangle `r` replaced by `w`. -/
def over {β : Type} {s : Shape} (r : Rect s) (w : r.shape.Idx → β) (f : s.Idx → β) : s.Idx → β := by
  classical
  exact fun x => if h : ∃ y, r.emb y = x then w h.choose else f x

theorem over_emb {β : Type} {s : Shape} (r : Rect s) (w : r.shape.Idx → β) (f : s.Idx → β) (y : r.shape.Idx) :
    over r w f (r.emb y) = w y := by
  have h : ∃ y', r.emb y' = r.emb y := ⟨y, rfl⟩
  have e : h.choose = y := r.emb.injective h.choose_spec
  unfold over
  rw [dif_pos h, e]

theorem over_not {β : Type} {s : Shape} (r : Rect s) (w : r.shape.Idx → β) (f : s.Idx → β) {x : s.Idx}
    (hx : ∀ y, r.emb y ≠ x) : over r w f x = f x := by
  unfold over
  exact dif_neg fun ⟨y, h⟩ => hx y h

/-- The memory with reference `i` at `f`. -/
def set (st : St F) (i : Ref') (f : i.shape.Idx → Elt F i.elt) : St F := Function.update st i f

theorem set_same (st : St F) (i : Ref') (f : i.shape.Idx → Elt F i.elt) : set st i f i = f := Function.update_self ..
theorem set_other (st : St F) {i j : Ref'} (f : i.shape.Idx → Elt F i.elt) (h : j ≠ i) : set st i f j = st j :=
  Function.update_of_ne h ..

/-- Core `c` holds every buffer, at `st`. -/
def Own (B : Refs sig) (c : Dev nD) (st : St F) : sProp 𝕄 :=
  bigSep Finset.univ fun i => owns (c : Thread nD τ) (B i) fullShare (st i)

/-- `p` started at `st` ends at contents `Q` allows. -/
def Wp (defs : Defs nD τ sig (Elt F) Λ) (B : Refs sig) (c : Dev nD) (st : St F) (p : PR nD τ sig Λ F PUnit) (Q : St F → Prop) : Prop :=
  Own B c st ⊢ (wp frame (wpE defs Variants.none (c : Thread nD τ) none) Set.univ p
    (fun _ => iprop(∃ st', ⌜Q st'⌝ ∗ Own B c st')) : sProp 𝕄)

variable {defs : Defs nD τ sig (Elt F) Λ} {B : Refs sig} {c : Dev nD} {Q : St F → Prop}

theorem wp_ret' {s0 : St F} (h : Q s0) : Wp defs B c s0 (.ret ⟨⟩) Q := by
  unfold Wp
  rw [wp_ret]
  iintro H
  imodintro
  iexists s0
  isplitr
  · ipureintro; exact h
  · iexact H

theorem wp_ld {s0 : St F} {i : Ref'} {off size : Fin i.shape.rank → Nat} {inb : ∀ a, off a + size a ≤ i.shape.size a}
    {k : ((blk i off size inb).toLoadRect.shape.Idx → Elt F i.elt) → PR nD τ sig Λ F PUnit}
    (h : Wp defs B c s0 (k fun y => s0 i ((blk i off size inb).emb y)) Q)
    (pos : 0 < (⟨i.shape.rank, size⟩ : Shape).numel := by decide) : Wp defs B c s0 (ld B i off size inb pos k) Q := by
  unfold Wp at h ⊢
  unfold ld
  have hO : Own B c s0 ⊢ (iprop(owns (c : Thread nD τ) (B i) fullShare (s0 i)
      ∗ (owns (c : Thread nD τ) (B i) fullShare (s0 i) -∗ Own B c s0)) : sProp 𝕄) :=
    bigSep_univ_update i fun _ _ => rfl
  refine hO.trans ?_
  conv_lhs => rw [owns]
  iintro ⟨⟨%f, %hf, H⟩, HK⟩
  iapply (wp_load_rect Variants.none (c : Thread nD τ) none Set.univ (m := B i) (r := blk i off size inb)
    (View.set_slice_subset _ _)) $$ H
  iintro H
  iapply (show Own B c s0 ⊢ _ from by
    have e : (fun y => s0 i ((blk i off size inb).emb y)) = ((B i).access (blk i off size inb)).read (Elt F) f := by
      rw [← hf]; rfl
    rw [← e]
    exact h)
  iapply HK
  iexists f
  isplitr
  · ipureintro; exact hf
  · iexact H

theorem wp_st {s0 : St F} {i : Ref'} {off size : Fin i.shape.rank → Nat} {inb : ∀ a, off a + size a ≤ i.shape.size a}
    {ok : ((B i).access (blk i off size inb)).Stores Finset.univ} {w : (blk i off size inb).shape.Idx → Elt F i.elt}
    {k : PR nD τ sig Λ F PUnit} (h : Wp defs B c (set s0 i (over (blk i off size inb) w (s0 i))) k Q) :
    Wp defs B c s0 (st B i off size inb ok w k) Q := by
  unfold Wp at h ⊢
  unfold st
  have hO : Own B c s0 ⊢ (iprop(owns (c : Thread nD τ) (B i) fullShare (s0 i)
      ∗ (owns (c : Thread nD τ) (B i) fullShare (set s0 i (over (blk i off size inb) w (s0 i)) i)
        -∗ Own B c (set s0 i (over (blk i off size inb) w (s0 i))))) : sProp 𝕄) :=
    bigSep_univ_update (Φ := fun j => owns (c : Thread nD τ) (B j) fullShare (s0 j))
      (Ψ := fun j => owns (c : Thread nD τ) (B j) fullShare (set s0 i (over (blk i off size inb) w (s0 i)) j))
      i fun j hj => by rw [set_other _ _ hj]
  refine hO.trans ?_
  conv_lhs => lhs; rw [owns]
  iintro ⟨⟨%f, %hf, H⟩, HK⟩
  iapply (wp_store Variants.none (c : Thread nD τ) none Set.univ (m := B i) (r := blk i off size inb) (hx := ok)
    ((View.setOn_subset_set _ _).trans (View.set_slice_subset _ _))) $$ H
  iintro H
  iapply h
  iapply HK
  unfold owns
  iexists _
  isplitr
  swap; · iexact H
  ipureintro
  rw [set_same]
  funext x
  by_cases hx : ∃ y, (blk i off size inb).emb y = x
  · obtain ⟨y, rfl⟩ := hx
    rw [over_emb]
    exact View.read_slice_write_emb _ _ _ (Finset.mem_univ y)
  · rw [over_not _ _ _ fun y e => hx ⟨y, e⟩, ← hf]
    exact View.read_slice_write_of_not_mem _ _ _ _ fun hm => by
      obtain ⟨y, -, e⟩ := Finset.mem_map.mp hm
      exact hx ⟨y, e⟩

/-- A counted loop, by what holds of the memory before each trip. -/
theorem wp_forN {s0 : St F} {N : BitVec 32} {ok : (⟨0#32, N, 1#32⟩ : Scf.Loop 32).OK}
    {f : Fin (⟨0#32, N, 1#32⟩ : Scf.Loop 32).trips → PR nD τ sig Λ F PUnit} {k : PUnit → PR nD τ sig Λ F PUnit}
    (I : Nat → St F → Prop) (h0 : I 0 s0)
    (hs : ∀ t s, I t.val s → Wp defs B c s (f t) (I (t.val + 1)))
    (hk : ∀ s, I (⟨0#32, N, 1#32⟩ : Scf.Loop 32).trips s → Wp defs B c s (k ⟨⟩) Q) :
    Wp defs B c s0 (forN N ok f >>= k) Q := by
  unfold Wp at hs hk ⊢
  unfold forN
  have hb := Scf.wp_for_bind frame (wpE defs Variants.none (c : Thread nD τ) none) Set.univ 0#32 N 1#32 ok PUnit.unit
    (fun t _ => f t) (fun n _ => (iprop(∃ s, ⌜I n s⌝ ∗ Own B c s) : sProp 𝕄))
    (fun t _ => by iintro ⟨%s, %hI, H⟩; iapply (hs t s hI); iexact H)
    (kk := k) (Q := fun _ => iprop(∃ st', ⌜Q st'⌝ ∗ Own B c st'))
  iintro H
  iapply hb $$ [H]
  · iexists s0
    isplitr
    · ipureintro; exact h0
    · iexact H
  · iintro %_ ⟨%s, %hI, H⟩
    iapply (hk s hI)
    iexact H

/-! ## Passing over what only some buffers see -/

/-- The two memories agree but at references `S` names. -/
def Only (S : Ref' → Bool) (s0 s1 : St F) : Prop := ∀ i, S i = false → s1 i = s0 i

theorem Only.refl (S : Ref' → Bool) (s0 : St F) : Only S s0 s0 := fun _ _ => rfl
theorem Only.trans {S : Ref' → Bool} {s0 s1 s2 : St F} (h : Only S s0 s1) (h' : Only S s1 s2) : Only S s0 s2 :=
  fun i hi => (h' i hi).trans (h i hi)
theorem Only.set {S : Ref' → Bool} {s0 s1 : St F} (h : Only S s0 s1) {i : Ref'} (hi : S i = true) (f : i.shape.Idx → Elt F i.elt) :
    Only S s0 (Dino.set s1 i f) := fun j hj =>
  (set_other _ _ fun e => by rw [e, hi] at hj; exact absurd hj (by decide)).trans (h j hj)

def Fr (S : Ref' → Bool) (defs : Defs nD τ sig (Elt F) Λ) (B : Refs sig) (c : Dev nD) (s0 : St F) (p : PR nD τ sig Λ F PUnit)
    (Q : St F → Prop) : Prop := ∀ s, Only S s0 s → Wp defs B c s p Q

variable {S : Ref' → Bool} {s0 : St F}

theorem Fr.ret (h : ∀ s, Only S s0 s → Q s) : Fr S defs B c s0 (.ret ⟨⟩) Q := fun s hs => wp_ret' (h s hs)

theorem Fr.ld {i : Ref'} {off size : Fin i.shape.rank → Nat} {inb : ∀ a, off a + size a ≤ i.shape.size a}
    {k : ((blk i off size inb).toLoadRect.shape.Idx → Elt F i.elt) → PR nD τ sig Λ F PUnit}
    (h : ∀ w, Fr S defs B c s0 (k w) Q) (pos : 0 < (⟨i.shape.rank, size⟩ : Shape).numel := by decide) : Fr S defs B c s0 (ld B i off size inb pos k) Q := fun s hs => wp_ld (h _ s hs) pos

theorem Fr.st {i : Ref'} {off size : Fin i.shape.rank → Nat} {inb : ∀ a, off a + size a ≤ i.shape.size a}
    {ok : ((B i).access (blk i off size inb)).Stores Finset.univ} {w : (blk i off size inb).shape.Idx → Elt F i.elt}
    {k : PR nD τ sig Λ F PUnit} (hi : S i = true) (h : Fr S defs B c s0 k Q) : Fr S defs B c s0 (st B i off size inb ok w k) Q :=
  fun s hs => wp_st (h _ (hs.set hi _))

theorem Fr.rep {σ : Type} {N : Nat} {f : Fin N → σ → (σ → PR nD τ sig Λ F PUnit) → PR nD τ sig Λ F PUnit}
    (hf : ∀ i a k, (∀ a', Fr S defs B c s0 (k a') Q) → Fr S defs B c s0 (f i a k) Q)
    {k : σ → PR nD τ sig Λ F PUnit} (hk : ∀ a, Fr S defs B c s0 (k a) Q) :
    ∀ (n i : Nat) (h : i + n = N) (a : σ), Fr S defs B c s0 (rep f n i h a k) Q
  | 0, _, _, a => hk a
  | n + 1, i, h, a => hf _ a _ fun a' => Fr.rep hf hk n (i + 1) (by omega) a'

theorem Fr.forN {N : BitVec 32} {ok : (⟨0#32, N, 1#32⟩ : Scf.Loop 32).OK}
    {f : Fin (⟨0#32, N, 1#32⟩ : Scf.Loop 32).trips → PR nD τ sig Λ F PUnit} {k : PUnit → PR nD τ sig Λ F PUnit}
    (hf : ∀ t, Fr S defs B c s0 (f t) (Only S s0)) (hk : Fr S defs B c s0 (k ⟨⟩) Q) :
    Fr S defs B c s0 (forN N ok f >>= k) Q := fun _ hs =>
  wp_forN (fun _ => Only S s0) hs (fun t s h => hf t s h) fun s h => hk s h

/-- Weaken the end. -/
theorem Wp.mono {p : PR nD τ sig Λ F PUnit} {Q' : St F → Prop} (h : Wp defs B c s0 p Q) (hQ : ∀ s, Q s → Q' s) : Wp defs B c s0 p Q' := by
  unfold Wp at h ⊢
  refine h.trans (wp_mono _ _ _ fun _ => ?_)
  iintro ⟨%s, %hs, H⟩
  iexists s
  isplitr
  · ipureintro; exact hQ s hs
  · iexact H

end Dino
-- ==== Proof.Untouched.lean ====
/-
  Which buffers each block of the body writes: passing over a block, with nothing said of what it leaves in them.
-/
module

public import proofs.«01_k».proof.Proof.State

@[expose] public section

noncomputable section

namespace Dino

open Idealize.ShloMosaic Idealize.SL.Sem

variable {nD : Nat} {τ : Topo} {sig : RefSig} {Λ : Labels} {F : FTy → Type} [FloatOps F] [Gains F]
variable {defs : Defs nD τ sig (Elt F) Λ} {B : Refs sig} {hB : ∀ i, (B i).IsWhole} {c : Dev nD} {Q : St F → Prop}
variable {S : Ref' → Bool} {s0 : St F}

theorem fr_fill2 {i : Ref'} (hi : S i = true) {size off : Fin i.shape.rank → Nat} {inb : ∀ a, off a + size a ≤ i.shape.size a}
    {pos : 0 < (⟨i.shape.rank, size⟩ : Shape).numel} {hb : i.elt.bits = 32} {w : (blk i off size inb).shape.Idx → Elt F i.elt}
    {k : PR nD τ sig Λ F PUnit} (hk : Fr S defs B c s0 k Q) : Fr S defs B c s0 (fill2 B i size off inb pos hb w k) Q :=
  Fr.ld (pos := pos) fun _ => Fr.st hi hk

theorem fr_logitsOf (hs : S .s = true) {slot : Fin 2} {b : Fin 3} {buf : Fin 2} {k : PR nD τ sig Λ F PUnit} (hk : Fr S defs B c s0 k Q) :
    ∀ (n i : Nat) (h : i + n ≤ 6), Fr S defs B c s0 (logitsOf B slot b buf n i h k) Q
  | 0, _, _ => hk
  | n + 1, i, h => Fr.ld fun _ => Fr.ld fun _ => Fr.ld fun _ => Fr.st hs <| fr_logitsOf hs hk n (i + 1) _

theorem fr_logits (hs : S .s = true) {slot : Fin 2} {b : Fin 3} {buf : Fin 2} {k : PR nD τ sig Λ F PUnit} (hk : Fr S defs B c s0 k Q) :
    Fr S defs B c s0 (logits B slot b buf k) Q := fr_logitsOf hs hk _ _ _

theorem fr_stAcc (ha : S .acc = true) {b : Fin 3} {j : Fin 2} {a : Fin 12} {w : FVec F S8x128 .f32} {k : PR nD τ sig Λ F PUnit}
    (hk : Fr S defs B c s0 k Q) : Fr S defs B c s0 (stAcc B b j a w k) Q := Fr.ld fun _ => Fr.st ha hk

theorem fr_accRows {slot buf j : Fin 2} {q : Fin 32} {A : Acc F} {k : Acc F → PR nD τ sig Λ F PUnit} (hk : ∀ A, Fr S defs B c s0 (k A) Q) :
    Fr S defs B c s0 (accRows B slot buf j q A k) Q :=
  Fr.ld fun _ => Fr.ld fun _ => Fr.ld fun _ => Fr.ld fun _ => Fr.ld fun _ => Fr.ld fun _ => Fr.ld fun _ => Fr.ld fun _ => Fr.ld fun _ => hk _

theorem fr_accHalf (ha : S .acc = true) {slot : Fin 2} {b : Fin 3} {buf : Fin 2} {keep : BitVec 1} {j : Fin 2} {k : PR nD τ sig Λ F PUnit}
    (hk : Fr S defs B c s0 k Q) : Fr S defs B c s0 (accHalf B slot b buf keep j k) Q :=
  Fr.ld fun _ => Fr.ld fun _ => Fr.ld fun _ => Fr.ld fun _ => Fr.ld fun _ => Fr.ld fun _ =>
  Fr.ld fun _ => Fr.ld fun _ => Fr.ld fun _ => Fr.ld fun _ => Fr.ld fun _ => Fr.ld fun _ =>
  Fr.rep (fun _ _ _ h => fr_accRows h) (fun _ =>
    fr_stAcc ha <| fr_stAcc ha <| fr_stAcc ha <| fr_stAcc ha <| fr_stAcc ha <| fr_stAcc ha <|
    fr_stAcc ha <| fr_stAcc ha <| fr_stAcc ha <| fr_stAcc ha <| fr_stAcc ha <| fr_stAcc ha hk) _ _ _ _

theorem fr_accumulate (ha : S .acc = true) {slot : Fin 2} {b : Fin 3} {buf : Fin 2} {keep : BitVec 1} {k : PR nD τ sig Λ F PUnit}
    (hk : Fr S defs B c s0 k Q) : Fr S defs B c s0 (accumulate B slot b buf keep k) Q := fr_accHalf ha <| fr_accHalf ha hk

theorem fr_stFac (hf : S .fac = true) {slot h : Fin 2} {f : Fin 3} {w : FVec F S128x128 .f32} {k : PR nD τ sig Λ F PUnit}
    (hk : Fr S defs B c s0 k Q) : Fr S defs B c s0 (stFac B slot h f w k) Q := Fr.ld fun _ => Fr.st hf hk

theorem fr_vCol (hv : S .v = true) {slot h : Fin 2} {kk : Fin 4} {r : BitVec 32} {hr : Group r} {par : FVec F S128x8 .f32}
    {k : FVec F S128x128 .bf16 → PR nD τ sig Λ F PUnit} (hk : ∀ w, Fr S defs B c s0 (k w) Q) :
    Fr S defs B c s0 (vCol B hB slot h kk r hr par k) Q := Fr.ld fun _ => Fr.ld fun _ => Fr.st hv (hk _)

theorem fr_prepHalf (hp : S .par = true) (hv : S .v = true) (hf : S .fac = true) (hb : S .bct = true) {slot h : Fin 2} {r : BitVec 32}
    {hr : Group r} {k : PR nD τ sig Λ F PUnit} (hk : Fr S defs B c s0 k Q) : Fr S defs B c s0 (prepHalf B hB slot h r hr k) Q :=
  Fr.ld fun _ => Fr.ld fun _ => Fr.st hp <| Fr.ld fun _ => Fr.ld fun _ => Fr.st hp <| Fr.ld fun _ => Fr.ld fun _ => Fr.st hp <|
  Fr.ld fun _ => Fr.ld fun _ =>
  Fr.rep (fun _ _ _ h => fr_vCol hv fun _ => h _) (fun _ =>
    Fr.ld fun _ => Fr.ld fun _ => Fr.st hb <| fr_stFac hf <| fr_stFac hf <| fr_stFac hf hk) _ _ _ _

theorem fr_prep (hp : S .par = true) (hv : S .v = true) (hf : S .fac = true) (hb : S .bct = true) {slot : Fin 2} {r0 r1 : BitVec 32}
    {h0 : Group r0} {h1 : Group r1} {k : PR nD τ sig Λ F PUnit} (hk : Fr S defs B c s0 k Q) :
    Fr S defs B c s0 (prep B hB slot r0 r1 h0 h1 k) Q := fr_prepHalf hp hv hf hb <| fr_prepHalf hp hv hf hb hk

theorem fr_stRow (hr : S .row = true) {i : Fin 2} {v : Fin 4} {b : Fin 3} {w : FVec F S1x256 .f32} {k : PR nD τ sig Λ F PUnit}
    (hk : Fr S defs B c s0 k Q) : Fr S defs B c s0 (stRow B i v b w k) Q := Fr.ld fun _ => Fr.st hr hk

theorem fr_finCrop {b : Fin 3} {x : Fin 6} {good : IVec S1x256 1} {k : IVec S1x256 1 → Tot F → PR nD τ sig Λ F PUnit}
    (hk : ∀ g t, Fr S defs B c s0 (k g t) Q) : Fr S defs B c s0 (finCrop B b x good k) Q := Fr.ld fun _ => Fr.ld fun _ => hk _ _

theorem fr_finPair (hr : S .row = true) {b : Fin 3} {i : Fin 2} {v : Fin 4} {n : Fin 6} {ti tv : Tot F} {good : IVec S1x256 1}
    {pair : FVec F S1x256 .f32} {k : IVec S1x256 1 → FVec F S1x256 .f32 → PR nD τ sig Λ F PUnit}
    (hk : ∀ g p, Fr S defs B c s0 (k g p) Q) : Fr S defs B c s0 (finPair B b i v n ti tv good pair k) Q :=
  Fr.ld fun _ => fr_stRow hr (hk _ _)

theorem fr_finish (hr : S .row = true) (hp : S .pair = true) {k : IVec S1x256 1 → PR nD τ sig Λ F PUnit} (hk : ∀ g, Fr S defs B c s0 (k g) Q) :
    Fr S defs B c s0 (finish B k) Q :=
  Fr.rep (fun _ _ _ h =>
    fr_finCrop fun _ _ => fr_finCrop fun _ _ => fr_finCrop fun _ _ => fr_finCrop fun _ _ => fr_finCrop fun _ _ => fr_finCrop fun _ _ =>
    fr_finPair hr fun _ _ => fr_finPair hr fun _ _ => fr_finPair hr fun _ _ => fr_finPair hr fun _ _ => fr_finPair hr fun _ _ =>
    fr_finPair hr fun _ _ => fr_stRow hr <| fr_stRow hr <| h _)
    (fun _ => Fr.ld fun _ => Fr.st hp (hk _)) _ _ _ _

theorem fr_stM (hm : S .m = true) {b : Fin 3} {j : Fin 2} {x : Fin 6} {w : FVec F S8x128 .f32} {k : PR nD τ sig Λ F PUnit}
    (hk : Fr S defs B c s0 k Q) : Fr S defs B c s0 (stM B b j x w k) Q := Fr.ld fun _ => Fr.st hm hk

theorem fr_shCrop (hm : S .m = true) (ha : S .acc = true) {b : Fin 3} {j : Fin 2} {x : Fin 6} {z : FVec F S8x128 .f32}
    {k : FVec F S8x128 .f32 → FVec F S8x128 .f32 → PR nD τ sig Λ F PUnit} (hk : ∀ f e, Fr S defs B c s0 (k f e) Q) :
    Fr S defs B c s0 (shCrop B b j x z k) Q := Fr.ld fun _ => fr_stM hm <| Fr.ld fun _ => fr_stAcc ha (hk _ _)

theorem fr_shPair (ha : S .acc = true) {b : Fin 3} {j : Fin 2} {n : Fin 6} {f e z : FVec F S8x128 .f32} {k : PR nD τ sig Λ F PUnit}
    (hk : Fr S defs B c s0 k Q) : Fr S defs B c s0 (shPair B b j n f e z k) Q := Fr.ld fun _ => fr_stAcc ha hk

theorem fr_shHalf (hm : S .m = true) (ha : S .acc = true) {b : Fin 3} {r : Nat} {h : r + 8 ≤ 256} {j : Fin 2} {k : PR nD τ sig Λ F PUnit}
    (hk : Fr S defs B c s0 k Q) : Fr S defs B c s0 (shHalf B b h j k) Q :=
  Fr.ld fun _ => Fr.ld fun _ => Fr.ld fun _ => Fr.ld fun _ => Fr.ld fun _ => Fr.ld fun _ => Fr.ld fun _ => Fr.ld fun _ => Fr.ld fun _ =>
  fr_shCrop hm ha fun _ _ => fr_shCrop hm ha fun _ _ => fr_shCrop hm ha fun _ _ =>
  fr_shCrop hm ha fun _ _ => fr_shCrop hm ha fun _ _ => fr_shCrop hm ha fun _ _ =>
  fr_shPair ha <| fr_shPair ha <| fr_shPair ha <| fr_shPair ha <| fr_shPair ha <| fr_shPair ha hk

theorem fr_shBatch (hm : S .m = true) (ha : S .acc = true) {b : Fin 3} {t : Fin (⟨0#32, 32#32, 1#32⟩ : Scf.Loop 32).trips} :
    Fr S defs B c s0 (shBatch B b t) (Only S s0) := fr_shHalf hm ha <| fr_shHalf hm ha <| Fr.ret fun _ h => h

/-- What the second pass writes. -/
structure Second (S : Ref' → Bool) : Prop where
  par : S .par = true
  v : S .v = true
  fac : S .fac = true
  bct : S .bct = true
  s : S .s = true
  m : S .m = true
  acc : S .acc = true
  row : S .row = true
  pair : S .pair = true

theorem fr_shChunk (h : Second S) {t : Fin (⟨0#32, 64#32, 1#32⟩ : Scf.Loop 32).trips} :
    Fr S defs B c s0 (shChunk B hB t) (Only S s0) :=
  fr_prep h.par h.v h.fac h.bct <|
  fr_logits h.s <| Fr.forN (fun _ => fr_shBatch h.m h.acc) <|
  fr_logits h.s <| Fr.forN (fun _ => fr_shBatch h.m h.acc) <|
  fr_logits h.s <| Fr.forN (fun _ => fr_shBatch h.m h.acc) <| Fr.ret fun _ h => h

theorem fr_redo (h : Second S) (hQ : ∀ s, Only S s0 s → Q s) : Fr S defs B c s0 (redo B hB) Q :=
  fr_fill2 h.m <| fr_fill2 h.acc <|
  Fr.forN (fun _ => fr_shChunk h) <| fr_finish h.row h.pair fun _ => Fr.ret hQ

theorem fr_teacherCrop (hx : S .xt = true) {x : Fin 2} {b : Fin 3} {xs : FVec F S8x512 .f32} {k : FVec F S8x512 .f32 → PR nD τ sig Λ F PUnit}
    (hk : ∀ xs, Fr S defs B c s0 (k xs) Q) : Fr S defs B c s0 (teacherCrop B hB x b xs k) Q :=
  Fr.ld fun _ => Fr.ld fun _ => Fr.ld fun _ => Fr.st hx (hk _)

theorem fr_studentCrop (hx : S .xt = true) {x : Fin 4} {b : Fin 3} {k : PR nD τ sig Λ F PUnit} (hk : Fr S defs B c s0 k Q) :
    Fr S defs B c s0 (studentCrop B hB x b k) Q :=
  Fr.ld fun _ => Fr.ld fun _ => Fr.ld fun _ => Fr.st hx hk

theorem fr_halfTrip (h : Second S) {t : BitVec 32} {half : Fin 2} {hw : BitVec 32} {h0 : Group (nextGroup t hw 0#32)}
    {h1 : Group (nextGroup t hw 1#32)} {k : PR nD τ sig Λ F PUnit} (hk : Fr S defs B c s0 k Q) :
    Fr S defs B c s0 (halfTrip B hB t half hw h0 h1 k) Q :=
  fr_logits h.s <| fr_accumulate h.acc <| fr_logits h.s <| fr_accumulate h.acc <| fr_prep h.par h.v h.fac h.bct <|
  fr_logits h.s <| fr_accumulate h.acc hk

/-- The whole body writes no input. -/
theorem fr_body {inv : F .f32} (h : Second S) (hx : S .xt = true) (hs : S .xsum = true) (hb : S .bc = true) (hQ : ∀ s, Only S s0 s → Q s) :
    Fr S defs B c s0 (body B hB inv) Q :=
  fr_fill2 h.par <| fr_fill2 h.bct <| fr_fill2 h.acc <| fr_fill2 h.m <| fr_fill2 h.s <| fr_fill2 h.fac <|
  Fr.rep (fun _ _ _ h => Fr.rep (fun _ _ _ h => fr_teacherCrop hx h) h _ _ _ _) (fun _ =>
    Fr.rep (fun _ _ _ h => Fr.rep (fun _ _ _ h => fr_studentCrop hx (h _)) (fun _ => h _) _ _ _ _) (fun _ =>
      fr_fill2 hs <| fr_prep h.par h.v h.fac h.bct <|
      Fr.forN (fun _ => fr_halfTrip h <| fr_halfTrip h <| Fr.ret fun _ h => h) <|
      fr_accumulate h.acc <| Fr.ld fun _ => fr_fill2 hb <|
      fr_finish h.row h.pair fun _ => by
        split
        · exact fr_redo h hQ
        · exact Fr.ret hQ) _ _ _ _) _ _ _ _

/-! ## The buffers one by one -/

/-- The inputs. -/
def isIn : Ref' → Bool
  | .tc | .ts | .sc | .ss | .pc | .ps | .g | .cen => true
  | _ => false

open Idealize.ShloMosaic.TcCoe Idealize.SL Idealize.SL.RA Idealize.SL.BI Idealize.SL.BI.BIBase in
open scoped Idealize.SL.BI in
theorem own_eq (B : Refs sig) (c : Dev nD) (st : St F) :
    (Own B c st : sProp (MT nD τ sig Unit (Elt F) ℕ (UR sig nD τ) ℕ)) = iprop(
      owns (c : Thread nD τ) (B .tc) fullShare (st .tc)
      ∗ owns (c : Thread nD τ) (B .ts) fullShare (st .ts)
      ∗ owns (c : Thread nD τ) (B .sc) fullShare (st .sc)
      ∗ owns (c : Thread nD τ) (B .ss) fullShare (st .ss)
      ∗ owns (c : Thread nD τ) (B .pc) fullShare (st .pc)
      ∗ owns (c : Thread nD τ) (B .ps) fullShare (st .ps)
      ∗ owns (c : Thread nD τ) (B .g) fullShare (st .g)
      ∗ owns (c : Thread nD τ) (B .cen) fullShare (st .cen)
      ∗ owns (c : Thread nD τ) (B .row) fullShare (st .row)
      ∗ owns (c : Thread nD τ) (B .pair) fullShare (st .pair)
      ∗ owns (c : Thread nD τ) (B .bc) fullShare (st .bc)
      ∗ owns (c : Thread nD τ) (B .xt) fullShare (st .xt)
      ∗ owns (c : Thread nD τ) (B .v) fullShare (st .v)
      ∗ owns (c : Thread nD τ) (B .fac) fullShare (st .fac)
      ∗ owns (c : Thread nD τ) (B .s) fullShare (st .s)
      ∗ owns (c : Thread nD τ) (B .acc) fullShare (st .acc)
      ∗ owns (c : Thread nD τ) (B .m) fullShare (st .m)
      ∗ owns (c : Thread nD τ) (B .xsum) fullShare (st .xsum)
      ∗ owns (c : Thread nD τ) (B .par) fullShare (st .par)
      ∗ owns (c : Thread nD τ) (B .bct) fullShare (st .bct)) := by
  unfold Own
  rw [BI.bigSep_eq_bigSepL_of_eq [.tc, .ts, .sc, .ss, .pc, .ps, .g, .cen, .row, .pair, .bc, .xt, .v, .fac, .s, .acc, .m, .xsum, .par, .bct] (by decide) (by decide)]
  rfl

/-- The whole body leaves the inputs as they were. -/
theorem body_keeps (hB : ∀ i, (B i).IsWhole) (inv : F .f32) (s0 : St F) :
    Wp defs B c s0 (body B hB inv) fun s => ∀ i, isIn i = true → s i = s0 i :=
  fr_body (S := fun i => !isIn i) ⟨rfl, rfl, rfl, rfl, rfl, rfl, rfl, rfl, rfl⟩ rfl rfl rfl
    (fun s h i hi => h i (by simp [hi])) s0 (Only.refl _ _)

end Dino
-- ==== Proof.Match.lean ====
/-
  The printed program is the one of `Proof/Body.lean` and `Proof/Whole.lean`.

  Between two loops the printed statements and the structured ones reduce to the same effects, which the kernel checks
  by computing; a loop is opaque, so what precedes one is taken off statement by statement and the binds around it are
  associated by hand.
-/
module

public import proofs.«01_k».proof.Kernel
public import proofs.«01_k».proof.Proof.Gen.Kernel
public import proofs.«01_k».proof.Proof.Whole
public import Idealize.ShloMosaic.Lib.Pipeline.Regions

@[expose] public section

set_option maxRecDepth 100000

noncomputable section

namespace Dino.Kernel

open Cert.Kernel Cert.Kernel.Facts₀ Idealize.ShloMosaic Idealize.SL.Sem Idealize.ShloMosaic.Pipeline

variable {F : FTy → Type} [FloatOps F]

instance gains : Dino.Gains F := ⟨Scalar.ofBits .f32 0x421044FE#32, Scalar.ofBits .f32 0x4166D4CA#32, Scalar.ofBits .f32 0x3F317218#32⟩

/-- Take one statement off both sides. -/
theorem peel {E : Type → Type _} {α β γ : Type} {e e' : E β} {c : β → Prog E γ} {K : γ → Prog E α} {k' : β → Prog E α}
    (he : e = e') (hk : ∀ x, c x >>= K = k' x) : (Prog.lift e >>= c) >>= K = Prog.op e' k' := by
  subst he; exact congrArg _ (funext hk)

/-- Take one value returned by a part into what follows it. -/
theorem step {E : Type → Type _} {α β : Type} {a : β} {K : β → Prog E α} {r : Prog E α} (h : K a = r) :
    (pure a : Prog E β) >>= K = r := h

/-- Associate a part's bind. -/
theorem assoc {E : Type → Type _} {α β γ : Type} {p : Prog E β} {f : β → Prog E γ} {g : γ → Prog E α} {r : Prog E α}
    (h : (p >>= fun a => f a >>= g) = r) : p >>= f >>= g = r := (Prog.bind_assoc p f g).trans h

/-- A loop and what follows it. -/
theorem loops {E : Type → Type _} {α β : Type} {p p' : Prog E β} {f f' : β → Prog E α} (h : p = p') (hf : f = f') :
    p >>= f = p' >>= f' := by rw [h, hf]

/-! ## Up to the main loop -/

theorem pre_eq (B : Refs sig) (hB : ∀ i, (B i).IsWhole) {β : Type} (K : BitVec 32 → Prog (TpuEff nD τ sig (Elt F) Λ₀ .tc) β)
    (G : β → Prog (TpuEff nD τ sig (Elt F) Λ₀ .tc) PUnit) :
    (do
      let v24 : FVec F S8x512 .f32 ← k0_part696 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct)
      let v56 : FVec F S8x512 .f32 ← k0_part697 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v24
      let ⟨v88, v90⟩ : Σ' (v88 : FVec F S8x512 .f32), FVec F S256x512 .fp8e4m3 ← k0_part698 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v56
      let ⟨v120, v122⟩ : Σ' (v120 : FVec F S8x512 .f32), FVec F S256x512 .fp8e4m3 ← k0_part699 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v88 v90
      let v153 : FVec F S512x256 .bf16 ← k0_part700 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v122
      let v182 : FVec F S256x512 .fp8e4m3 ← k0_part701 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v153
      let v213 : FVec F S512x256 .bf16 ← k0_part702 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v182
      let v242 : FVec F S256x512 .fp8e4m3 ← k0_part703 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v213
      let v276 : FVec F S4x128 .f32 ← k0_part704 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v120 v242
      let ⟨v288, v289, v306, v310⟩ : Σ' (v288 : FVec F S128x8 .f32) (v289 : Vec F S1x512 .f32) (v306 : FVec F S128x128 .f32), FVec F S128x128 .f32 ← k0_part705 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v276
      let ⟨v344, v348, v357⟩ : Σ' (v344 : FVec F S128x128 .f32) (v348 : FVec F S128x128 .f32), FVec F S128x128 .bf16 ← k0_part706 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v289 v306 v310
      let v398 : FVec F S128x1 .f32 ← k0_part707 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v289 v344 v348 v357
      let v430 : FVec F S128x8 .f32 ← k0_part708 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v398
      let ⟨v431, v467, v471⟩ : Σ' (v431 : Vec F S1x512 .f32) (v467 : FVec F S128x128 .f32), FVec F S128x128 .f32 ← k0_part709 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430
      let ⟨v509, v518⟩ : Σ' (v509 : FVec F S128x128 .f32), FVec F S128x1 .f32 ← k0_part710 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430 v431 v467 v471
      let c0_i32_345 : BitVec 32 ← k0_part711 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430 v509 v518
      K c0_i32_345) >>= G = Dino.before B hB (Scalar.ofBits .f32 0x3A2AAAAB#32) (K 0#32 >>= G) := by
  chain_rfl

/-! ## The main loop -/

theorem trip_eq (B : Refs sig) (hB : ∀ i, (B i).IsWhole) {α : Type} (K : _ → Prog (TpuEff nD τ sig (Elt F) Λ₀ .tc) α) :
    k0_part712 (F := F) (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) 0#32 >>= K
      = Dino.forN 32#32 ok32 (fun t => Dino.trip B hB (Scf.iv 0#32 1#32 t) (next_ok ⟨t, t.2.trans_eq trips32⟩) (.ret ⟨⟩)) >>= fun _ =>
        Dino.ldAcc B 2 0 0 fun o0 => Dino.ldAcc B 2 0 1 fun o1 => Dino.ldAcc B 2 0 2 fun o2 => Dino.ldAcc B 2 0 3 fun o3 =>
        Dino.ldAcc B 2 0 4 fun o4 => Dino.ldAcc B 2 0 5 fun o5 => Dino.ldAcc B 2 0 6 fun o6 => Dino.ldAcc B 2 0 7 fun o7 =>
        Dino.ldAcc B 2 0 8 fun o8 => K ⟨o0, o1, o2, o3, o4, o5, o6, o7, o8⟩ := by
  unfold k0_part712
  refine assoc (loops (congrArg _ (funext fun t => funext fun _ => ?_)) ?_)
  · chain_rfl
  · chain_rfl

/-! ## The second pass -/

/-- The second pass as printed. -/
def again (B : Refs sig) (hB : ∀ i, (B i).IsWhole) : Prog (TpuEff nD τ sig (Elt F) Λ₀ .tc) PUnit := do
    let ⟨v5320, v5321, v5381, v5383, cst_3783⟩ : Σ' (v5320 : IVec S8x128 32) (v5321 : IVec S8x128 32) (v5381 : FVec F S8x128 .f32) (v5383 : FVec F S1x1 .f32), F .f32 ← k0_part695 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct)
    have v5384 : FVec F S1x1 .f32 := broadcast S1x1 cst_3783
    have v5385 : FVec F S1x1 .f32 := mulf v5383 v5384
    let c1_i32_3784 : BitVec 32 := 1#32
    have v5386 : IVec S8x128 32 := broadcast S8x128 c1_i32_3784
    have v5387 : IVec S8x128 1 := cmpi .eq v5320 v5386
    let c3_i32_3785 : BitVec 32 := 3#32
    have v5388 : IVec S8x128 32 := broadcast S8x128 c3_i32_3785
    have v5389 : IVec S8x128 1 := cmpi .eq v5321 v5388
    have v5390 : IVec S8x128 1 := andi v5387 v5389
    have v5391 : FVec F S1x1 .f32 := shapeCast S1x1 v5385 (by decide)
    have v5392 : FVec F S8x128 .f32 := broadcastTo S8x128 v5391 (by decide)
    have v5393 : FVec F S8x128 .f32 := select v5390 v5392 v5381
    have v5394 : FVec F S2x4 .f32 := extractStridedSlice S2x4 ![0, 0] v5393 (by decide)
    let c0_3786 : Index := 0#32
    let c0_3787 : Index := 0#32
    let v5395 : Vec F S2x4 .f32 ← Prog.lift (.load (B .pair) (Rect.unit (s := S2x4) ![0, 0] S2x4.size (by decide)).toLoadRect (View.loadsAt_vmem (by decide)))
    Prog.lift (.store (B .pair) (Rect.unit (s := S2x4) ![0, 0] S2x4.size (by decide)) v5394 Finset.univ (View.stores_vmem_bits_univ (by decide) rfl) (.inl rfl))
    pure ⟨⟩

theorem chunk_pre (B : Refs sig) (hB : ∀ i, (B i).IsWhole) {α : Type} (k0_t2 : Fin k0_t2_loop.trips)
    (K : FVec F S256x512 .bf16 → Prog (TpuEff nD τ sig (Elt F) Λ₀ .tc) α) :
    (do
      let ⟨arg20, v5397, v5419, v5420, v5421, v5422, v5430, v5431⟩ : Σ' (arg20 : BitVec 32) (v5397 : BitVec 32) (v5419 : FVec F S128x8 .f32) (v5420 : Vec F S1x512 .f32) (v5421 : FVec F S128x128 .f32) (v5422 : FVec F S128x128 .f32) (v5430 : FVec F S128x128 .bf16), FVec F S128x128 .bf16 ← k0_part663 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) 0#32 1#32 k0_t2
      let ⟨v5458, v5462, v5472⟩ : Σ' (v5458 : FVec F S128x128 .f32) (v5462 : FVec F S128x128 .f32), FVec F S128x128 .bf16 ← k0_part664 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5397 v5419 v5420 v5421 v5422 v5430 v5431
      let ⟨v5511, v5521⟩ : Σ' (v5511 : FVec F S128x1 .f32), FVec F S128x128 .f32 ← k0_part665 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5397 v5419 v5420 v5458 v5462 v5472
      let ⟨v5548, v5556⟩ : Σ' (v5548 : BitVec 32), FVec F S4x128 .f32 ← k0_part666 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 arg20 v5419 v5511 v5521
      let ⟨v5570, v5571, v5589, v5593, v5594⟩ : Σ' (v5570 : FVec F S128x8 .f32) (v5571 : Vec F S1x512 .f32) (v5589 : FVec F S128x128 .f32) (v5593 : FVec F S128x128 .f32), BitVec 32 ← k0_part667 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5548 v5556
      let ⟨v5629, v5633, v5637, v5641⟩ : Σ' (v5629 : FVec F S128x128 .f32) (v5633 : FVec F S128x128 .f32) (v5637 : Vec F S128x128 .fp8e4m3), FVec F S128x128 .bf16 ← k0_part668 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5548 v5570 v5571 v5589 v5593 v5594
      let v5662 : FVec F S128x1 .f32 ← k0_part669 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5548 v5570 v5571 v5629 v5633 v5637 v5641
      let ⟨v5707, v5709, cst_3929⟩ : Σ' (v5707 : FVec F S256x512 .bf16) (v5709 : FVec F S512x256 .bf16), FVec F S256x256 .f32 ← k0_part670 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5570 v5662
      let v5731 : FVec F S256x512 .bf16 ← k0_part671 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5707 v5709 cst_3929
      K v5731) =
    Dino.prep B hB 0 (sameGroup (Scf.iv 0#32 1#32 k0_t2) 0#32) (sameGroup (Scf.iv 0#32 1#32 k0_t2) 1#32)
      (same_ok ⟨k0_t2, k0_t2.2.trans_eq trips64⟩ 0) (same_ok ⟨k0_t2, k0_t2.2.trans_eq trips64⟩ 1) (
    Dino.logitsOf B 0 0 0 4 0 (by decide) <|
    Dino.ld B .v ![0, 0, 0] S1x256x512.size (inb_v 0) (by decide) fun v =>
    K (shapeCast (s := S1x256x512) S256x512 v (by decide))) := by
  chain_rfl

theorem again_eq (B : Refs sig) (hB : ∀ i, (B i).IsWhole) : again (F := F) B hB = Dino.redo B hB := by
  unfold again k0_part695 k0_part677
  refine assoc ?_
  refine assoc ?_
  iterate 4 (refine peel ?he (fun _ => ?_); (case he => chain_rfl))
  refine assoc (loops (congrArg _ (funext fun t => funext fun _ => ?_)) (funext fun _ => ?_))
  · refine (chunk_pre B hB t _).trans ?_
    refine congrArg (Dino.prep B hB 0 _ _ _ _) (congrArg (Dino.logitsOf B 0 0 0 4 0 _) ?_)
    refine congrArg (Dino.ld B .v _ _ _ _) (funext fun _ => ?_)
    unfold k0_part672
    iterate 7 (refine peel ?he (fun _ => ?_); (case he => chain_rfl))
    refine assoc (loops (congrArg _ (funext fun t => funext fun _ => ?_)) (funext fun _ => ?_))
    · chain_rfl
    iterate 3 (refine peel ?he (fun _ => ?_); (case he => chain_rfl))
    refine step ?_
    unfold k0_part673
    iterate 11 (refine peel ?he (fun _ => ?_); (case he => chain_rfl))
    refine step ?_
    unfold k0_part674
    iterate 10 (refine peel ?he (fun _ => ?_); (case he => chain_rfl))
    refine assoc (loops (congrArg _ (funext fun t => funext fun _ => ?_)) (funext fun _ => ?_))
    · chain_rfl
    iterate 1 (refine peel ?he (fun _ => ?_); (case he => chain_rfl))
    refine step ?_
    unfold k0_part675
    iterate 12 (refine peel ?he (fun _ => ?_); (case he => chain_rfl))
    refine step ?_
    unfold k0_part676
    iterate 11 (refine peel ?he (fun _ => ?_); (case he => chain_rfl))
    refine step ?_
    refine loops (congrArg _ (funext fun t => funext fun _ => ?_)) rfl
    chain_rfl
  · chain_rfl

/-! ## The whole -/

theorem body_eq (B : Refs sig) (hB : ∀ i, (B i).IsWhole) :
    cc0_dino_loss (F := F) (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) = Dino.body B hB (Scalar.ofBits .f32 0x3A2AAAAB#32) := by
  unfold cc0_dino_loss k0_part833
  refine (pre_eq B hB _ _).trans (congrArg _ ?_)
  refine assoc ((trip_eq B hB _).trans (loops rfl (funext fun _ => ?_)))
  rw [← again_eq]
  chain_rfl

end Dino.Kernel

end
-- ==== Proof.Run.lean ====
/-
  `Kernel`'s run: the body's triple (`Proof/Untouched.lean`) put under the pipeline's one grid point, and the launch.

  The three results are forgotten here: nothing is said of what the body leaves in them.
-/
module

public import proofs.«01_k».proof.Proof.Untouched
public import proofs.«01_k».proof.Proof.Match
public import proofs.«01_k».proof.Proof.Gen.Kernel.Frame
public import Idealize.ShloMosaic.Lib.Pipeline.Frame
public import Idealize.ShloMosaic.Lib.Tactic

@[expose] public section

noncomputable section

namespace Dino.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The buffers the body is handed -/

def bufs (t : Fin cfg0.N) : Refs sig
  | .tc => st0_0 t
  | .ts => st0_1 t
  | .sc => st0_2 t
  | .ss => st0_3 t
  | .pc => st0_4 t
  | .ps => st0_5 t
  | .g => st0_6 t
  | .cen => st0_7 t
  | .row => st0_8 t
  | .pair => st0_9 t
  | .bc => st0_10 t
  | .xt => Memref.whole cc0_scratch0
  | .v => Memref.whole cc0_scratch1
  | .fac => Memref.whole cc0_scratch2
  | .s => Memref.whole cc0_scratch3
  | .acc => Memref.whole cc0_scratch4
  | .m => Memref.whole cc0_scratch5
  | .xsum => Memref.whole cc0_scratch6
  | .par => Memref.whole cc0_scratch7
  | .bct => Memref.whole cc0_scratch8

theorem bufs_whole (t : Fin cfg0.N) : ∀ i, (bufs t i).IsWhole
  | .tc => hstage0_0 0
  | .ts => hstage0_1 0
  | .sc => hstage0_2 0
  | .ss => hstage0_3 0
  | .pc => hstage0_4 0
  | .ps => hstage0_5 0
  | .g => hstage0_6 0
  | .cen => hstage0_7 0
  | .row => hstage0_8 0
  | .pair => hstage0_9 0
  | .bc => hstage0_10 0
  | .xt => Memref.isWhole_whole _
  | .v => Memref.isWhole_whole _
  | .fac => Memref.isWhole_whole _
  | .s => Memref.isWhole_whole _
  | .acc => Memref.isWhole_whole _
  | .m => Memref.isWhole_whole _
  | .xsum => Memref.isWhole_whole _
  | .par => Memref.isWhole_whole _
  | .bct => Memref.isWhole_whole _

theorem bodyAt_eq (t : Fin cfg0.N) : bodyAt0 (F := F) t = Dino.body (bufs t) (bufs_whole t) (Scalar.ofBits .f32 0x3A2AAAAB#32) := body_eq (bufs t) (bufs_whole t)

/-- What the buffers hold when the body is called: the inputs their blocks, the others anything. -/
def start (c : Dev nD) (t : Fin cfg0.N) (x_row : Ref'.row.shape.Idx → Elt F Ref'.row.elt) (x_pair : Ref'.pair.shape.Idx → Elt F Ref'.pair.elt) (x_bc : Ref'.bc.shape.Idx → Elt F Ref'.bc.elt) (x_xt : Ref'.xt.shape.Idx → Elt F Ref'.xt.elt) (x_v : Ref'.v.shape.Idx → Elt F Ref'.v.elt) (x_fac : Ref'.fac.shape.Idx → Elt F Ref'.fac.elt) (x_s : Ref'.s.shape.Idx → Elt F Ref'.s.elt) (x_acc : Ref'.acc.shape.Idx → Elt F Ref'.acc.elt) (x_m : Ref'.m.shape.Idx → Elt F Ref'.m.elt) (x_xsum : Ref'.xsum.shape.Idx → Elt F Ref'.xsum.elt) (x_par : Ref'.par.shape.Idx → Elt F Ref'.par.elt) (x_bct : Ref'.bct.shape.Idx → Elt F Ref'.bct.elt) : St F
  | .tc => iblk m c 0 t
  | .ts => iblk m c 1 t
  | .sc => iblk m c 2 t
  | .ss => iblk m c 3 t
  | .pc => iblk m c 4 t
  | .ps => iblk m c 5 t
  | .g => iblk m c 6 t
  | .cen => iblk m c 7 t
  | .row => x_row
  | .pair => x_pair
  | .bc => x_bc
  | .xt => x_xt
  | .v => x_v
  | .fac => x_fac
  | .s => x_s
  | .acc => x_acc
  | .m => x_m
  | .xsum => x_xsum
  | .par => x_par
  | .bct => x_bct

/-! ## The proof data -/

/-- The results, forgotten. -/
def forgets : Fin 11 → Bool
  | 8 | 9 | 10 => true
  | _ => false

def dats (_ : Fin 1) (c : Dev nD) : Dat τ (Elt F) Unit ℕ (UR sig nD τ) ℕ cfg0 c where
  A w := V m c (Pipeline.arrRef spec0 w)
  after
    | 8 => Pipeline.Dat.unnamed 8
    | 9 => Pipeline.Dat.unnamed 9
    | 10 => Pipeline.Dat.unnamed 10
    | 0 => iblk m c 0
    | 1 => iblk m c 1
    | 2 => iblk m c 2
    | 3 => iblk m c 3
    | 4 => iblk m c 4
    | 5 => iblk m c 5
    | 6 => iblk m c 6
    | 7 => iblk m c 7
  Φ _ := Pipeline.ΦA spec0 c
  q _ := fullShare
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

/-- The invariant: the scratch buffers at anything, the generator register at some state. -/
theorem PhiA_eq (c : Dev nD) :
    (Pipeline.ΦA spec0 c : sProp 𝕄)
      = iprop(((∃ f, owns (c : Thread nD τ) (Memref.whole cc0_scratch0) fullShare f)
          ∗ (∃ f, owns (c : Thread nD τ) (Memref.whole cc0_scratch1) fullShare f)
          ∗ (∃ f, owns (c : Thread nD τ) (Memref.whole cc0_scratch2) fullShare f)
          ∗ (∃ f, owns (c : Thread nD τ) (Memref.whole cc0_scratch3) fullShare f)
          ∗ (∃ f, owns (c : Thread nD τ) (Memref.whole cc0_scratch4) fullShare f)
          ∗ (∃ f, owns (c : Thread nD τ) (Memref.whole cc0_scratch5) fullShare f)
          ∗ (∃ f, owns (c : Thread nD τ) (Memref.whole cc0_scratch6) fullShare f)
          ∗ (∃ f, owns (c : Thread nD τ) (Memref.whole cc0_scratch7) fullShare f)
          ∗ (∃ f, owns (c : Thread nD τ) (Memref.whole cc0_scratch8) fullShare f)) ∗ ∃ r, prngReg c r) := by
  unfold Pipeline.ΦA; rw [scopedRest0_eq]; simp only [owns_whole]; try rfl

set_option maxHeartbeats 2000000 in
/-- The body's triple at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq, bodyAt_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  simp only [before0_7_of m (dats m 0 c) (A_eq m c 7) (fun _ => rfl) t]
  iintro ⟨⟨⟨⟨%x11, H11⟩, ⟨%x12, H12⟩, ⟨%x13, H13⟩, ⟨%x14, H14⟩, ⟨%x15, H15⟩, ⟨%x16, H16⟩, ⟨%x17, H17⟩, ⟨%x18, H18⟩, ⟨%x19, H19⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%x8, H8⟩, ⟨%x9, H9⟩, ⟨%x10, H10⟩⟩
  have hw := body_keeps (defs := defs₀ (F := F)) (c := c) (bufs_whole t) (Scalar.ofBits .f32 0x3A2AAAAB#32) (start m c t x8 x9 x10 x11 x12 x13 x14 x15 x16 x17 x18 x19)
  unfold Wp at hw
  simp only [own_eq] at hw
  iapply (wp_wand_r frame (wpE (defs₀ (F := F)) Variants.none c none) Set.univ)
  isplitl [H0 H1 H2 H3 H4 H5 H6 H7 H8 H9 H10 H11 H12 H13 H14 H15 H16 H17 H18 H19]
  · iapply hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %_ ⟨%s', %hs, H0, H1, H2, H3, H4, H5, H6, H7, H8, H9, H10, H11, H12, H13, H14, H15, H16, H17, H18, H19⟩
  isplitl [Hg H11 H12 H13 H14 H15 H16 H17 H18 H19]
  · isplitr [Hg]; swap; · iexact Hg
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  isplitl [HO]; · iexact HO
  isplitl [H0]
  · iapply (show (owns (c : Thread nD τ) (st0_0 t) fullShare (s' .tc) : sProp 𝕄) ⊢ owns (c : Thread nD τ) (st0_0 t) fullShare ((dats m 0 c).after 0 t) from by
      rw [hs .tc rfl]; exact .rfl)
    iexact H0
  isplitl [H1]
  · iapply (show (owns (c : Thread nD τ) (st0_1 t) fullShare (s' .ts) : sProp 𝕄) ⊢ owns (c : Thread nD τ) (st0_1 t) fullShare ((dats m 0 c).after 1 t) from by
      rw [hs .ts rfl]; exact .rfl)
    iexact H1
  isplitl [H2]
  · iapply (show (owns (c : Thread nD τ) (st0_2 t) fullShare (s' .sc) : sProp 𝕄) ⊢ owns (c : Thread nD τ) (st0_2 t) fullShare ((dats m 0 c).after 2 t) from by
      rw [hs .sc rfl]; exact .rfl)
    iexact H2
  isplitl [H3]
  · iapply (show (owns (c : Thread nD τ) (st0_3 t) fullShare (s' .ss) : sProp 𝕄) ⊢ owns (c : Thread nD τ) (st0_3 t) fullShare ((dats m 0 c).after 3 t) from by
      rw [hs .ss rfl]; exact .rfl)
    iexact H3
  isplitl [H4]
  · iapply (show (owns (c : Thread nD τ) (st0_4 t) fullShare (s' .pc) : sProp 𝕄) ⊢ owns (c : Thread nD τ) (st0_4 t) fullShare ((dats m 0 c).after 4 t) from by
      rw [hs .pc rfl]; exact .rfl)
    iexact H4
  isplitl [H5]
  · iapply (show (owns (c : Thread nD τ) (st0_5 t) fullShare (s' .ps) : sProp 𝕄) ⊢ owns (c : Thread nD τ) (st0_5 t) fullShare ((dats m 0 c).after 5 t) from by
      rw [hs .ps rfl]; exact .rfl)
    iexact H5
  isplitl [H6]
  · iapply (show (owns (c : Thread nD τ) (st0_6 t) fullShare (s' .g) : sProp 𝕄) ⊢ owns (c : Thread nD τ) (st0_6 t) fullShare ((dats m 0 c).after 6 t) from by
      rw [hs .g rfl]; exact .rfl)
    iexact H6
  isplitl [H7]
  · iapply (show (owns (c : Thread nD τ) (st0_7 t) fullShare (s' .cen) : sProp 𝕄) ⊢ owns (c : Thread nD τ) (st0_7 t) fullShare ((dats m 0 c).after 7 t) from by
      rw [hs .cen rfl]; exact .rfl)
    iexact H7
  isplitl [H8]; · iexists _; iexact H8
  isplitl [H9]; · iexists _; iexact H9
  iexists _; iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

-- the run theorem's implicit arguments are found by unifying its conclusion with this statement, which unifies only
-- when unification may unfold plain definitions in a metavariable's type
set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

theorem kept {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    (Pipeline.RDat.FramePost.arr_in h c 3 rfl).trans (V_main_arg3 m c),
    (Pipeline.RDat.FramePost.arr_in h c 4 rfl).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Dino.Kernel
-- ==== Proof.Equation.lean ====
/-
  The equation between the two orders of the batch centre, over the extended reals.

  The reference takes each teacher row's product with a prototype, weights it and averages over the rows. The kernel
  averages the rows first and takes one product. Both are the same sum of products; what is to be seen is that nothing
  infinite comes in the way. Where some scaled code of the prototype is infinite its norm is infinite, its weight is zero,
  and so are both sides. Where none is, everything is a real number.
-/
module

public import Idealize.ShloMosaic.PureOps.Ideal

@[expose] public section

noncomputable section

namespace Dino

open Idealize.ShloMosaic

/-- The length a prototype is divided by: its norm, or one where that is not positive. -/
def length {δ : Type} [Fintype δ] (v : δ → EReal) : EReal :=
  Scalar.select (Ideal.cmp .ogt (Ideal.sqrt (∑ d, v d * v d)) 0) (Ideal.sqrt (∑ d, v d * v d)) 1

/-- The prototype's weight. -/
def weightOf {δ : Type} [Fintype δ] (g : EReal) (v : δ → EReal) : EReal := Ideal.div g (length v)

/-- An extended real that is a real. -/
def Fin' (x : EReal) : Prop := x ≠ ⊥ ∧ x ≠ ⊤

theorem Fin'.lift {x : EReal} (h : Fin' x) : ∃ r : ℝ, x = (r : EReal) := ⟨x.toReal, (EReal.coe_toReal h.2 h.1).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sq_nonneg' (x : EReal) : 0 ≤ x * x := by
  induction x with
  | bot => simp
  | top => simp
  | coe r => rw [← EReal.coe_mul]; exact_mod_cast mul_self_nonneg r

/-- Where a scaled code is infinite the weight is zero. -/
theorem weight_infinite {δ : Type} [Fintype δ] (g : EReal) (v : δ → EReal) {d : δ} (hd : ¬Fin' (v d)) : weightOf g v = 0 := by
  have ht : v d * v d = ⊤ := by
    unfold Fin' at hd
    by_cases h : v d = ⊥
    · rw [h]; simp
    · have : v d = ⊤ := by by_contra h'; exact hd ⟨h, h'⟩
      rw [this]; simp
  have hs : (∑ d, v d * v d) = ⊤ := by
    refine top_le_iff.mp ?_
    rw [← ht]
    exact Finset.single_le_sum (f := fun d => v d * v d) (fun d _ => sq_nonneg' (v d)) (Finset.mem_univ d)
  have hl : length v = ⊤ := by
    unfold length
    rw [hs, show Ideal.sqrt ⊤ = ⊤ from rfl,
      show Ideal.cmp .ogt ⊤ 0 = 1#1 from by simp only [Ideal.cmp, EReal.zero_lt_top, decide_true]; rfl]
    rfl
  unfold weightOf
  rw [hl]
  simp [Ideal.div]

/-- Where none is the weight is a real. -/
theorem weight_finite {δ : Type} [Fintype δ] {g : EReal} (hg : Fin' g) (v : δ → ℝ) :
    ∃ w : ℝ, weightOf g (fun d => (v d : EReal)) = w := by
  obtain ⟨g, rfl⟩ := hg.lift
  have hs : (∑ d, (v d : EReal) * (v d : EReal)) = ((∑ d, v d * v d : ℝ) : EReal) := by
    rw [coe_sum]; rfl
  have hn : ¬(∑ d, v d * v d : ℝ) < 0 := not_lt.mpr (Finset.sum_nonneg fun d _ => mul_self_nonneg (v d))
  have hq : Ideal.sqrt ((∑ d, v d * v d : ℝ) : EReal) = (Real.sqrt (∑ d, v d * v d) : EReal) := by
    show (if _ < 0 then _ else _) = _
    rw [if_neg hn]
  unfold weightOf length
  rw [hs, hq]
  by_cases h : (0 : EReal) < (Real.sqrt (∑ d, v d * v d) : EReal)
  · have : Ideal.cmp .ogt (Real.sqrt (∑ d, v d * v d) : EReal) 0 = 1#1 := by simp only [Ideal.cmp, h, decide_true]; rfl
    rw [this]
    refine ⟨g * (Real.sqrt (∑ d, v d * v d))⁻¹, ?_⟩
    show Ideal.div _ (Real.sqrt (∑ d, v d * v d) : EReal) = _
    unfold Ideal.div
    rw [if_neg h.ne', ← EReal.coe_inv, ← EReal.coe_mul]
  · have : Ideal.cmp .ogt (Real.sqrt (∑ d, v d * v d) : EReal) 0 = 0#1 := by simp only [Ideal.cmp, h, decide_false]; rfl
    rw [this]
    refine ⟨g, ?_⟩
    show Ideal.div _ (1 : EReal) = _
    unfold Ideal.div
    simp

/-- **The two orders agree.** -/
theorem centre_eq {δ ι : Type} [Fintype δ] [Fintype ι] (v : δ → EReal) (c : ι → δ → EReal) (t : ι → EReal) (g : EReal) (n : ℝ) (hn : n ≠ 0)
    (hc : ∀ i d, Fin' (c i d)) (ht : ∀ i, Fin' (t i)) (hg : Fin' g) :
    (∑ d, v d * ((∑ i, t i * c i d) * ((1 / n : ℝ) : EReal))) * weightOf g v
      = Ideal.div (∑ i, (∑ d, c i d * v d) * t i * weightOf g v) (n : EReal) := by
  have hn' : (n : EReal) ≠ 0 := by exact_mod_cast hn
  by_cases hv : ∀ d, Fin' (v d)
  · choose v' hv' using fun d => (hv d).lift
    choose c' hc' using fun i d => (hc i d).lift
    choose t' ht' using fun i => (ht i).lift
    obtain rfl : v = fun d => (v' d : EReal) := funext hv'
    obtain rfl : c = fun i d => (c' i d : EReal) := funext fun i => funext (hc' i)
    obtain rfl : t = fun i => (t' i : EReal) := funext ht'
    obtain ⟨w, hw⟩ := weight_finite hg v'
    rw [hw]
    unfold Ideal.div
    rw [if_neg hn']
    simp only [← EReal.coe_mul, ← coe_sum, ← EReal.coe_inv]
    congr 1
    simp only [Finset.sum_mul, Finset.mul_sum]
    rw [Finset.sum_comm]
    refine Finset.sum_congr rfl fun i _ => Finset.sum_congr rfl fun d _ => ?_
    field_simp
  · obtain ⟨d, hd⟩ := not_forall.mp hv
    rw [weight_infinite g v hd]
    simp [Ideal.div, hn']

end Dino
-- ==== Proof.Group.lean ====
/-
  What one group of 128 prototypes puts into its column of the transposed batch centre, over the extended reals.
-/
module

public import proofs.«01_k».proof.Proof.Whole
public import proofs.«01_k».proof.Proof.Equation
public import Idealize.ShloMosaic.Lib.Pointwise

@[expose] public section

noncomputable section

namespace Dino

open Idealize.ShloMosaic

/-- The group's sums after its four column blocks. -/
abbrev sums4 (codes : Fin 4 → FVec Ideal S128x128 .fp8e4m3) (par : FVec Ideal S128x8 .f32) (xs : FVec Ideal S1x512 .f32) : Sums Ideal :=
  let z : FVec Ideal S128x128 .f32 := broadcast S128x128 (Scalar.ofBits .f32 0x00000000#32)
  let v (kk : Fin 4) := vBlock (codes kk) par kk
  ⟨n2Step (n2Step (n2Step (n2Step z (v 0)) (v 1)) (v 2)) (v 3),
    tmStep xs 3 (tmStep xs 2 (tmStep xs 1 (tmStep xs 0 z (v 0)) (v 1)) (v 2)) (v 3)⟩

/-- What the group stores: its own column, the other columns as they were. -/
abbrev newBct (r : BitVec 32) (codes : Fin 4 → FVec Ideal S128x128 .fp8e4m3) (par : FVec Ideal S128x8 .f32) (xs : FVec Ideal S1x512 .f32)
    (old : FVec Ideal S128x128 .f32) : FVec Ideal S128x128 .f32 :=
  shapeCast (s := S128x128) S128x128
    (select (cmpi .eq (iota .tc S128x128 32 [1] (by decide)) (broadcast S128x128 r))
      (spread (mulf (rowSum (sums4 codes par xs).tm) (weight par (sums4 codes par xs).n2))) old) (by decide)

/-- A scaled code of prototype `i` of the group. -/
def vGroup (codes : Fin 4 → FVec Ideal S128x128 .fp8e4m3) (par : FVec Ideal S128x8 .f32) (i : Fin 128) (d : Fin 512) : EReal :=
  codes ⟨d / 128, by omega⟩ (ix2 i ⟨d % 128, by omega⟩) * par (ix2 i ⟨d / 128, by omega⟩)

/-- A sum over 512 columns, block by block. -/
theorem sum_blocks {M : Type} [AddCommMonoid M] (f : Fin 512 → M) :
    ∑ d, f d = ∑ l : Fin 128, (f ⟨l, by omega⟩ + f ⟨128 + l, by omega⟩ + f ⟨256 + l, by omega⟩ + f ⟨384 + l, by omega⟩) := by
  rw [Finset.sum_add_distrib, Finset.sum_add_distrib, Finset.sum_add_distrib]
  have h1 : ∑ d, f d = (∑ i : Fin 256, f ⟨i, by omega⟩) + ∑ i : Fin 256, f ⟨256 + i, by omega⟩ := Fin.sum_univ_add (a := 256) (b := 256) f
  have h2 : (∑ i : Fin 256, f ⟨i, by omega⟩) = (∑ i : Fin 128, f ⟨i, by omega⟩) + ∑ i : Fin 128, f ⟨128 + i, by omega⟩ :=
    Fin.sum_univ_add (a := 128) (b := 128) fun i : Fin 256 => f ⟨i, by omega⟩
  have h3 : (∑ i : Fin 256, f ⟨256 + i, by omega⟩) = (∑ i : Fin 128, f ⟨256 + i, by omega⟩) + ∑ i : Fin 128, f ⟨384 + i, by omega⟩ := by
    refine (Fin.sum_univ_add (a := 128) (b := 128) fun i : Fin 256 => f ⟨256 + i, by omega⟩).trans ?_
    refine congrArg₂ _ rfl (Finset.sum_congr rfl fun i _ => congrArg f (Fin.ext ?_))
    show 256 + (128 + (i : Nat)) = 384 + i
    omega
  rw [h1, h2, h3]
  simp only [add_assoc]

section
variable (codes : Fin 4 → FVec Ideal S128x128 .fp8e4m3) (par : FVec Ideal S128x8 .f32) (i l : Fin 128)

theorem vGroup_at {d : Fin 512} (kk : Fin 4) (m : Fin 8) (hm : (m : Nat) = kk) (h : (d : Nat) = 128 * kk + l) :
    vGroup codes par i d = codes kk (ix2 i l) * par (ix2 i m) := by
  unfold vGroup
  have h1 : (⟨(d : Nat) / 128, by omega⟩ : Fin 4) = kk := Fin.ext (by show (d : Nat) / 128 = kk; omega)
  have h2 : (⟨(d : Nat) % 128, by omega⟩ : Fin 128) = l := Fin.ext (by show (d : Nat) % 128 = l; omega)
  have h3 : (⟨(d : Nat) / 128, by omega⟩ : Fin 8) = m := Fin.ext (by show (d : Nat) / 128 = m; omega)
  rw [h1, h2, h3]

theorem vGroup_0 (h : (l : Nat) < 512) : vGroup codes par i ⟨l, h⟩ = codes 0 (ix2 i l) * par (ix2 i 0) := vGroup_at codes par i l 0 0 rfl (by simp)
theorem vGroup_1 (h : 128 + (l : Nat) < 512) : vGroup codes par i ⟨128 + l, h⟩ = codes 1 (ix2 i l) * par (ix2 i 1) := vGroup_at codes par i l 1 1 rfl (by simp)
theorem vGroup_2 (h : 256 + (l : Nat) < 512) : vGroup codes par i ⟨256 + l, h⟩ = codes 2 (ix2 i l) * par (ix2 i 2) := vGroup_at codes par i l 2 2 rfl (by simp)
theorem vGroup_3 (h : 384 + (l : Nat) < 512) : vGroup codes par i ⟨384 + l, h⟩ = codes 3 (ix2 i l) * par (ix2 i 3) := vGroup_at codes par i l 3 3 rfl (by simp)
end

/-- The column a group writes. -/
theorem select_column (y n : Fin 128) (a b : EReal) :
    Scalar.select (IntOp.cmpi .eq (BitVec.ofNat 32 y) (BitVec.ofNat 32 n)) a b = if y = n then a else b := by
  have h : IntOp.cmpi .eq (BitVec.ofNat 32 y) (BitVec.ofNat 32 n) = BitVec.ofBool (decide (y = n)) := by
    revert y n; decide +kernel
  rw [h]
  by_cases e : y = n <;> simp [e, Scalar.select]

theorem newBct_apply (n : Fin 128) (codes : Fin 4 → FVec Ideal S128x128 .fp8e4m3) (par : FVec Ideal S128x8 .f32) (xs : FVec Ideal S1x512 .f32)
    (old : FVec Ideal S128x128 .f32) (i y : Fin 128) :
    newBct (BitVec.ofNat 32 n) codes par xs old (ix2 i y)
      = if y = n then (∑ d, vGroup codes par i d * xs (ix2 0 d)) * weightOf (par (ix2 i 4)) (vGroup codes par i) else old (ix2 i y) := by
  unfold weightOf length
  rw [sum_blocks, sum_blocks]
  pointwise [newBct, sums4, spread, rowSum, weight, parCol, vBlock, n2Step, tmStep]
  simp only [vGroup_0, vGroup_1, vGroup_2, vGroup_3, select_column]

end Dino
-- ==== Proof.Cells.lean ====
/-
  Reading and writing a block of a buffer cell by cell, and the body's smallest stores in those terms.
-/
module

public import proofs.«01_k».proof.Proof.Untouched
public import proofs.«01_k».proof.Proof.Group

@[expose] public section

noncomputable section

namespace Dino

open Idealize.ShloMosaic Idealize.SL.Sem

/-! ## Blocks -/

theorem emb_eq {s : Shape} {off size : Fin s.rank → Nat} {inb : ∀ a, off a + size a ≤ s.size a} {x : s.Idx}
    (y : (Rect.unit (s := s) off size inb).shape.Idx) (h : ∀ k, (x k : Nat) = off k + (y k : Nat)) :
    (Rect.unit (s := s) off size inb).emb y = x := by
  funext k
  apply Fin.ext
  rw [Rect.emb_apply, h]
  show off k + 1 * (y k : Nat) = _
  omega

/-- A cell inside the block stored, -/
theorem over_in {β : Type} {s : Shape} {off size : Fin s.rank → Nat} {inb : ∀ a, off a + size a ≤ s.size a}
    (w : (Rect.unit (s := s) off size inb).shape.Idx → β) (f : s.Idx → β) {x : s.Idx}
    (y : (Rect.unit (s := s) off size inb).shape.Idx) (h : ∀ k, (x k : Nat) = off k + (y k : Nat)) :
    over (Rect.unit (s := s) off size inb) w f x = w y := by
  rw [← emb_eq y h, over_emb]

/-- and one outside it. -/
theorem over_out {β : Type} {s : Shape} {off size : Fin s.rank → Nat} {inb : ∀ a, off a + size a ≤ s.size a}
    (w : (Rect.unit (s := s) off size inb).shape.Idx → β) (f : s.Idx → β) {x : s.Idx} (k : Fin s.rank)
    (h : (x k : Nat) < off k ∨ off k + size k ≤ (x k : Nat)) : over (Rect.unit (s := s) off size inb) w f x = f x := by
  refine over_not _ _ _ fun y e => ?_
  have h' := congrArg Fin.val (congrFun e k)
  rw [Rect.emb_apply] at h'
  change off k + 1 * (y k : Nat) = _ at h'
  have := (y k).2
  change (y k : Nat) < size k at this
  omega

/-- A store over the whole buffer. -/
theorem over_all {β : Type} {s : Shape} {off : Fin s.rank → Nat} {inb : ∀ a, off a + s.size a ≤ s.size a}
    (w f : s.Idx → β) (x : s.Idx) : over (Rect.unit (s := s) off s.size inb) w f x = w x :=
  over_in w f x fun k => by have := inb k; omega

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s : St Ideal} {k : PR nD τ sig Λ Ideal PUnit}

/-- A load. -/
theorem wp_ld' {i : Ref'} {off size : Fin i.shape.rank → Nat} {inb : ∀ a, off a + size a ≤ i.shape.size a}
    {pos : 0 < (⟨i.shape.rank, size⟩ : Shape).numel}
    {k : ((blk i off size inb).toLoadRect.shape.Idx → Elt Ideal i.elt) → PR nD τ sig Λ Ideal PUnit}
    (h : Wp defs B c s (k fun y => s i ((blk i off size inb).emb y)) Q) : Wp defs B c s (ld B i off size inb pos k) Q := wp_ld h pos

/-- A load of what is known. -/
theorem wp_ldv {i : Ref'} {off size : Fin i.shape.rank → Nat} {inb : ∀ a, off a + size a ≤ i.shape.size a}
    {pos : 0 < (⟨i.shape.rank, size⟩ : Shape).numel}
    {k : ((blk i off size inb).toLoadRect.shape.Idx → Elt Ideal i.elt) → PR nD τ sig Λ Ideal PUnit}
    {w : (blk i off size inb).toLoadRect.shape.Idx → Elt Ideal i.elt} (hw : (fun y => s i ((blk i off size inb).emb y)) = w)
    (h : Wp defs B c s (k w) Q) : Wp defs B c s (ld B i off size inb pos k) Q := wp_ld (hw ▸ h) pos

/-- A store, the memory after it named. -/
theorem wp_st' {i : Ref'} {off size : Fin i.shape.rank → Nat} {inb : ∀ a, off a + size a ≤ i.shape.size a}
    {ok : ((B i).access (blk i off size inb)).Stores Finset.univ} {w : (blk i off size inb).shape.Idx → Elt Ideal i.elt}
    {k : PR nD τ sig Λ Ideal PUnit} (h : ∀ s1, s1 = set s i (over (blk i off size inb) w (s i)) → Wp defs B c s1 k Q) :
    Wp defs B c s (st B i off size inb ok w k) Q := wp_st (h _ rfl)

/-- Only reference `j`. -/
def one (j : Ref') (i : Ref') : Bool := decide (i = j)

theorem Only.one {i : Ref'} {f : i.shape.Idx → Elt Ideal i.elt} {s1 : St Ideal} (h : s1 = Dino.set s i f) : Only (one i) s s1 :=
  fun j hj => by rw [h]; exact set_other _ _ fun e => by simp [Dino.one, e] at hj

theorem Only.stored {S : Ref' → Bool} {i : Ref'} {f : i.shape.Idx → Elt Ideal i.elt} {s1 : St Ideal} (h : s1 = Dino.set s i f) (hi : S i = true) :
    Only S s s1 := by rw [h]; exact (Only.refl _ _).set hi _

/-! ## The buffers' values -/

abbrev St.vAt (s : St Ideal) (sl : Fin 2) (r : Fin 256) (d : Fin 512) : EReal := (s .v : FVec Ideal S2x256x512 .bf16) (ix3 sl r d)
abbrev St.facAt (s : St Ideal) (sl : Fin 2) (f : Fin 3) (r : Fin 256) (l : Fin 128) : EReal :=
  (s .fac : FVec Ideal S2x3x256x128 .f32) (ix4 sl f r l)
abbrev St.xtAt (s : St Ideal) (x : Fin 6) (b : Fin 3) (d : Fin 512) (q : Fin 256) : EReal :=
  (s .xt : FVec Ideal S6x3x512x256 .bf16) (ix4 x b d q)
abbrev St.sAt (s : St Ideal) (bf : Fin 2) (x : Fin 6) (r q : Fin 256) : EReal :=
  (s .s : FVec Ideal S2x6x256x256 .f32) (ix4 bf x r q)
abbrev St.accAt (s : St Ideal) (b : Fin 3) (a : Fin 12) (u : Fin 8) (q : Fin 256) : EReal :=
  (s .acc : FVec Ideal S3x12x8x256 .f32) (ix4 b a u q)
abbrev St.mAt (s : St Ideal) (b : Fin 3) (x : Fin 6) (u : Fin 8) (q : Fin 256) : EReal :=
  (s .m : FVec Ideal S3x6x8x256 .f32) (ix4 b x u q)

/-! ## Small stores -/

theorem stFac_wp {slot h : Fin 2} {f : Fin 3} {w : FVec Ideal S128x128 .f32}
    (hk : ∀ s', Only (one .fac) s s' → (∀ i l : Fin 128, s'.facAt slot f ⟨128 * h + i, by omega⟩ l = w (ix2 i l)) →
      (∀ sl f' (r : Fin 256) l, ¬(sl = slot ∧ f' = f ∧ (r : Nat) / 128 = h) → s'.facAt sl f' r l = s.facAt sl f' r l) → Wp defs B c s' k Q) :
    Wp defs B c s (stFac B slot h f w k) Q := by
  unfold stFac
  refine wp_ld' <| wp_st' fun s1 h1 => hk s1 (Only.one h1) (fun i l => ?_) fun sl f' r l hn => ?_
  · subst h1
    unfold St.facAt
    rw [set_same]
    refine (over_in _ _ (ix4 0 0 i l) fun k => ?_).trans ?_
    · fin_cases k <;> simp [ix4]
    · pointwise []
  · subst h1
    unfold St.facAt
    rw [set_same]
    by_cases h1 : sl = slot
    · by_cases h2 : f' = f
      · refine over_out _ _ 2 ?_
        have : ¬(r : Nat) / 128 = h := fun e => hn ⟨h1, h2, e⟩
        show (r : Nat) < 128 * h ∨ 128 * (h : Nat) + 128 ≤ r
        omega
      · refine over_out _ _ 1 ?_
        show (f' : Nat) < f ∨ (f : Nat) + 1 ≤ f'
        omega
    · refine over_out _ _ 0 ?_
      show (sl : Nat) < slot ∨ (slot : Nat) + 1 ≤ sl
      omega

theorem stAcc_wp {b : Fin 3} {j : Fin 2} {a : Fin 12} {w : FVec Ideal S8x128 .f32}
    (hk : ∀ s', Only (one .acc) s s' → (∀ (u : Fin 8) (l : Fin 128), s'.accAt b a u ⟨128 * j + l, by omega⟩ = w (ix2 u l)) →
      (∀ b' a' u (q : Fin 256), ¬(b' = b ∧ a' = a ∧ (q : Nat) / 128 = j) → s'.accAt b' a' u q = s.accAt b' a' u q) → Wp defs B c s' k Q) :
    Wp defs B c s (stAcc B b j a w k) Q := by
  unfold stAcc
  refine wp_ld' <| wp_st' fun s1 h1 => hk s1 (Only.one h1) (fun i l => ?_) fun b' a' u q hn => ?_
  · subst h1
    unfold St.accAt
    rw [set_same]
    refine (over_in _ _ (ix4 0 0 i l) fun k => ?_).trans ?_
    · fin_cases k <;> simp [ix4]
    · pointwise []
  · subst h1
    unfold St.accAt
    rw [set_same]
    by_cases h1 : b' = b
    · by_cases h2 : a' = a
      · refine over_out _ _ 3 ?_
        have : ¬(q : Nat) / 128 = j := fun e => hn ⟨h1, h2, e⟩
        show (q : Nat) < 128 * j ∨ 128 * (j : Nat) + 128 ≤ q
        omega
      · refine over_out _ _ 1 ?_
        show (a' : Nat) < a ∨ (a : Nat) + 1 ≤ a'
        omega
    · refine over_out _ _ 0 ?_
      show (b' : Nat) < b ∨ (b : Nat) + 1 ≤ b'
      omega

theorem stM_wp {b : Fin 3} {j : Fin 2} {a : Fin 6} {w : FVec Ideal S8x128 .f32}
    (hk : ∀ s', Only (one .m) s s' → (∀ (u : Fin 8) (l : Fin 128), s'.mAt b a u ⟨128 * j + l, by omega⟩ = w (ix2 u l)) →
      (∀ b' a' u (q : Fin 256), ¬(b' = b ∧ a' = a ∧ (q : Nat) / 128 = j) → s'.mAt b' a' u q = s.mAt b' a' u q) → Wp defs B c s' k Q) :
    Wp defs B c s (stM B b j a w k) Q := by
  unfold stM
  refine wp_ld' <| wp_st' fun s1 h1 => hk s1 (Only.one h1) (fun i l => ?_) fun b' a' u q hn => ?_
  · subst h1
    unfold St.mAt
    rw [set_same]
    refine (over_in _ _ (ix4 0 0 i l) fun k => ?_).trans ?_
    · fin_cases k <;> simp [ix4]
    · pointwise []
  · subst h1
    unfold St.mAt
    rw [set_same]
    by_cases h1 : b' = b
    · by_cases h2 : a' = a
      · refine over_out _ _ 3 ?_
        have : ¬(q : Nat) / 128 = j := fun e => hn ⟨h1, h2, e⟩
        show (q : Nat) < 128 * j ∨ 128 * (j : Nat) + 128 ≤ q
        omega
      · refine over_out _ _ 1 ?_
        show (a' : Nat) < a ∨ (a : Nat) + 1 ≤ a'
        omega
    · refine over_out _ _ 0 ?_
      show (b' : Nat) < b ∨ (b : Nat) + 1 ≤ b'
      omega

/-! ## The products -/

theorem product_apply (v : FVec Ideal S1x256x512 .bf16) (xt : FVec Ideal S1x1x512x256 .bf16) (h1 : S1x256x512.ShapeCasts S256x512)
    (h2 : S1x1x512x256.ShapeCasts S512x256) (h3 : S256x256.ShapeCasts S1x1x256x256) (r q : Fin 256) :
    shapeCast S1x1x256x256 (matmul dotS none (shapeCast S256x512 v h1) (shapeCast S512x256 xt h2) (constant S256x256 .f32 0x00000000#32)) h3
      (ix4 0 0 r q) = ∑ d : Fin 512, v (ix3 0 r d) * xt (ix4 0 0 d q) := by
  pointwise [dotS]

theorem logit_wp {slot : Fin 2} {b : Fin 3} {buf : Fin 2} {x : Fin 6}
    (hk : ∀ s', Only (one .s) s s' → (∀ r q, s'.sAt buf x r q = ∑ d, s.vAt slot r d * s.xtAt x b d q) →
      (∀ bf x' r q, ¬(bf = buf ∧ x' = x) → s'.sAt bf x' r q = s.sAt bf x' r q) → Wp defs B c s' k Q) :
    Wp defs B c s (logit B slot b buf x k) Q := by
  unfold logit
  refine wp_ld' <| wp_ld' <| wp_ld' <| wp_st' fun s1 h1 => hk s1 (Only.one h1) (fun r q => ?_) fun bf x' r q hn => ?_
  · subst h1
    unfold St.sAt
    rw [set_same]
    refine (over_in _ _ (ix4 0 0 r q) fun k => ?_).trans ?_
    · fin_cases k <;> simp [ix4]
    · refine (product_apply _ _ _ _ _ _ _).trans (Finset.sum_congr rfl fun d _ => congrArg₂ (· * ·) (congrArg (s .v) ?_) (congrArg (s .xt) ?_))
      · exact emb_eq _ fun k => by fin_cases k <;> simp [ix3]
      · exact emb_eq _ fun k => by fin_cases k <;> simp [ix4]
  · subst h1
    unfold St.sAt
    rw [set_same]
    by_cases h1 : bf = buf
    · refine over_out _ _ 1 ?_
      have : ¬x' = x := fun e => hn ⟨h1, e⟩
      show (x' : Nat) < x ∨ (x : Nat) + 1 ≤ x'
      omega
    · refine over_out _ _ 0 ?_
      show (bf : Nat) < buf ∨ (buf : Nat) + 1 ≤ bf
      omega

end Dino
-- ==== Proof.Centre.lean ====
/-
  The memory's part of the batch centre: what the body leaves in the buffer `bc`.

  Over the main loop the columns of `bct` fill up: before trip `t` the first `4 t + 2` groups' columns are final. A column
  written a second time (the last trip prepares chunk 63 again) gets the value it had. The rest of the body is passed over.
-/
module

public import proofs.«01_k».proof.Proof.Cells

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {S : Ref' → Bool} {s0 : St Ideal}

/-! ## Steps -/

/-- A load from a buffer that is not passed over reads what it held. -/
theorem fr_ldv {i : Ref'} {off size : Fin i.shape.rank → Nat} {inb : ∀ a, off a + size a ≤ i.shape.size a}
    {pos : 0 < (⟨i.shape.rank, size⟩ : Shape).numel}
    {k : ((blk i off size inb).toLoadRect.shape.Idx → Elt Ideal i.elt) → PR nD τ sig Λ Ideal PUnit} (hi : S i = false)
    (h : Fr S defs B c s0 (k fun y => s0 i ((blk i off size inb).emb y)) Q) : Fr S defs B c s0 (ld B i off size inb pos k) Q := fun s hs =>
  wp_ld (by rw [show s i = s0 i from hs i hi]; exact h s hs) pos

theorem emb_whole2 {n m : Nat} {inb : ∀ a, (![0, 0] : Fin 2 → Nat) a + (⟨2, ![n, m]⟩ : Shape).size a ≤ (⟨2, ![n, m]⟩ : Shape).size a}
    (x : (⟨2, ![n, m]⟩ : Shape).Idx) : (Rect.unit (s := ⟨2, ![n, m]⟩) ![0, 0] (⟨2, ![n, m]⟩ : Shape).size inb).emb x = x := by
  funext a
  apply Fin.ext
  rw [Rect.emb_apply]
  fin_cases a
  · show 0 + 1 * (x 0 : Nat) = x 0
    omega
  · show 0 + 1 * (x 1 : Nat) = x 1
    omega

/-- A store over the whole of a matrix. -/
theorem over_whole2 {β : Type} {n m : Nat} {inb : ∀ a, (![0, 0] : Fin 2 → Nat) a + (⟨2, ![n, m]⟩ : Shape).size a ≤ (⟨2, ![n, m]⟩ : Shape).size a}
    (w f : (⟨2, ![n, m]⟩ : Shape).Idx → β) :
    over (Rect.unit (s := ⟨2, ![n, m]⟩) ![0, 0] (⟨2, ![n, m]⟩ : Shape).size inb) w f = w := by
  funext x
  have e := over_emb (Rect.unit (s := ⟨2, ![n, m]⟩) ![0, 0] (⟨2, ![n, m]⟩ : Shape).size inb) w f x
  rw [emb_whole2] at e
  exact e

/-! ## The formula -/

/-- The scaled codes of prototype `p`, -/
def vProto (st : St Ideal) (p : Fin 16384) (d : Fin 512) : EReal :=
  (st .pc : FVec Ideal S16384x512 .fp8e4m3) (ix2 p d) * (st .ps : FVec Ideal S4x16384 .f32) (ix2 ⟨d / 128, by omega⟩ p)

/-- and its batch centre, from the averaged teacher features `xsum`. -/
def centreOf (st : St Ideal) (n i : Fin 128) : EReal :=
  (∑ d, vProto st ⟨128 * n + i, by omega⟩ d * (st .xsum : FVec Ideal S8x512 .f32) (ix2 0 d))
    * weightOf ((st .g : FVec Ideal S128x128 .f32) (ix2 n i)) (vProto st ⟨128 * n + i, by omega⟩)

/-! ## One group -/

/-- What a group writes. -/
def isPrep : Ref' → Bool
  | .par | .v | .fac | .bct => true
  | _ => false

/-- What it writes besides the parameters and its column. -/
def isVF : Ref' → Bool
  | .v | .fac => true
  | _ => false

theorem rowOf_ofNat (n : Fin 128) : rowOf (BitVec.ofNat 32 n) = n := by revert n; decide
theorem row128_ofNat (n : Fin 128) : row128 (BitVec.ofNat 32 n) = 128 * n := by revert n; decide

/-- The parameters of a group, as its three stores leave them. -/
abbrev parOf (st : St Ideal) (r : BitVec 32) (hr : Group r) : FVec Ideal S8x128 .f32 :=
  over (blk .par ![5, 0] S1x128.size (by decide)) (fun y => st .cen ((blk .cen ![rowOf r, 0] S1x128.size (inb_row hr)).emb y)) <|
  over (blk .par ![4, 0] S1x128.size (by decide)) (fun y => st .g ((blk .g ![rowOf r, 0] S1x128.size (inb_row hr)).emb y)) <|
  over (blk .par ![0, 0] S4x128.size (by decide)) (fun y => st .ps ((blk .ps ![0, row128 r] S4x128.size (inb_ps hr)).emb y)) (st .par)

/-- Its codes. -/
abbrev codesOf (st : St Ideal) (r : BitVec 32) (hr : Group r) (kk : Fin 4) : FVec Ideal S128x128 .fp8e4m3 :=
  fun y => st .pc ((blk .pc ![row128 r, 128 * (kk : Nat)] S128x128.size (inb_pc hr kk)).emb y)

/-- The averaged features it reads. -/
abbrev xsOf (st : St Ideal) : FVec Ideal S1x512 .f32 := fun y => st .xsum ((blk .xsum ![0, 0] S1x512.size (by decide)).emb y)

theorem parOf_scale (st : St Ideal) (n : Fin 128) (hr : Group (BitVec.ofNat 32 n)) (kk : Fin 4) (i : Fin 128) :
    parOf st (BitVec.ofNat 32 n) hr (ix2 ⟨kk, by omega⟩ i) = (st .ps : FVec Ideal S4x16384 .f32) (ix2 kk ⟨128 * n + i, by omega⟩) := by
  refine (over_not _ _ _ fun y e => ?_).trans <| (over_not _ _ _ fun y e => ?_).trans ?_
  · have := congrArg Fin.val (congrFun e 0)
    rw [Rect.emb_apply] at this
    change 5 + 1 * (y 0 : Nat) = kk at this
    omega
  · have := congrArg Fin.val (congrFun e 0)
    rw [Rect.emb_apply] at this
    change 4 + 1 * (y 0 : Nat) = kk at this
    omega
  · have e : (ix2 ⟨kk, by omega⟩ i : S8x128.Idx) = (blk .par ![0, 0] S4x128.size (by decide)).emb (ix2 kk i) := by
      funext a
      apply Fin.ext
      rw [Rect.emb_apply]
      fin_cases a
      · show (kk : Nat) = 0 + 1 * kk
        omega
      · show (i : Nat) = 0 + 1 * i
        omega
    rw [e, over_emb]
    refine congrArg _ ?_
    funext a
    apply Fin.ext
    rw [Rect.emb_apply]
    fin_cases a
    · show 0 + 1 * (kk : Nat) = kk
      omega
    · show row128 (BitVec.ofNat 32 n) + 1 * (i : Nat) = 128 * n + i
      rw [row128_ofNat]
      omega

theorem parOf_g (st : St Ideal) (n : Fin 128) (hr : Group (BitVec.ofNat 32 n)) (i : Fin 128) :
    parOf st (BitVec.ofNat 32 n) hr (ix2 4 i) = (st .g : FVec Ideal S128x128 .f32) (ix2 n i) := by
  refine (over_not _ _ _ fun y e => ?_).trans ?_
  · have := congrArg Fin.val (congrFun e 0)
    rw [Rect.emb_apply] at this
    change 5 + 1 * (y 0 : Nat) = 4 at this
    omega
  · have e : (ix2 4 i : S8x128.Idx) = (blk .par ![4, 0] S1x128.size (by decide)).emb (ix2 0 i) := by
      funext a
      apply Fin.ext
      rw [Rect.emb_apply]
      fin_cases a
      · rfl
      · show (i : Nat) = 0 + 1 * i
        omega
    rw [e, over_emb]
    refine congrArg _ ?_
    funext a
    apply Fin.ext
    rw [Rect.emb_apply]
    fin_cases a
    · show rowOf (BitVec.ofNat 32 n) + 1 * 0 = (n : Nat)
      rw [rowOf_ofNat]
      omega
    · show 0 + 1 * (i : Nat) = i
      omega

theorem codesOf_apply (st : St Ideal) (n : Fin 128) (hr : Group (BitVec.ofNat 32 n)) (kk : Fin 4) (i : Fin 128) (d : Fin 128) :
    codesOf st (BitVec.ofNat 32 n) hr kk (ix2 i d)
      = (st .pc : FVec Ideal S16384x512 .fp8e4m3) (ix2 ⟨128 * n + i, by omega⟩ ⟨128 * kk + d, by omega⟩) := by
  refine congrArg (st .pc) ?_
  funext a
  apply Fin.ext
  rw [Rect.emb_apply]
  fin_cases a
  · show row128 (BitVec.ofNat 32 n) + 1 * (i : Nat) = 128 * n + i
    rw [row128_ofNat]
    omega
  · show 128 * (kk : Nat) + 1 * (d : Nat) = 128 * kk + d
    omega

theorem xsOf_apply (st : St Ideal) (d : Fin 512) : (xsOf st : FVec Ideal S1x512 .f32) (ix2 0 d) = (st .xsum : FVec Ideal S8x512 .f32) (ix2 0 d) := by
  refine congrArg (st .xsum) ?_
  funext a
  apply Fin.ext
  rw [Rect.emb_apply]
  fin_cases a
  · rfl
  · show 0 + 1 * (d : Nat) = d
    omega

/-- A group's column of `bct`. -/
theorem newBct_centre (st : St Ideal) (n : Fin 128) (hr : Group (BitVec.ofNat 32 n)) (old : FVec Ideal S128x128 .f32) (i y : Fin 128) :
    newBct (BitVec.ofNat 32 n) (codesOf st (BitVec.ofNat 32 n) hr)
        (transpose (s := S8x128) S128x8 [1, 0] (parOf st (BitVec.ofNat 32 n) hr) (by decide)) (xsOf st) old (ix2 i y)
      = if y = n then centreOf st n i else old (ix2 i y) := by
  have hv : vGroup (codesOf st (BitVec.ofNat 32 n) hr)
      (transpose (s := S8x128) S128x8 [1, 0] (parOf st (BitVec.ofNat 32 n) hr) (by decide)) i = vProto st ⟨128 * n + i, by omega⟩ := by
    funext d
    have e1 := codesOf_apply st n hr ⟨d / 128, by omega⟩ i ⟨d % 128, by omega⟩
    have e2 : transpose (s := S8x128) S128x8 [1, 0] (parOf st (BitVec.ofNat 32 n) hr) (by decide) (ix2 i ⟨d / 128, by omega⟩)
        = parOf st (BitVec.ofNat 32 n) hr (ix2 ⟨d / 128, by omega⟩ i) := by pointwise []
    have e3 := parOf_scale st n hr ⟨d / 128, by omega⟩ i
    have e4 : (⟨128 * (d / 128 : Nat) + d % 128, by omega⟩ : Fin 512) = d := Fin.ext (by show 128 * (d / 128 : Nat) + d % 128 = d; omega)
    unfold vGroup vProto
    rw [e1, e2, e3]
    show _ * _ = _ * _
    rw [e4]
  have hg : transpose (s := S8x128) S128x8 [1, 0] (parOf st (BitVec.ofNat 32 n) hr) (by decide) (ix2 i 4)
      = (st .g : FVec Ideal S128x128 .f32) (ix2 n i) := by
    refine Eq.trans ?_ (parOf_g st n hr i)
    pointwise []
  rw [newBct_apply, hv, hg]
  unfold centreOf
  rw [Finset.sum_congr rfl fun d _ => congrArg (vProto st ⟨128 * n + i, by omega⟩ d * ·) (xsOf_apply st d)]

end Dino
-- ==== Proof.Prep.lean ====
/-
  One group of 128 prototypes, in full: besides its column of the batch centre, the scaled codes and the three factors the
  group leaves in half `h` of chunk buffer `slot`, the rest of those buffers as it was.
-/
module

public import proofs.«01_k».proof.Proof.Centre

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s : St Ideal}

/-- One block of 128 columns of the scaled codes. -/
theorem vcol_wp {slot h : Fin 2} {kk : Fin 4} {r : BitVec 32} {hr : Group r} {par : FVec Ideal S128x8 .f32}
    {k : FVec Ideal S128x128 .bf16 → PR nD τ sig Λ Ideal PUnit} {codes : FVec Ideal S128x128 .fp8e4m3} (hc : codesOf s r hr kk = codes)
    (hk : ∀ s', Only (one .v) s s' →
      (∀ i l : Fin 128, s'.vAt slot ⟨128 * h + i, by omega⟩ ⟨128 * kk + l, by omega⟩ = codes (ix2 i l) * par (ix2 i ⟨kk, by omega⟩)) →
      (∀ sl (r : Fin 256) (d : Fin 512), ¬(sl = slot ∧ (r : Nat) / 128 = h ∧ (d : Nat) / 128 = kk) → s'.vAt sl r d = s.vAt sl r d) →
      Wp defs B c s' (k (vBlock codes par kk)) Q) :
    Wp defs B c s (vCol B hB slot h kk r hr par k) Q := by
  unfold vCol
  refine wp_ldv hc <| wp_ld' <| wp_st' fun s1 h1 => hk s1 (Only.one h1) (fun i l => ?_) fun sl r' d hn => ?_
  · subst h1
    unfold St.vAt
    rw [set_same]
    refine (over_in _ _ (ix3 0 i l) fun k => ?_).trans ?_
    · fin_cases k <;> simp [ix3]
    · have e (w : FVec Ideal S128x128 .bf16) : shapeCast (s := S128x128) S1x128x128 w (by decide) (ix3 0 i l) = w (ix2 i l) := by
        pointwise []
      refine (e _).trans ?_
      have e2 (w : FVec Ideal S128x128 .fp8e4m3) : vBlock w par kk (ix2 i l) = w (ix2 i l) * par (ix2 i ⟨kk, by omega⟩) := by
        fin_cases kk <;> pointwise [vBlock, parCol] <;> rfl
      exact e2 _
  · subst h1
    unfold St.vAt
    rw [set_same]
    by_cases h1 : sl = slot
    · by_cases h2 : (r' : Nat) / 128 = h
      · refine over_out _ _ 2 ?_
        have : ¬(d : Nat) / 128 = kk := fun e => hn ⟨h1, h2, e⟩
        show (d : Nat) < 128 * kk ∨ 128 * (kk : Nat) + 128 ≤ d
        omega
      · refine over_out _ _ 1 ?_
        show (r' : Nat) < 128 * h ∨ 128 * (h : Nat) + 128 ≤ r'
        omega
    · refine over_out _ _ 0 ?_
      show (sl : Nat) < slot ∨ (slot : Nat) + 1 ≤ sl
      omega

/-- The weight and the centre of prototype `p`. -/
def wt (st : St Ideal) (p : Fin 16384) : EReal :=
  weightOf ((st .g : FVec Ideal S128x128 .f32) (ix2 ⟨p / 128, by omega⟩ ⟨p % 128, by omega⟩)) (vProto st p)
def cenAt (st : St Ideal) (p : Fin 16384) : EReal :=
  (st .cen : FVec Ideal S128x128 .f32) (ix2 ⟨p / 128, by omega⟩ ⟨p % 128, by omega⟩)

/-- The two gains, as extended reals. -/
abbrev tgE : EReal := (Gains.tg : Ideal .f32)
abbrev sgE : EReal := (Gains.sg : Ideal .f32)

/-- Factor `f` of prototype `p`. -/
def facOf (st : St Ideal) (f : Fin 3) (p : Fin 16384) : EReal :=
  match f with
  | 0 => wt st p * tgE
  | 1 => wt st p * sgE
  | 2 => cenAt st p * tgE

/-- Half `h` of slot `sl` holds group `n`. -/
def HasGroup (s0 s : St Ideal) (sl h : Fin 2) (n : Fin 128) : Prop :=
  ∀ i : Fin 128, (∀ d, s.vAt sl ⟨128 * h + i, by omega⟩ d = vProto s0 ⟨128 * n + i, by omega⟩ d) ∧
    ∀ f l, s.facAt sl f ⟨128 * h + i, by omega⟩ l = facOf s0 f ⟨128 * n + i, by omega⟩

/-- Two memories agree in `v` and `fac` outside half `h` of slot `sl`. -/
def SameBut (sl h : Fin 2) (s s' : St Ideal) : Prop :=
  ∀ sl' (r : Fin 256), ¬(sl' = sl ∧ (r : Nat) / 128 = h) → (∀ d, s'.vAt sl' r d = s.vAt sl' r d) ∧ ∀ f l, s'.facAt sl' f r l = s.facAt sl' f r l

theorem parOf_cen (st : St Ideal) (n : Fin 128) (hr : Group (BitVec.ofNat 32 n)) (i : Fin 128) :
    parOf st (BitVec.ofNat 32 n) hr (ix2 5 i) = (st .cen : FVec Ideal S128x128 .f32) (ix2 n i) := by
  refine (over_in _ _ (ix2 0 i) fun k => ?_).trans (congrArg (st .cen) (emb_eq _ fun k => ?_))
  · fin_cases k <;> simp [ix2]
  · have e := rowOf_ofNat n
    unfold rowOf at e
    fin_cases k
    · show (n : Nat) = _ + 0
      simpa using e.symm
    · simp [ix2]

abbrev parT (st : St Ideal) (r : BitVec 32) (hr : Group r) : FVec Ideal S128x8 .f32 :=
  transpose (s := S8x128) S128x8 [1, 0] (parOf st r hr) (by decide)

theorem vGroup_proto (st : St Ideal) (n : Fin 128) (hr : Group (BitVec.ofNat 32 n)) (i : Fin 128) :
    vGroup (codesOf st (BitVec.ofNat 32 n) hr) (parT st (BitVec.ofNat 32 n) hr) i = vProto st ⟨128 * n + i, by omega⟩ := by
  funext d
  have e1 := codesOf_apply st n hr ⟨d / 128, by omega⟩ i ⟨d % 128, by omega⟩
  have e2 : parT st (BitVec.ofNat 32 n) hr (ix2 i ⟨d / 128, by omega⟩) = parOf st (BitVec.ofNat 32 n) hr (ix2 ⟨d / 128, by omega⟩ i) := by
    pointwise []
  have e3 := parOf_scale st n hr ⟨d / 128, by omega⟩ i
  have e4 : (⟨128 * (d / 128 : Nat) + d % 128, by omega⟩ : Fin 512) = d := Fin.ext (by show 128 * (d / 128 : Nat) + d % 128 = d; omega)
  unfold vGroup vProto
  rw [e1, e2, e3]
  show _ * _ = _ * _
  rw [e4]

theorem fac_weight (codes : Fin 4 → FVec Ideal S128x128 .fp8e4m3) (par : FVec Ideal S128x8 .f32) (xs : FVec Ideal S1x512 .f32)
    (g : EReal) (i l : Fin 128) :
    spread (mulf (weight par (sums4 codes par xs).n2) (broadcast S128x1 (α := EReal) g)) (ix2 i l)
      = weightOf (par (ix2 i 4)) (vGroup codes par i) * g := by
  unfold weightOf length
  rw [sum_blocks]
  pointwise [sums4, spread, rowSum, weight, parCol, vBlock, n2Step, tmStep]
  simp only [vGroup_0, vGroup_1, vGroup_2, vGroup_3]

theorem fac_cen (par : FVec Ideal S128x8 .f32) (g : EReal) (i l : Fin 128) :
    spread (F := Ideal) (mulf (parCol par 5 (by decide)) (broadcast S128x1 (α := EReal) g)) (ix2 i l) = par (ix2 i 5) * g := by
  pointwise [spread, parCol]

set_option maxHeartbeats 2000000 in
/-- The whole group. -/
theorem prepHalf_full {slot h : Fin 2} {r : BitVec 32} {hr : Group r} (n : Fin 128) (e : r = BitVec.ofNat 32 n) {k : PR nD τ sig Λ Ideal PUnit}
    (hk : ∀ s, Only isPrep s0 s →
      (∀ x y : Fin 128, (s .bct : FVec Ideal S128x128 .f32) (ix2 x y) = if y = n then centreOf s0 n x else (s0 .bct : FVec Ideal S128x128 .f32) (ix2 x y)) →
      HasGroup s0 s slot h n → SameBut slot h s0 s →
      Wp defs B c s k Q) : Wp defs B c s0 (prepHalf B hB slot h r hr k) Q := by
  subst e
  unfold prepHalf
  refine wp_ld' <| wp_ld' <| wp_st' fun s1 h1 => ?_
  refine wp_ld' <| wp_ld' <| wp_st' fun s2 h2 => ?_
  refine wp_ld' <| wp_ld' <| wp_st' fun s3 h3 => ?_
  have hp : s3 .par = parOf s0 _ hr := by
    subst h3 h2 h1
    simp only [set_same, shapeCast_self]
    rfl
  have ho : ∀ i, i ≠ .par → s3 i = s0 i := fun i hi => by
    subst h3 h2 h1
    rw [set_other _ _ hi, set_other _ _ hi, set_other _ _ hi]
  clear h1 h2 h3
  have ep : (fun y => s3 .par ((blk .par ![0, 0] S8x128.size (by decide)).emb y)) = parOf s0 _ hr :=
    (funext fun y => by rw [emb_whole2]).trans hp
  have ex : xsOf s3 = xsOf s0 := funext fun y => congrFun (ho .xsum (by decide)) _
  have hc : ∀ (t : St Ideal) (kk : Fin 4), Only (one .v) s3 t → codesOf t _ hr kk = codesOf s0 _ hr kk := fun t kk ht => by
    funext y
    exact congrFun ((ht .pc rfl).trans (ho .pc (by decide))) _
  refine wp_ldv ep <| wp_ldv (w := xsOf s0) ex ?_
  simp only [loop, rep]
  refine vcol_wp (hc s3 0 (Only.refl _ _)) fun t1 o1 c1 u1 => ?_
  refine vcol_wp (hc t1 1 o1) fun t2 o2 c2 u2 => ?_
  refine vcol_wp (hc t2 2 (o1.trans o2)) fun t3 o3 c3 u3 => ?_
  refine vcol_wp (hc t3 3 ((o1.trans o2).trans o3)) fun t4 o4 c4 u4 => ?_
  have o4 := ((o1.trans o2).trans o3).trans o4
  refine wp_ld' <| wp_ld' <| wp_st' fun s5 h5 => ?_
  refine stFac_wp fun t6 o6 c6 u6 => stFac_wp fun t7 o7 c7 u7 => stFac_wp fun t8 o8 c8 u8 => ?_
  have hs5 : ∀ i, i ≠ .v → i ≠ .bct → i ≠ .par → s5 i = s0 i := fun i h1 h2 h3 => by
    rw [h5, set_other _ _ h2, o4 i (by simp [one, h1]), ho i h3]
  have h8 : ∀ i, i ≠ .fac → t8 i = s5 i := fun i h1 => by
    rw [o8 i (by simp [one, h1]), o7 i (by simp [one, h1]), o6 i (by simp [one, h1])]
  have hv : ∀ sl r d, t8.vAt sl r d = t4.vAt sl r d := fun sl r d => by
    unfold St.vAt
    rw [h8 .v (by decide), h5, set_other _ _ (by decide)]
  refine hk t8 ?_ ?_ ?_ ?_
  · intro i hi
    have a1 : i ≠ .fac := by rintro rfl; exact absurd hi (by decide)
    have a2 : i ≠ .v := by rintro rfl; exact absurd hi (by decide)
    have a3 : i ≠ .bct := by rintro rfl; exact absurd hi (by decide)
    have a4 : i ≠ .par := by rintro rfl; exact absurd hi (by decide)
    rw [h8 i a1, hs5 i a2 a3 a4]
  · intro x y
    rw [h8 .bct (by decide), h5, set_same]
    refine (congrFun (over_whole2 _ _) _).trans ?_
    have eo : (fun y => t4 .bct ((blk .bct ![0, 0] S128x128.size (by decide)).emb y)) = s0 .bct :=
      (funext fun y => by rw [emb_whole2]).trans ((o4 .bct rfl).trans (ho .bct (by decide)))
    have := newBct_centre s0 n hr (s0 .bct) x y
    rw [← this]
    change newBct _ (codesOf s0 _ hr) (parT s0 _ hr) (xsOf s0)
      (fun y => t4 .bct ((blk .bct ![0, 0] S128x128.size (by decide)).emb y)) (ix2 x y) = _
    rw [eo]
  · intro i
    refine ⟨fun d => ?_, fun f l => ?_⟩
    · rw [hv, ← vGroup_proto s0 n hr i]
      have ed : d = ⟨128 * (d / 128 : Nat) + d % 128, by omega⟩ := Fin.ext (by show (d : Nat) = 128 * (d / 128) + d % 128; omega)
      have hd : (d : Nat) / 128 = 0 ∨ (d : Nat) / 128 = 1 ∨ (d : Nat) / 128 = 2 ∨ (d : Nat) / 128 = 3 := by omega
      have hg (kk : Fin 4) (hkk : (d : Nat) / 128 = kk) : vGroup (codesOf s0 _ hr) (parT s0 _ hr) i d
          = codesOf s0 _ hr kk (ix2 i ⟨d % 128, by omega⟩) * parT s0 _ hr (ix2 i ⟨kk, by omega⟩) :=
        vGroup_at _ _ i ⟨d % 128, by omega⟩ kk _ rfl (by show (d : Nat) = 128 * (kk : Nat) + d % 128; omega)
      have hw (t : St Ideal) (kk : Fin 4) (hkk : (d : Nat) / 128 = kk) (ct : ∀ i l : Fin 128, t.vAt slot ⟨128 * h + i, by omega⟩ ⟨128 * kk + l, by omega⟩
          = codesOf s0 _ hr kk (ix2 i l) * parT s0 _ hr (ix2 i ⟨kk, by omega⟩)) : t.vAt slot ⟨128 * h + i, by omega⟩ d
          = vGroup (codesOf s0 _ hr) (parT s0 _ hr) i d := by
        rw [hg kk hkk, ← ct i ⟨d % 128, by omega⟩]
        exact congrArg _ (Fin.ext (by show (d : Nat) = 128 * (kk : Nat) + d % 128; omega))
      rcases hd with hd | hd | hd | hd
      · rw [u4 _ _ _ (by rintro ⟨-, -, e⟩; simp at e; clear u1 u2 u3 u4; omega), u3 _ _ _ (by rintro ⟨-, -, e⟩; simp at e; clear u1 u2 u3 u4; omega),
          u2 _ _ _ (by rintro ⟨-, -, e⟩; simp at e; clear u1 u2 u3 u4; omega)]
        exact hw t1 0 hd c1
      · rw [u4 _ _ _ (by rintro ⟨-, -, e⟩; simp at e; clear u1 u2 u3 u4; omega), u3 _ _ _ (by rintro ⟨-, -, e⟩; simp at e; clear u1 u2 u3 u4; omega)]
        exact hw t2 1 hd c2
      · rw [u4 _ _ _ (by rintro ⟨-, -, e⟩; simp at e; clear u1 u2 u3 u4; omega)]
        exact hw t3 2 hd c3
      · exact hw t4 3 hd c4
    · have e0 : (⟨(128 * (n : Nat) + i) / 128, by omega⟩ : Fin 128) = n := Fin.ext (by show (128 * (n : Nat) + i) / 128 = n; omega)
      have e1 : (⟨(128 * (n : Nat) + i) % 128, by omega⟩ : Fin 128) = i := Fin.ext (by show (128 * (n : Nat) + i) % 128 = i; omega)
      have ew : weightOf (parT s0 _ hr (ix2 i 4)) (vGroup (codesOf s0 _ hr) (parT s0 _ hr) i) = wt s0 ⟨128 * n + i, by omega⟩ := by
        unfold wt
        rw [vGroup_proto, show parT s0 _ hr (ix2 i 4) = parOf s0 _ hr (ix2 4 i) from by pointwise [], parOf_g]
        simp only [e0, e1]
      match f with
      | 0 =>
        rw [u8 _ _ _ _ (by rintro ⟨-, e, -⟩; exact absurd e (by decide)), u7 _ _ _ _ (by rintro ⟨-, e, -⟩; exact absurd e (by decide)), c6]
        refine (fac_weight (codesOf s0 _ hr) (parT s0 _ hr) (xsOf s0) _ i l).trans ?_
        rw [ew]; rfl
      | 1 =>
        rw [u8 _ _ _ _ (by rintro ⟨-, e, -⟩; exact absurd e (by decide)), c7]
        refine (fac_weight (codesOf s0 _ hr) (parT s0 _ hr) (xsOf s0) _ i l).trans ?_
        rw [ew]; rfl
      | 2 =>
        rw [c8]
        refine (fac_cen (parT s0 _ hr) _ i l).trans ?_
        rw [show parT s0 _ hr (ix2 i 5) = parOf s0 _ hr (ix2 5 i) from by pointwise [], parOf_cen]
        unfold facOf cenAt
        simp only [e0, e1]
  · intro sl r hn
    refine ⟨fun d => ?_, fun f l => ?_⟩
    · rw [hv, u4 _ _ _ (fun e => hn ⟨e.1, e.2.1⟩), u3 _ _ _ (fun e => hn ⟨e.1, e.2.1⟩), u2 _ _ _ (fun e => hn ⟨e.1, e.2.1⟩),
        u1 _ _ _ (fun e => hn ⟨e.1, e.2.1⟩)]
      exact congrFun (ho .v (by decide)) _
    · rw [u8 _ _ _ _ (fun e => hn ⟨e.1, e.2.2⟩), u7 _ _ _ _ (fun e => hn ⟨e.1, e.2.2⟩), u6 _ _ _ _ (fun e => hn ⟨e.1, e.2.2⟩)]
      exact congrFun (hs5 .fac (by decide) (by decide) (by decide)) _

end Dino
-- ==== Proof.Sums.lean ====
/-
  One call of `accumulate`: to each of the twelve accumulators of batch row `b` the chunk's 32 groups of eight rows are added.
-/
module

public import proofs.«01_k».proof.Proof.Cells

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s : St Ideal}

/-- Accumulator `a` by its number. -/
def Acc.get (A : Acc Ideal) (a : Fin 12) : FVec Ideal S8x128 .f32 :=
  match a with
  | 0 => A.a0 | 1 => A.a1 | 2 => A.a2 | 3 => A.a3 | 4 => A.a4 | 5 => A.a5
  | 6 => A.a6 | 7 => A.a7 | 8 => A.a8 | 9 => A.a9 | 10 => A.a10 | 11 => A.a11

/-- What one row adds to accumulator `a`, from its six scaled logits. -/
def term (z : Fin 6 → EReal) (a : Fin 12) : EReal :=
  match a with
  | 0 => Ideal.exp2 (z 0) | 1 => Ideal.exp2 (z 1) | 2 => Ideal.exp2 (z 2) | 3 => Ideal.exp2 (z 3) | 4 => Ideal.exp2 (z 4) | 5 => Ideal.exp2 (z 5)
  | 6 => Ideal.exp2 (z 0) * z 3 | 7 => Ideal.exp2 (z 0) * z 4 | 8 => Ideal.exp2 (z 0) * z 5
  | 9 => Ideal.exp2 (z 1) * z 2 | 10 => Ideal.exp2 (z 1) * z 4 | 11 => Ideal.exp2 (z 1) * z 5

/-- The scaled logits of row `r` of the chunk in slot `sl`, at column `q`. -/
def zAt (s : St Ideal) (sl bf : Fin 2) (r q : Fin 256) (x : Fin 6) : EReal :=
  if (x : Nat) < 2 then s.sAt bf x r q * s.facAt sl 0 r ⟨q % 128, by omega⟩ - s.facAt sl 2 r ⟨q % 128, by omega⟩
  else s.sAt bf x r q * s.facAt sl 1 r ⟨q % 128, by omega⟩

/-- The column `128 j + l`. -/
abbrev colAt (j : Fin 2) (l : Fin 128) : Fin 256 := ⟨128 * j + l, by omega⟩
abbrev rowIn (g : Fin 32) (u : Fin 8) : Fin 256 := ⟨8 * g + u, by omega⟩

theorem colAt_mod (j : Fin 2) (l : Fin 128) : (⟨(colAt j l : Nat) % 128, by omega⟩ : Fin 128) = l :=
  Fin.ext (by show (128 * (j : Nat) + l) % 128 = l; omega)

theorem flat_apply (w : FVec Ideal S1x1x8x128 .f32) (u : Fin 8) (l : Fin 128) : flat w (ix2 u l) = w (ix4 0 0 u l) := by pointwise [flat]

/-- A block of `s`, `fac` and `acc`. -/
abbrev sBlk (s : St Ideal) (bf : Fin 2) (g : Fin 32) (j : Fin 2) (x : Fin 6) : FVec Ideal S8x128 .f32 :=
  flat fun y => s .s ((blk .s ![bf, x, 8 * g, 128 * j] S1x1x8x128.size (inb_s bf x g j)).emb y)
abbrev fBlk (s : St Ideal) (sl : Fin 2) (g : Fin 32) (f : Fin 3) : FVec Ideal S8x128 .f32 :=
  flat fun y => s .fac ((blk .fac ![sl, f, 8 * g, 0] S1x1x8x128.size (inb_fac sl f g)).emb y)
abbrev aBlk (s : St Ideal) (b : Fin 3) (j : Fin 2) (a : Fin 12) : FVec Ideal S8x128 .f32 :=
  flat fun y => s .acc ((blk .acc ![b, a, 0, 128 * j] S1x1x8x128.size (inb_acc b a j)).emb y)

theorem sBlk_apply (bf : Fin 2) (g : Fin 32) (j : Fin 2) (x : Fin 6) (u : Fin 8) (l : Fin 128) :
    sBlk s bf g j x (ix2 u l) = s.sAt bf x (rowIn g u) (colAt j l) := by
  refine (flat_apply _ u l).trans (congrArg (s .s) (emb_eq _ fun k => ?_))
  fin_cases k <;> simp [ix4]

theorem fBlk_apply (sl : Fin 2) (g : Fin 32) (f : Fin 3) (u : Fin 8) (l : Fin 128) :
    fBlk s sl g f (ix2 u l) = s.facAt sl f (rowIn g u) l := by
  refine (flat_apply _ u l).trans (congrArg (s .fac) (emb_eq _ fun k => ?_))
  fin_cases k <;> simp [ix4]

theorem aBlk_apply (b : Fin 3) (j : Fin 2) (a : Fin 12) (u : Fin 8) (l : Fin 128) :
    aBlk s b j a (ix2 u l) = s.accAt b a u (colAt j l) := by
  refine (flat_apply _ u l).trans (congrArg (s .acc) (emb_eq _ fun k => ?_))
  fin_cases k <;> simp [ix4]

/-- The six scaled logits of eight rows, from the blocks read. -/
abbrev zRows (ft fs fc : FVec Ideal S8x128 .f32) (sx : Fin 6 → FVec Ideal S8x128 .f32) (x : Fin 6) : FVec Ideal S8x128 .f32 :=
  if (x : Nat) < 2 then subf (mulf (sx x) ft) fc else mulf (sx x) fs

theorem zRows_apply (sl bf : Fin 2) (g : Fin 32) (j : Fin 2) (u : Fin 8) (l : Fin 128) (x : Fin 6) :
    zRows (fBlk s sl g 0) (fBlk s sl g 1) (fBlk s sl g 2) (sBlk s bf g j) x (ix2 u l) = zAt s sl bf (rowIn g u) (colAt j l) x := by
  unfold zAt
  rw [colAt_mod]
  unfold zRows
  split
  · show sBlk s bf g j x (ix2 u l) * fBlk s sl g 0 (ix2 u l) - fBlk s sl g 2 (ix2 u l) = _
    rw [sBlk_apply, fBlk_apply, fBlk_apply]
  · show sBlk s bf g j x (ix2 u l) * fBlk s sl g 1 (ix2 u l) = _
    rw [sBlk_apply, fBlk_apply]

/-- One group of eight rows. -/
theorem accRows_wp {sl bf j : Fin 2} {g : Fin 32} {A : Acc Ideal} {k : Acc Ideal → PR nD τ sig Λ Ideal PUnit}
    (hk : ∀ A', (∀ a u l, A'.get a (ix2 u l) = A.get a (ix2 u l) + term (zAt s sl bf (rowIn g u) (colAt j l)) a) → Wp defs B c s (k A') Q) :
    Wp defs B c s (accRows B sl bf j g A k) Q := by
  unfold accRows ldFac ldS
  refine wp_ld' <| wp_ld' <| wp_ld' <| wp_ld' <| wp_ld' <| wp_ld' <| wp_ld' <| wp_ld' <| wp_ld' <| hk _ fun a u l => ?_
  have e : (fun x => zRows (fBlk s sl g 0) (fBlk s sl g 1) (fBlk s sl g 2) (sBlk s bf g j) x (ix2 u l))
      = zAt s sl bf (rowIn g u) (colAt j l) := funext fun x => zRows_apply sl bf g j u l x
  rw [← e]
  fin_cases a <;> rfl

theorem from_succ (i : Nat) (hi : i < 32) (f : Fin 32 → EReal) :
    ∑ g ∈ Finset.univ.filter (fun g : Fin 32 => i ≤ g), f g = f ⟨i, hi⟩ + ∑ g ∈ Finset.univ.filter (fun g : Fin 32 => i + 1 ≤ g), f g := by
  have e : (Finset.univ.filter fun g : Fin 32 => i ≤ g) = insert (⟨i, hi⟩ : Fin 32) (Finset.univ.filter fun g : Fin 32 => i + 1 ≤ g) := by
    ext g
    simp only [Finset.mem_filter, Finset.mem_univ, true_and, Finset.mem_insert, Fin.ext_iff]
    omega
  rw [e, Finset.sum_insert (by simp)]

/-- All groups. -/
theorem rows_wp {sl bf j : Fin 2} {k : Acc Ideal → PR nD τ sig Λ Ideal PUnit} (n : Nat) : ∀ (i : Nat) (h : i + n = 32) (A : Acc Ideal),
    (∀ A', (∀ a u l, A'.get a (ix2 u l) = A.get a (ix2 u l)
      + ∑ g ∈ Finset.univ.filter (fun g : Fin 32 => i ≤ g), term (zAt s sl bf (rowIn g u) (colAt j l)) a) → Wp defs B c s (k A') Q) →
    Wp defs B c s (rep (N := 32) (fun g A k => accRows B sl bf j g A k) n i h A k) Q := by
  induction n with
  | zero =>
    intro i h A hk
    refine hk A fun a u l => ?_
    rw [Finset.filter_false_of_mem (fun g _ => by omega), Finset.sum_empty, add_zero]
  | succ n ih =>
    intro i h A hk
    simp only [rep]
    refine accRows_wp fun A1 h1 => ih (i + 1) (by omega) A1 fun A' h' => hk A' fun a u l => ?_
    rw [h', h1, add_assoc, from_succ i (by omega)]

/-- The twelve stores, from accumulator `i` on. -/
def stFrom (B : Refs sig) (b : Fin 3) (j : Fin 2) (w : Fin 12 → FVec Ideal S8x128 .f32) (k : PR nD τ sig Λ Ideal PUnit) :
    (n i : Nat) → i + n = 12 → PR nD τ sig Λ Ideal PUnit
  | 0, _, _ => k
  | n + 1, i, h => stAcc B b j ⟨i, by omega⟩ (w ⟨i, by omega⟩) (stFrom B b j w k n (i + 1) (by omega))

theorem stFrom_wp {b : Fin 3} {j : Fin 2} {w : Fin 12 → FVec Ideal S8x128 .f32} {k : PR nD τ sig Λ Ideal PUnit} :
    ∀ (n i : Nat) (h : i + n = 12) (s : St Ideal),
    (∀ s', Only (one .acc) s s' → (∀ (a : Fin 12) u l, i ≤ (a : Nat) → s'.accAt b a u (colAt j l) = w a (ix2 u l)) →
      (∀ b' (a : Fin 12) u (q : Fin 256), ¬(b' = b ∧ i ≤ (a : Nat) ∧ (q : Nat) / 128 = j) → s'.accAt b' a u q = s.accAt b' a u q) → Wp defs B c s' k Q) →
    Wp defs B c s (stFrom B b j w k n i h) Q
  | 0, i, h, s, hk => hk s (Only.refl _ _) (fun a _ _ ha => by omega) fun _ _ _ _ _ => rfl
  | n + 1, i, h, s, hk => stAcc_wp fun s1 o1 c1 u1 => stFrom_wp n (i + 1) (by omega) s1 fun s2 o2 c2 u2 =>
    hk s2 (o1.trans o2) (fun a u l ha => by
      by_cases hai : a = ⟨i, by omega⟩
      · rw [hai, u2 _ _ _ _ (by rintro ⟨-, e, -⟩; simp at e)]
        exact c1 u l
      · exact c2 a u l (by have : (a : Nat) ≠ i := fun e => hai (Fin.ext e); omega)) fun b' a u q hn => by
      rw [u2 _ _ _ _ (fun e => hn ⟨e.1, by omega, e.2.2⟩), u1 _ _ _ _ (fun e => hn ⟨e.1, by rw [e.2.1], e.2.2⟩)]

/-- One column half. -/
theorem accHalf_wp {sl bf j : Fin 2} {b : Fin 3} {keep : BitVec 1} {k : PR nD τ sig Λ Ideal PUnit}
    (hk : ∀ s', Only (one .acc) s s' → (∀ a u l, s'.accAt b a u (colAt j l) = Scalar.select keep
        (s.accAt b a u (colAt j l) + ∑ g : Fin 32, term (zAt s sl bf (rowIn g u) (colAt j l)) a) (s.accAt b a u (colAt j l))) →
      (∀ b' a u (q : Fin 256), ¬(b' = b ∧ (q : Nat) / 128 = j) → s'.accAt b' a u q = s.accAt b' a u q) → Wp defs B c s' k Q) :
    Wp defs B c s (accHalf B sl b bf keep j k) Q := by
  unfold accHalf ldAcc
  refine wp_ld' <| wp_ld' <| wp_ld' <| wp_ld' <| wp_ld' <| wp_ld' <| wp_ld' <| wp_ld' <| wp_ld' <| wp_ld' <| wp_ld' <| wp_ld' ?_
  refine rows_wp 32 0 rfl (⟨aBlk s b j 0, aBlk s b j 1, aBlk s b j 2, aBlk s b j 3, aBlk s b j 4, aBlk s b j 5, aBlk s b j 6, aBlk s b j 7,
    aBlk s b j 8, aBlk s b j 9, aBlk s b j 10, aBlk s b j 11⟩ : Acc Ideal) fun A hA => ?_
  have hA' : ∀ a u l, A.get a (ix2 u l) = aBlk s b j a (ix2 u l) + ∑ g : Fin 32, term (zAt s sl bf (rowIn g u) (colAt j l)) a := fun a u l => by
    rw [hA]
    congr 1
    fin_cases a <;> rfl
  refine (stFrom_wp (w := fun a => Scalar.select keep (A.get a) (aBlk s b j a)) 12 0 rfl s fun s' o cs u =>
    hk s' o (fun a u l => ?_) fun b' a u' q hn => u b' a u' q fun e => hn ⟨e.1, e.2.2⟩ :)
  rw [cs a u l (Nat.zero_le _), ← aBlk_apply, ← hA']
  unfold Scalar.select
  split <;> rfl

/-- Both halves. -/
theorem accumulate_wp {sl bf : Fin 2} {b : Fin 3} {keep : BitVec 1} {k : PR nD τ sig Λ Ideal PUnit}
    (hk : ∀ s', Only (one .acc) s s' → (∀ a u q, s'.accAt b a u q = Scalar.select keep
        (s.accAt b a u q + ∑ g : Fin 32, term (zAt s sl bf (rowIn g u) q) a) (s.accAt b a u q)) →
      (∀ b' a u (q : Fin 256), b' ≠ b → s'.accAt b' a u q = s.accAt b' a u q) → Wp defs B c s' k Q) :
    Wp defs B c s (accumulate B sl b bf keep k) Q := by
  refine accHalf_wp fun s1 o1 c1 u1 => accHalf_wp fun s2 o2 c2 u2 => hk s2 (o1.trans o2) (fun a u q => ?_) fun b' a u q hn => ?_
  · have hz : ∀ r q, zAt s1 sl bf r q = zAt s sl bf r q := fun r q => by
      funext x
      unfold zAt St.sAt St.facAt
      rw [o1 .s rfl, o1 .fac rfl]
    by_cases hq : (q : Nat) / 128 = 0
    · have e : q = colAt 0 ⟨q, by omega⟩ := Fin.ext (by show (q : Nat) = 128 * 0 + q; omega)
      rw [u2 _ _ _ _ (fun h => by have h2 := h.2; rw [hq] at h2; exact absurd h2 (by decide)), e]
      exact c1 a u _
    · have e : q = colAt 1 ⟨q - 128, by omega⟩ := Fin.ext (by show (q : Nat) = 128 * 1 + (q - 128); omega)
      rw [e, c2]
      simp only [hz]
      rw [u1 _ _ _ _ (fun h => by have h2 := h.2; rw [← e] at h2; exact hq h2)]
  · rw [u2 _ _ _ _ (fun h => hn h.1), u1 _ _ _ _ (fun h => hn h.1)]

/-- The six products. -/
theorem logitsOf_wp {sl : Fin 2} {b : Fin 3} {bf : Fin 2} {k : PR nD τ sig Λ Ideal PUnit} : ∀ (n i : Nat) (h : i + n ≤ 6) (s : St Ideal),
    (∀ s', Only (one .s) s s' → (∀ (x : Fin 6) r q, i ≤ (x : Nat) → (x : Nat) < i + n → s'.sAt bf x r q = ∑ d, s.vAt sl r d * s.xtAt x b d q) →
      (∀ bf' (x : Fin 6) r q, ¬(bf' = bf ∧ i ≤ (x : Nat)) → s'.sAt bf' x r q = s.sAt bf' x r q) → Wp defs B c s' k Q) →
    Wp defs B c s (logitsOf B sl b bf n i h k) Q
  | 0, i, h, s, hk => hk s (Only.refl _ _) (fun a _ _ ha hb => by omega) fun _ _ _ _ _ => rfl
  | n + 1, i, h, s, hk => logit_wp fun s1 o1 c1 u1 => logitsOf_wp n (i + 1) (by omega) s1 fun s2 o2 c2 u2 =>
    hk s2 (o1.trans o2) (fun x r q ha hb => by
      by_cases hai : x = ⟨i, by omega⟩
      · rw [hai, u2 _ _ _ _ (by rintro ⟨-, e⟩; simp at e)]
        exact c1 r q
      · rw [c2 x r q (by have : (x : Nat) ≠ i := fun e => hai (Fin.ext e); omega) (by omega)]
        unfold St.vAt St.xtAt
        rw [o1 .v rfl, o1 .xt rfl]) fun bf' x r q hn => by
      rw [u2 _ _ _ _ (fun e => hn ⟨e.1, by omega⟩), u1 _ _ _ _ (fun e => hn ⟨e.1, by rw [e.2]⟩)]

theorem logits_wp {sl : Fin 2} {b : Fin 3} {bf : Fin 2} {k : PR nD τ sig Λ Ideal PUnit}
    (hk : ∀ s', Only (one .s) s s' → (∀ (x : Fin 6) r q, s'.sAt bf x r q = ∑ d, s.vAt sl r d * s.xtAt x b d q) →
      (∀ bf' (x : Fin 6) r q, bf' ≠ bf → s'.sAt bf' x r q = s.sAt bf' x r q) → Wp defs B c s' k Q) :
    Wp defs B c s (logits B sl b bf k) Q :=
  logitsOf_wp 6 0 (by decide) s fun s' o cs u => hk s' o (fun x r q => cs x r q (Nat.zero_le _) (by omega)) fun bf' x r q hn =>
    u bf' x r q fun e => hn e.1

end Dino
-- ==== Proof.Trips.lean ====
/-
  The main loop: what the buffers hold before each half trip.

  Before half trip `c` the chunk in slot `c mod 2` is chunk `c`; the accumulators of batch rows 0 and 1 hold the chunks before
  `c`, those of batch row 2 are one chunk behind, its products waiting in the other half of `s`.
-/
module

public import proofs.«01_k».proof.Proof.Prep
public import proofs.«01_k».proof.Proof.Sums

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s s' : St Ideal} {k : PR nD τ sig Λ Ideal PUnit}

/-- What the two passes write. -/
def mayChange : Ref' → Bool
  | .par | .v | .fac | .bct | .s | .acc | .m => true
  | _ => false

theorem Only.weaken {S S' : Ref' → Bool} (h : Only S s0 s) (hS : ∀ i, S' i = false → S i = false) : Only S' s0 s := fun i hi => h i (hS i hi)

theorem prep_may : ∀ i, mayChange i = false → isPrep i = false := fun i => by cases i <;> decide
theorem s_may : ∀ i, mayChange i = false → one .s i = false := fun i => by cases i <;> decide
theorem acc_may : ∀ i, mayChange i = false → one .acc i = false := fun i => by cases i <;> decide

theorem vProto_only (h : Only mayChange s0 s) : vProto s = vProto s0 := by
  unfold vProto; rw [h .pc rfl, h .ps rfl]
theorem centreOf_only (h : Only mayChange s0 s) : centreOf s = centreOf s0 := by
  unfold centreOf; rw [vProto_only h, h .g rfl, h .xsum rfl]
theorem facOf_only (h : Only mayChange s0 s) : facOf s = facOf s0 := by
  unfold facOf wt cenAt; rw [vProto_only h, h .g rfl, h .cen rfl]

/-- Prototype `r` of chunk `n`. -/
abbrev pr (n : Fin 64) (r : Fin 256) : Fin 16384 := ⟨256 * n + r, by omega⟩

/-- The product of prototype `p` with the features of crop `x`, batch row `b`, column `q`. -/
def dotOf (s0 : St Ideal) (x : Fin 6) (b : Fin 3) (q : Fin 256) (p : Fin 16384) : EReal :=
  ∑ d, vProto s0 p d * s0.xtAt x b d q

/-- Its six scaled logits. -/
def zOf (s0 : St Ideal) (b : Fin 3) (q : Fin 256) (p : Fin 16384) (x : Fin 6) : EReal :=
  if (x : Nat) < 2 then dotOf s0 x b q p * facOf s0 0 p - facOf s0 2 p else dotOf s0 x b q p * facOf s0 1 p

theorem dotOf_only (h : Only mayChange s0 s) : dotOf s = dotOf s0 := by
  unfold dotOf St.xtAt; rw [vProto_only h, h .xt rfl]
theorem zOf_only (h : Only mayChange s0 s) : zOf s = zOf s0 := by
  unfold zOf; rw [dotOf_only h, facOf_only h]

/-- Slot `sl` holds chunk `n`; -/
def HasRows (s0 s : St Ideal) (sl : Fin 2) (n : Fin 64) : Prop :=
  ∀ r : Fin 256, (∀ d, s.vAt sl r d = vProto s0 (pr n r) d) ∧ ∀ f l, s.facAt sl f r l = facOf s0 f (pr n r)

/-- half `bf` of `s` holds its products with batch row `b`; -/
def HasS (s0 s : St Ideal) (bf : Fin 2) (b : Fin 3) (n : Fin 64) : Prop :=
  ∀ x r q, s.sAt bf x r q = dotOf s0 x b q (pr n r)

/-- the accumulators of batch row `b` hold the chunks before `n`. -/
def HasAcc (s0 s : St Ideal) (b : Fin 3) (n : Nat) : Prop :=
  ∀ a u q, s.accAt b a u q = ∑ m ∈ Finset.univ.filter (fun m : Fin 64 => (m : Nat) < n), ∑ g : Fin 32, term (zOf s0 b q (pr m (rowIn g u))) a

/-- The columns `P` of `bct` are final. -/
def Done (P : Nat → Prop) (s0 s : St Ideal) : Prop :=
  ∀ y : Fin 128, P y → ∀ x : Fin 128, (s .bct : FVec Ideal S128x128 .f32) (ix2 x y) = centreOf s0 y x

theorem HasRows.congr {sl : Fin 2} {n : Fin 64} (h : HasRows s0 s sl n) (hv : s' .v = s .v) (hf : s' .fac = s .fac) : HasRows s0 s' sl n :=
  fun r => ⟨fun d => (congrFun hv _).trans ((h r).1 d), fun f l => (congrFun hf _).trans ((h r).2 f l)⟩
theorem HasS.congr {bf : Fin 2} {b : Fin 3} {n : Fin 64} (h : HasS s0 s bf b n) (hv : s' .s = s .s) : HasS s0 s' bf b n :=
  fun x r q => (congrFun hv _).trans (h x r q)
theorem HasAcc.congr {b : Fin 3} {n : Nat} (h : HasAcc s0 s b n) (hv : s' .acc = s .acc) : HasAcc s0 s' b n :=
  fun x r q => (congrFun hv _).trans (h x r q)
theorem Done.congr {P : Nat → Prop} (h : Done P s0 s) (hv : s' .bct = s .bct) : Done P s0 s' := fun y hy x => (congrFun hv _).trans (h y hy x)

/-- Both groups of a chunk. -/
theorem prep_wp {slot : Fin 2} {r0 r1 : BitVec 32} {h0 : Group r0} {h1 : Group r1} (n : Fin 64) (e0 : r0 = BitVec.ofNat 32 (2 * n))
    (e1 : r1 = BitVec.ofNat 32 (2 * n + 1)) (ho : Only mayChange s0 s)
    (hk : ∀ s', Only isPrep s s' → HasRows s0 s' slot n →
      (∀ sl m, sl ≠ slot → HasRows s0 s sl m → HasRows s0 s' sl m) →
      (∀ P, Done P s0 s → Done (fun y => P y ∨ y = 2 * (n : Nat) ∨ y = 2 * (n : Nat) + 1) s0 s') → Wp defs B c s' k Q) :
    Wp defs B c s (prep B hB slot r0 r1 h0 h1 k) Q := by
  refine prepHalf_full ⟨2 * n, by omega⟩ e0 fun s1 o1 b1 g1 u1 => ?_
  refine prepHalf_full ⟨2 * n + 1, by omega⟩ e1 fun s2 o2 b2 g2 u2 => ?_
  have m1 : Only mayChange s0 s1 := ho.trans (o1.weaken prep_may)
  refine hk s2 (o1.trans o2) (fun r => ?_) (fun sl m hne h r => ?_) fun P hP y hy x => ?_
  · by_cases hr : (r : Nat) < 128
    · have e : r = ⟨128 * ((0 : Fin 2) : Nat) + (⟨r, hr⟩ : Fin 128), by simp⟩ := Fin.ext (by simp)
      have hn : ¬(slot = slot ∧ (r : Nat) / 128 = ((1 : Fin 2) : Nat)) := fun h => by have := h.2; simp at this; omega
      have ep : pr n r = ⟨128 * ((⟨2 * n, by omega⟩ : Fin 128) : Nat) + (⟨r, hr⟩ : Fin 128), by simp; omega⟩ := Fin.ext (by simp; omega)
      have hg := g1 ⟨r, hr⟩
      rw [← e, ← ep, vProto_only ho, facOf_only ho] at hg
      exact ⟨fun d => ((u2 slot r hn).1 d).trans (hg.1 d), fun f l => ((u2 slot r hn).2 f l).trans (hg.2 f l)⟩
    · have e : r = ⟨128 * ((1 : Fin 2) : Nat) + (⟨r - 128, by omega⟩ : Fin 128), by simp; omega⟩ := Fin.ext (by simp; omega)
      have ep : pr n r = ⟨128 * ((⟨2 * n + 1, by omega⟩ : Fin 128) : Nat) + (⟨r - 128, by omega⟩ : Fin 128), by simp; omega⟩ := Fin.ext (by simp; omega)
      have hg := g2 ⟨r - 128, by omega⟩
      rw [← e, ← ep, vProto_only m1, facOf_only m1] at hg
      exact hg
  · have hn (h : Fin 2) : ¬(sl = slot ∧ (r : Nat) / 128 = h) := fun e => hne e.1
    exact ⟨fun d => ((u2 sl r (hn 1)).1 d).trans (((u1 sl r (hn 0)).1 d).trans ((h r).1 d)),
      fun f l => ((u2 sl r (hn 1)).2 f l).trans (((u1 sl r (hn 0)).2 f l).trans ((h r).2 f l))⟩
  · rw [b2, b1, centreOf_only m1, centreOf_only ho]
    by_cases h2 : y = ⟨2 * n + 1, by omega⟩
    · rw [if_pos h2, h2]
    · rw [if_neg h2]
      by_cases h1 : y = ⟨2 * n, by omega⟩
      · rw [if_pos h1, h1]
      · rw [if_neg h1]
        exact hP y (hy.resolve_right fun e => e.elim (fun e => h1 (Fin.ext e)) fun e => h2 (Fin.ext e)) x

/-- Six products. -/
theorem logits_has {sl : Fin 2} {b : Fin 3} {bf : Fin 2} {n : Fin 64} (ho : Only mayChange s0 s) (hr : HasRows s0 s sl n)
    (hk : ∀ s', Only (one .s) s s' → HasS s0 s' bf b n → (∀ bf' b' m, bf' ≠ bf → HasS s0 s bf' b' m → HasS s0 s' bf' b' m) → Wp defs B c s' k Q) :
    Wp defs B c s (logits B sl b bf k) Q := by
  refine logits_wp fun s' o h u => hk s' o (fun x r q => ?_) fun bf' b' m hne h x r q => (u bf' x r q hne).trans (h x r q)
  rw [h]
  unfold dotOf
  refine Finset.sum_congr rfl fun d _ => congrArg₂ (· * ·) ((hr r).1 d) (congrFun (ho .xt rfl) _)

theorem zAt_eq {sl : Fin 2} {b : Fin 3} {bf : Fin 2} {n : Fin 64} (hr : HasRows s0 s sl n) (hs : HasS s0 s bf b n) (r q : Fin 256) :
    zAt s sl bf r q = zOf s0 b q (pr n r) := by
  funext x
  unfold zAt zOf
  rw [hs, (hr r).2, (hr r).2, (hr r).2]

theorem before_succ (n : Fin 64) (f : Fin 64 → EReal) :
    ∑ m ∈ Finset.univ.filter (fun m : Fin 64 => (m : Nat) < n + 1), f m = ∑ m ∈ Finset.univ.filter (fun m : Fin 64 => (m : Nat) < n), f m + f n := by
  have e : (Finset.univ.filter fun m : Fin 64 => (m : Nat) < n + 1) = insert n (Finset.univ.filter fun m : Fin 64 => (m : Nat) < n) := by
    ext m
    simp only [Finset.mem_filter, Finset.mem_univ, true_and, Finset.mem_insert, Fin.ext_iff]
    omega
  rw [e, Finset.sum_insert (by simp), add_comm]

/-- A chunk taken in. -/
theorem accumulate_has {sl : Fin 2} {b : Fin 3} {bf : Fin 2} {n : Fin 64} (hr : HasRows s0 s sl n) (hs : HasS s0 s bf b n) (ha : HasAcc s0 s b n)
    (hk : ∀ s', Only (one .acc) s s' → HasAcc s0 s' b (n + 1) → (∀ b' m, b' ≠ b → HasAcc s0 s b' m → HasAcc s0 s' b' m) → Wp defs B c s' k Q) :
    Wp defs B c s (accumulate B sl b bf 1#1 k) Q := by
  refine accumulate_wp fun s' o h u => hk s' o (fun a i q => ?_) fun b' m hne h a i q => (u b' a i q hne).trans (h a i q)
  rw [h, before_succ, ← ha a i q]
  show _ + _ = _ + _
  simp only [zAt_eq hr hs]

/-- A chunk discarded. -/
theorem accumulate_not {sl : Fin 2} {b : Fin 3} {bf : Fin 2}
    (hk : ∀ s', Only (one .acc) s s' → (∀ b' m, HasAcc s0 s b' m → HasAcc s0 s' b' m) → Wp defs B c s' k Q) :
    Wp defs B c s (accumulate B sl b bf 0#1 k) Q := by
  refine accumulate_wp fun s' o h u => hk s' o fun b' m hm a i q => ?_
  by_cases e : b' = b
  · rw [e, h, ← e]
    exact hm a i q
  · exact (u b' a i q e).trans (hm a i q)

/-- Before half trip `n`. -/
structure Inv (s0 : St Ideal) (half : Fin 2) (n : Nat) (s : St Ideal) : Prop where
  only : Only mayChange s0 s
  m : s .m = s0 .m
  done : Done (· < 2 * n + 2) s0 s
  rows : ∀ m : Fin 64, (m : Nat) = min n 63 → HasRows s0 s half m
  last : ∀ m : Fin 64, (m : Nat) + 1 = n → HasRows s0 s (1 - half) m ∧ HasS s0 s (1 - half) 2 m
  acc0 : HasAcc s0 s 0 n
  acc1 : HasAcc s0 s 1 n
  acc2 : HasAcc s0 s 2 (n - 1)

theorem half_ne (half : Fin 2) : half ≠ 1 - half := by revert half; decide
theorem half_ne' (half : Fin 2) : 1 - half ≠ half := by revert half; decide
theorem half_half (half : Fin 2) : 1 - (1 - half) = half := by revert half; decide

theorem half_inv {half : Fin 2} {n : Fin 64} (I : Inv s0 half n s) {t halfW : BitVec 32} {h0 : Group (nextGroup t halfW 0#32)}
    {h1 : Group (nextGroup t halfW 1#32)} (e0 : nextGroup t halfW 0#32 = BitVec.ofNat 32 (2 * min ((n : Nat) + 1) 63))
    (e1 : nextGroup t halfW 1#32 = BitVec.ofNat 32 (2 * min ((n : Nat) + 1) 63 + 1))
    (ek : Scalar.cmpi .sgt (Scalar.addi (Scalar.muli t 2#32) halfW) 0#32 = BitVec.ofBool (decide (0 < (n : Nat))))
    (hk : ∀ s', Inv s0 (1 - half) (n + 1) s' → Wp defs B c s' k Q) :
    Wp defs B c s (halfTrip B hB t half halfW h0 h1 k) Q := by
  have r0 : HasRows s0 s half n := I.rows n (by omega)
  unfold halfTrip
  refine logits_has I.only r0 fun s1 o1 p1 u1 => ?_
  have m1 := I.only.trans (o1.weaken s_may)
  have r1 := r0.congr (o1 .v rfl) (o1 .fac rfl)
  have x1 : s1 .m = s0 .m := (o1 .m rfl).trans I.m
  have d1 := I.done.congr (o1 .bct rfl)
  -- the second batch row's last chunk
  have step2 : (∀ s2, Only (one .acc) s1 s2 → HasAcc s0 s2 0 n → HasAcc s0 s2 1 n → HasAcc s0 s2 2 n → Wp defs B c s2
      (logits B half 1 (1 - half) <| accumulate B half 0 half 1#1 <|
        prep B hB (1 - half) (nextGroup t halfW 0#32) (nextGroup t halfW 1#32) h0 h1 <|
        logits B half 2 half <| accumulate B half 1 (1 - half) 1#1 k) Q) → Wp defs B c s1
      (accumulate B (1 - half) 2 (1 - half) (Scalar.cmpi .sgt (Scalar.addi (Scalar.muli t 2#32) halfW) 0#32) <|
        logits B half 1 (1 - half) <| accumulate B half 0 half 1#1 <|
        prep B hB (1 - half) (nextGroup t halfW 0#32) (nextGroup t halfW 1#32) h0 h1 <|
        logits B half 2 half <| accumulate B half 1 (1 - half) 1#1 k) Q := fun hk2 => by
    have a0 := I.acc0.congr (o1 .acc rfl)
    have a1 := I.acc1.congr (o1 .acc rfl)
    have a2 := I.acc2.congr (o1 .acc rfl)
    rw [ek]
    by_cases hn : 0 < (n : Nat)
    · rw [decide_eq_true hn]
      obtain ⟨rl, sl⟩ := I.last ⟨(n : Nat) - 1, by omega⟩ (by show (n : Nat) - 1 + 1 = n; omega)
      refine accumulate_has (n := ⟨(n : Nat) - 1, by omega⟩) (rl.congr (o1 .v rfl) (o1 .fac rfl)) (u1 _ _ _ (half_ne' half) sl) a2
        fun s2 o2 b2 v2 => hk2 s2 o2 (v2 _ _ (by decide) a0) (v2 _ _ (by decide) a1) ?_
      have e : (n : Nat) - 1 + 1 = n := by omega
      rw [← e]
      exact b2
    · rw [decide_eq_false hn]
      refine accumulate_not fun s2 o2 v2 => hk2 s2 o2 (v2 _ _ a0) (v2 _ _ a1) ?_
      have e : (n : Nat) - 1 = n := by omega
      rw [← e]
      exact v2 _ _ a2
  refine step2 fun s2 o2 a0 a1 a2 => ?_
  have m2 := m1.trans (o2.weaken acc_may)
  have r2 := r1.congr (o2 .v rfl) (o2 .fac rfl)
  have p2 := p1.congr (o2 .s rfl)
  refine logits_has m2 r2 fun s3 o3 p3 u3 => ?_
  have m3 := m2.trans (o3.weaken s_may)
  have r3 := r2.congr (o3 .v rfl) (o3 .fac rfl)
  refine accumulate_has r3 (u3 _ _ _ (half_ne half) p2) (a0.congr (o3 .acc rfl)) fun s4 o4 b4 v4 => ?_
  have m4 := m3.trans (o4.weaken acc_may)
  have r4 := r3.congr (o4 .v rfl) (o4 .fac rfl)
  have a14 := v4 1 _ (by decide) (a1.congr (o3 .acc rfl))
  have a24 := v4 2 _ (by decide) (a2.congr (o3 .acc rfl))
  have d4 := ((d1.congr (o2 .bct rfl)).congr (o3 .bct rfl)).congr (o4 .bct rfl)
  refine prep_wp ⟨min ((n : Nat) + 1) 63, by omega⟩ e0 e1 m4 fun s5 o5 rn un dn => ?_
  have m5 := m4.trans (o5.weaken prep_may)
  have r5 := un half n (half_ne half) r4
  refine logits_has m5 r5 fun s6 o6 p6 u6 => ?_
  have m6 := m5.trans (o6.weaken s_may)
  have r6 := r5.congr (o6 .v rfl) (o6 .fac rfl)
  have p36 := u6 _ _ _ (half_ne' half) ((p3.congr (o4 .s rfl)).congr (o5 .s rfl))
  refine accumulate_has r6 p36 ((a14.congr (o5 .acc rfl)).congr (o6 .acc rfl)) fun s7 o7 b7 v7 => hk s7 ?_
  refine ⟨m6.trans (o7.weaken acc_may), ?_, ?_, fun m hm => ?_, fun m hm => ?_, ?_, b7, ?_⟩
  · rw [o7 .m rfl, o6 .m rfl, o5 .m rfl, o4 .m rfl, o3 .m rfl, o2 .m rfl, x1]
  · have d5 : Done (· < 2 * ((n : Nat) + 1) + 2) s0 s5 := fun y hy => dn _ d4 y (by
      show (y : Nat) < 2 * (n : Nat) + 2 ∨ (y : Nat) = 2 * min ((n : Nat) + 1) 63 ∨ (y : Nat) = 2 * min ((n : Nat) + 1) 63 + 1
      omega)
    exact (d5.congr (o6 .bct rfl)).congr (o7 .bct rfl)
  · have e : m = ⟨min ((n : Nat) + 1) 63, by omega⟩ := Fin.ext hm
    rw [e]
    exact (rn.congr (o6 .v rfl) (o6 .fac rfl)).congr (o7 .v rfl) (o7 .fac rfl)
  · have e : m = n := Fin.ext (by omega)
    rw [e, half_half]
    exact ⟨r6.congr (o7 .v rfl) (o7 .fac rfl), p6.congr (o7 .s rfl)⟩
  · exact v7 _ _ (by decide) ((b4.congr (o5 .acc rfl)).congr (o6 .acc rfl))
  · exact v7 _ _ (by decide) ((a24.congr (o5 .acc rfl)).congr (o6 .acc rfl))

theorem next_eq : ∀ t : Fin 32, ∀ half h : Fin 2, nextGroup (Scf.iv 0#32 1#32 t) (BitVec.ofNat 32 half) (BitVec.ofNat 32 h)
    = BitVec.ofNat 32 (2 * min (2 * (t : Nat) + (half : Nat) + 1) 63 + (h : Nat)) := by
  decide +kernel

theorem keep_eq : ∀ t : Fin 32, ∀ half : Fin 2, Scalar.cmpi .sgt (Scalar.addi (Scalar.muli (Scf.iv 0#32 1#32 t) 2#32) (BitVec.ofNat 32 half)) 0#32
    = BitVec.ofBool (decide (0 < 2 * (t : Nat) + (half : Nat))) := by
  decide +kernel

/-- A trip. -/
theorem trip_inv (t : Fin 32) (I : Inv s0 0 (2 * t) s) :
    Wp defs B c s (trip B hB (Scf.iv 0#32 1#32 t) (next_ok t) (.ret ⟨⟩)) (Inv s0 0 (2 * ((t : Nat) + 1))) := by
  refine half_inv (n := ⟨2 * t, by omega⟩) I (next_eq t 0 0) (next_eq t 0 1) (keep_eq t 0) fun s1 h1 => ?_
  refine half_inv (n := ⟨2 * t + 1, by omega⟩) h1 (next_eq t 1 0) (next_eq t 1 1) (keep_eq t 1) fun s2 h2 => ?_
  exact wp_ret' h2

end Dino
-- ==== Proof.Losses.lean ====
/-
  The losses read off the accumulators: what `finish` stores, in terms of the sums and maxima it finds.
-/
module

public import proofs.«01_k».proof.Proof.Trips

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s s' : St Ideal} {k : PR nD τ sig Λ Ideal PUnit}

/-- What the losses write. -/
def isLoss : Ref' → Bool
  | .row | .pair => true
  | _ => false

abbrev St.rowAt (s : St Ideal) (i : Fin 2) (v : Fin 4) (b : Fin 3) (q : Fin 256) : EReal :=
  (s .row : FVec Ideal S2x4x3x256 .f32) (ix4 i v b q)

/-- A crop's maxima and an accumulator, eight rows of 256 columns. -/
abbrev mV (s : St Ideal) (b : Fin 3) (x : Fin 6) : FVec Ideal S8x256 .f32 :=
  flat256 fun y => s .m ((blk .m ![b, x, 0, 0] S1x1x8x256.size (inb_m8 b x)).emb y)
abbrev aV (s : St Ideal) (b : Fin 3) (a : Fin 12) : FVec Ideal S8x256 .f32 :=
  flat256 fun y => s .acc ((blk .acc ![b, a, 0, 0] S1x1x8x256.size (inb_acc8 b a)).emb y)

theorem mV_apply (b : Fin 3) (x : Fin 6) (u : Fin 8) (q : Fin 256) : mV s b x (ix2 u q) = s.mAt b x u q := by
  have e (w : FVec Ideal S1x1x8x256 .f32) : flat256 w (ix2 u q) = w (ix4 0 0 u q) := by pointwise [flat256]
  refine (e _).trans (congrArg (s .m) (emb_eq _ fun k => ?_))
  fin_cases k
  · exact (Nat.add_zero _).symm
  · exact (Nat.add_zero _).symm
  · exact (Nat.zero_add _).symm
  · exact (Nat.zero_add _).symm

theorem aV_apply (b : Fin 3) (x : Fin 12) (u : Fin 8) (q : Fin 256) : aV s b x (ix2 u q) = s.accAt b x u q := by
  have e (w : FVec Ideal S1x1x8x256 .f32) : flat256 w (ix2 u q) = w (ix4 0 0 u q) := by pointwise [flat256]
  refine (e _).trans (congrArg (s .acc) (emb_eq _ fun k => ?_))
  fin_cases k
  · exact (Nat.add_zero _).symm
  · exact (Nat.add_zero _).symm
  · exact (Nat.zero_add _).symm
  · exact (Nat.zero_add _).symm

/-- A crop's total. -/
abbrev totV (s : St Ideal) (b : Fin 3) (x : Fin 6) : Tot Ideal :=
  ⟨colMax (mV s b x), shiftOf (mV s b x), colSum (mulf (aV s b ⟨x, by omega⟩) (shiftOf (mV s b x)))⟩

/-- The crops of pair `n`. -/
def pairI (n : Fin 6) : Fin 2 := ![0, 0, 0, 1, 1, 1] n
def pairV (n : Fin 6) : Fin 4 := ![1, 2, 3, 0, 2, 3] n

/-- Its loss over one batch row. -/
abbrev lossV (s : St Ideal) (b : Fin 3) (n : Fin 6) (i v : Fin 6) : FVec Ideal S1x256 .f32 :=
  lossOf (colSum (mulf (aV s b ⟨n + 6, by omega⟩) (shiftOf (mV s b i)))) (totV s b i) (totV s b v)

/-- The rows `D` are stored. -/
structure Rows (D : Fin 2 → Fin 4 → Fin 3 → Prop) (R : Fin 2 → Fin 4 → Fin 3 → Fin 256 → EReal) (s1 s : St Ideal) : Prop where
  only : Only isLoss s1 s
  at' : ∀ i v b, D i v b → ∀ q, s.rowAt i v b q = R i v b q

theorem stRow_wp {D : Fin 2 → Fin 4 → Fin 3 → Prop} {R : Fin 2 → Fin 4 → Fin 3 → Fin 256 → EReal} (I : Rows D R s0 s) {i : Fin 2} {v : Fin 4}
    {b : Fin 3} {w : FVec Ideal S1x256 .f32} (hw : ∀ q, w (ix2 0 q) = R i v b q)
    (hk : ∀ s', Rows (fun i' v' b' => D i' v' b' ∨ (i' = i ∧ v' = v ∧ b' = b)) R s0 s' → Wp defs B c s' k Q) :
    Wp defs B c s (stRow B i v b w k) Q := by
  unfold stRow
  refine wp_ld' <| wp_st' fun s2 h2 => hk s2 ?_
  have o2 := I.only.trans (Only.stored h2 rfl)
  refine ⟨o2, fun i' v' b' hD q => ?_⟩
  subst h2
  unfold St.rowAt
  rw [set_same]
  by_cases e : i' = i ∧ v' = v ∧ b' = b
  · obtain ⟨rfl, rfl, rfl⟩ := e
    have e (w : FVec Ideal S1x256 .f32) : shapeCast (s := S1x256) S1x1x1x256 w (by decide) (ix4 0 0 0 q) = w (ix2 0 q) := by pointwise []
    refine (over_in _ _ (ix4 0 0 0 q) fun k => ?_).trans ?_
    · fin_cases k
      · exact (Nat.add_zero _).symm
      · exact (Nat.add_zero _).symm
      · exact (Nat.add_zero _).symm
      · exact (Nat.zero_add _).symm
    · exact (e w).trans (hw q)
  · refine Eq.trans ?_ (I.at' i' v' b' (hD.resolve_right e) q)
    by_cases h1 : i' = i
    · by_cases h2 : v' = v
      · refine over_out _ _ 2 ?_
        have : b' ≠ b := fun h => e ⟨h1, h2, h⟩
        show (b' : Nat) < b ∨ (b : Nat) + 1 ≤ b'
        omega
      · refine over_out _ _ 1 ?_
        show (v' : Nat) < v ∨ (v : Nat) + 1 ≤ v'
        omega
    · refine over_out _ _ 0 ?_
      show (i' : Nat) < i ∨ (i : Nat) + 1 ≤ i'
      omega

section
variable {D : Fin 2 → Fin 4 → Fin 3 → Prop} {R : Fin 2 → Fin 4 → Fin 3 → Fin 256 → EReal}

theorem finCrop_wp (I : Rows D R s0 s) {b : Fin 3} {x : Fin 6} {good : IVec S1x256 1} {k : IVec S1x256 1 → Tot Ideal → PR nD τ sig Λ Ideal PUnit}
    (hk : ∀ g, Wp defs B c s (k g (totV s0 b x)) Q) : Wp defs B c s (finCrop B b x good k) Q := by
  unfold finCrop
  refine wp_ldv (w := fun y => s0 .m ((blk .m ![b, x, 0, 0] S1x1x8x256.size (inb_m8 b x)).emb y))
    (funext fun y => congrFun (I.only .m rfl) _) ?_
  refine wp_ldv (w := fun y => s0 .acc ((blk .acc ![b, x, 0, 0] S1x1x8x256.size (inb_acc8 b ⟨x, by omega⟩)).emb y))
    (funext fun y => congrFun (I.only .acc rfl) _) ?_
  exact hk _

theorem finPair_wp (I : Rows D R s0 s) {b : Fin 3} {i : Fin 2} {v : Fin 4} {n xi xv : Fin 6} {good : IVec S1x256 1} {pair : FVec Ideal S1x256 .f32}
    {k : IVec S1x256 1 → FVec Ideal S1x256 .f32 → PR nD τ sig Λ Ideal PUnit}
    (hR : ∀ q, lossV s0 b n xi xv (ix2 0 q) = R i v b q)
    (hk : ∀ s' g, Rows (fun i' v' b' => D i' v' b' ∨ (i' = i ∧ v' = v ∧ b' = b)) R s0 s' → Wp defs B c s' (k g (addf pair (lossV s0 b n xi xv))) Q) :
    Wp defs B c s (finPair B b i v n (totV s0 b xi) (totV s0 b xv) good pair k) Q := by
  unfold finPair
  refine wp_ldv (w := fun y => s0 .acc ((blk .acc ![b, n + 6, 0, 0] S1x1x8x256.size (inb_acc8 b ⟨n + 6, by omega⟩)).emb y))
    (funext fun y => congrFun (I.only .acc rfl) _) ?_
  exact stRow_wp I hR fun s' h => hk s' _ h

end

/-- The losses of one batch row: zero for a crop with itself. -/
def lossAt (s : St Ideal) (i : Fin 2) (v : Fin 4) (b : Fin 3) (q : Fin 256) : EReal :=
  match i, v with
  | 0, 0 => 0
  | 0, 1 => lossV s b 0 0 3 (ix2 0 q)
  | 0, 2 => lossV s b 1 0 4 (ix2 0 q)
  | 0, 3 => lossV s b 2 0 5 (ix2 0 q)
  | 1, 0 => lossV s b 3 1 2 (ix2 0 q)
  | 1, 1 => 0
  | 1, 2 => lossV s b 4 1 4 (ix2 0 q)
  | 1, 3 => lossV s b 5 1 5 (ix2 0 q)

theorem zero_lit : (Scalar.ofBits .f32 0x00000000#32 : Ideal .f32) = (0 : EReal) := by
  simp [Scalar.ofBits, FloatOps.ofBits, Ideal.ofBits, Ideal.ieee]

theorem finBatch_wp {D : Fin 2 → Fin 4 → Fin 3 → Prop} (I : Rows D (lossAt s0) s0 s) {b : Fin 3} {A : Fin6 Ideal} {k : Fin6 Ideal → PR nD τ sig Λ Ideal PUnit}
    (hk : ∀ s' g, Rows (fun i' v' b' => D i' v' b' ∨ b' = b) (lossAt s0) s0 s' → Wp defs B c s' (k ⟨g, addf A.p0 (lossV s0 b 0 0 3), addf A.p1 (lossV s0 b 1 0 4),
      addf A.p2 (lossV s0 b 2 0 5), addf A.p3 (lossV s0 b 3 1 2), addf A.p4 (lossV s0 b 4 1 4), addf A.p5 (lossV s0 b 5 1 5)⟩) Q) :
    Wp defs B c s (finBatch B b A k) Q := by
  unfold finBatch
  refine finCrop_wp I fun g => finCrop_wp I fun g => finCrop_wp I fun g => finCrop_wp I fun g => finCrop_wp I fun g => finCrop_wp I fun g => ?_
  refine finPair_wp I (fun q => rfl) fun s1 g I1 => finPair_wp I1 (fun q => rfl) fun s2 g I2 => finPair_wp I2 (fun q => rfl) fun s3 g I3 => ?_
  refine finPair_wp I3 (fun q => rfl) fun s4 g I4 => finPair_wp I4 (fun q => rfl) fun s5 g I5 => finPair_wp I5 (fun q => rfl) fun s6 g I6 => ?_
  refine stRow_wp I6 (fun q => zero_lit) fun s7 I7 => stRow_wp I7 (fun q => zero_lit) fun s8 I8 => hk s8 g ⟨I8.only, fun i v b' hD q => I8.at' i v b' ?_ q⟩
  rcases hD with hD | rfl
  · exact .inl (.inl (.inl (.inl (.inl (.inl (.inl (.inl hD)))))))
  · fin_cases i <;> fin_cases v <;> simp

/-- A pair's loss over the rows of one batch row after another. -/
abbrev pairV3 (s : St Ideal) (n i v : Fin 6) : FVec Ideal S1x256 .f32 :=
  addf (addf (addf (broadcast S1x256 (Scalar.ofBits .f32 0x00000000#32)) (lossV s 0 n i v)) (lossV s 1 n i v)) (lossV s 2 n i v)

/-- The mean over a pair's rows. -/
abbrev meanOf (p : Fin 256 → EReal) : EReal := (∑ q, p q) * Ideal.ofBits .f32 0x3AAAAAAB#32

theorem pairOut_apply (A : Fin6 Ideal) (i : Fin 2) (v : Fin 4) : pairOut A (ix2 i v) =
    match i, v with
    | 0, 0 => 0
    | 0, 1 => meanOf fun q => A.p0 (ix2 0 q)
    | 0, 2 => meanOf fun q => A.p1 (ix2 0 q)
    | 0, 3 => meanOf fun q => A.p2 (ix2 0 q)
    | 1, 0 => meanOf fun q => A.p3 (ix2 0 q)
    | 1, 1 => 0
    | 1, 2 => meanOf fun q => A.p4 (ix2 0 q)
    | 1, 3 => meanOf fun q => A.p5 (ix2 0 q) := by
  fin_cases i <;> fin_cases v <;> pointwise [pairOut, putPair] <;> simp [Scalar.select, IntOp.cmpi, IntOp.andi, meanOf]

/-- Both results. -/
theorem finish_wp {k : IVec S1x256 1 → PR nD τ sig Λ Ideal PUnit}
    (hk : ∀ s' g, Only isLoss s s' → (∀ i v b q, s'.rowAt i v b q = lossAt s i v b q) →
      (∀ i v, (s' .pair : FVec Ideal S2x4 .f32) (ix2 i v) = if (i : Nat) = v then 0 else
        meanOf fun q => 0 + lossAt s i v 0 q + lossAt s i v 1 q + lossAt s i v 2 q) → Wp defs B c s' (k g) Q) :
    Wp defs B c s (finish B k) Q := by
  unfold finish
  simp only [loop, rep]
  have i0 : Rows (fun _ _ _ => False) (lossAt s) s s := ⟨Only.refl _ _, fun _ _ _ h => h.elim⟩
  refine finBatch_wp i0 fun s1 g I1 => finBatch_wp I1 fun s2 g I2 => finBatch_wp I2 fun s3 g I3 => ?_
  refine wp_ld' <| wp_st' fun s4 h4 => hk s4 g (I3.only.trans (Only.stored h4 rfl)) (fun i v b q => ?_) fun i v => ?_
  · unfold St.rowAt
    rw [h4, set_other _ _ (by decide)]
    exact I3.at' i v b (by fin_cases b <;> simp) q
  · rw [h4, set_same]
    refine (congrFun (over_whole2 _ _) _).trans ((pairOut_apply _ i v).trans ?_)
    have z : (FloatOps.ofBits .f32 0x00000000#32 : Ideal .f32) = (0 : EReal) := zero_lit
    fin_cases i <;> fin_cases v <;> first | rfl | (simp only [← z]; rfl)

end Dino
-- ==== Proof.Exponentials.lean ====
/-
  The twelve sums of one sublane and column, shifted by running maxima: what they stand for, and one more row taken in.
-/
module

public import proofs.«01_k».proof.Proof.Equation
public import Mathlib.Analysis.SpecialFunctions.Pow.Real

@[expose] public section

noncomputable section

namespace Dino

open Idealize.ShloMosaic

/-- The crop whose exponential accumulator `a` sums, and the crop whose logit it is multiplied with. -/
def bs : Fin 12 → Fin 6 := ![0, 1, 2, 3, 4, 5, 0, 0, 0, 1, 1, 1]
def wv : Fin 12 → Option (Fin 6) := ![none, none, none, none, none, none, some 3, some 4, some 5, some 2, some 4, some 5]

/-- One row's part of accumulator `a`, shifted by `μ`. -/
def termR (z μ : Fin 6 → ℝ) (a : Fin 12) : ℝ := (2 : ℝ) ^ (z (bs a) - μ (bs a)) * (wv a).elim 1 z

/-- The accumulator after one more row, the maxima so far being `m`. -/
def shA (z m : Fin 6 → EReal) (A : Fin 12 → EReal) (a : Fin 12) : EReal :=
  A a * Ideal.exp2 (m (bs a) - max (m (bs a)) (z (bs a))) + Ideal.exp2 (z (bs a) - max (m (bs a)) (z (bs a))) * (wv a).elim 1 z

/-- The maxima `m` and the sums `A` stand for the rows `K` with logits `z`. -/
def Rep {ι : Type} [DecidableEq ι] (z : ι → Fin 6 → ℝ) (K : Finset ι) (m : Fin 6 → EReal) (A : Fin 12 → EReal) : Prop :=
  ∃ μ : Fin 6 → ℝ, (∀ a, A a = ((∑ k ∈ K, termR (z k) μ a : ℝ) : EReal)) ∧ ∀ x, m x = if K = ∅ then ⊥ else (μ x : EReal)

theorem exp2_real (r : ℝ) : Ideal.exp2 (r : EReal) = (((2 : ℝ) ^ r : ℝ) : EReal) := rfl

theorem coe_max (a b : ℝ) : max (a : EReal) (b : EReal) = ((max a b : ℝ) : EReal) := (EReal.coe_strictMono.monotone.map_max).symm

theorem elim_coe (z : Fin 6 → ℝ) (o : Option (Fin 6)) : (o.elim 1 fun x => (z x : EReal)) = ((o.elim 1 z : ℝ) : EReal) := by
  cases o <;> simp

variable {ι : Type} [DecidableEq ι] {z : ι → Fin 6 → ℝ}

theorem rep_empty {m : Fin 6 → EReal} {A : Fin 12 → EReal} (hm : ∀ x, m x = ⊥) (hA : ∀ a, A a = 0) : Rep z ∅ m A :=
  ⟨0, fun a => by rw [hA]; simp, fun x => by rw [hm]; simp⟩

theorem rep_step {K : Finset ι} {m : Fin 6 → EReal} {A : Fin 12 → EReal} (h : Rep z K m A) {k : ι} (hk : k ∉ K) :
    Rep z (insert k K) (fun x => max (m x) (z k x : EReal)) (shA (fun x => (z k x : EReal)) m A) := by
  obtain ⟨μ, hA, hm⟩ := h
  by_cases hK : K = ∅
  · subst hK
    have hm' : ∀ x, m x = ⊥ := fun x => by rw [hm]; simp
    refine ⟨z k, fun a => ?_, fun x => ?_⟩
    · unfold shA
      rw [hA, hm', max_eq_right bot_le, ← EReal.coe_sub, sub_self, exp2_real, elim_coe]
      simp [termR]
    · show max (m x) _ = _
      rw [hm', max_eq_right bot_le, if_neg (Finset.insert_ne_empty k ∅)]
  · refine ⟨fun x => max (μ x) (z k x), fun a => ?_, fun x => ?_⟩
    · unfold shA
      rw [hA, hm, if_neg hK, coe_max, ← EReal.coe_sub, ← EReal.coe_sub, exp2_real, exp2_real, elim_coe, ← EReal.coe_mul, ← EReal.coe_mul,
        ← EReal.coe_add, Finset.sum_insert hk, add_comm, Finset.sum_mul]
      refine congrArg _ (congrArg₂ (· + ·) rfl (Finset.sum_congr rfl fun i _ => ?_))
      unfold termR
      rw [mul_right_comm, ← Real.rpow_add two_pos]
      congr 2
      ring
    · show max (m x) _ = _
      rw [hm, if_neg hK, coe_max, if_neg (Finset.insert_ne_empty k K)]

/-- Sums that were not shifted. -/
theorem rep_plain {K : Finset ι} (hK : K ≠ ∅) {m : Fin 6 → EReal} {A : Fin 12 → EReal} (hm : ∀ x, m x = 0)
    (hA : ∀ a, A a = ∑ k ∈ K, Ideal.exp2 (z k (bs a) : EReal) * (wv a).elim 1 fun x => (z k x : EReal)) : Rep z K m A :=
  ⟨0, fun a => by
    rw [hA, coe_sum]
    refine Finset.sum_congr rfl fun k _ => ?_
    rw [exp2_real, elim_coe, ← EReal.coe_mul]
    simp [termR], fun x => by rw [hm, if_neg hK]; rfl⟩

end Dino
-- ==== Proof.Shift.lean ====
/-
  The second pass: running maxima and sums shifted by them, eight rows at a time.
-/
module

public import proofs.«01_k».proof.Proof.Trips
public import proofs.«01_k».proof.Proof.Exponentials

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s1 s s' : St Ideal} {k : PR nD τ sig Λ Ideal PUnit}

/-- What taking rows in writes. -/
def isMA : Ref' → Bool
  | .m | .acc => true
  | _ => false

theorem m_MA : ∀ i, isMA i = false → one .m i = false := fun i => by cases i <;> decide
theorem acc_MA : ∀ i, isMA i = false → one .acc i = false := fun i => by cases i <;> decide
theorem MA_may : ∀ i, mayChange i = false → isMA i = false := fun i => by cases i <;> decide

theorem bs_crop : ∀ x : Fin 6, bs ⟨x, by omega⟩ = x := by decide
theorem wv_crop : ∀ x : Fin 6, wv ⟨x, by omega⟩ = none := by decide

/-- The lane of a column. -/
abbrev lane (q : Fin 256) : Fin 128 := ⟨q % 128, by omega⟩

theorem lane_colAt (j : Fin 2) (l : Fin 128) : lane (colAt j l) = l := colAt_mod j l
theorem col_of {j : Fin 2} {q : Fin 256} (h : (q : Nat) / 128 = j) : q = colAt j (lane q) := Fin.ext (by show (q : Nat) = 128 * j + q % 128; omega)
theorem colAt_div (j : Fin 2) (l : Fin 128) : (colAt j l : Nat) / 128 = j := by show (128 * (j : Nat) + l) / 128 = j; omega

/-- Half `j` of batch row `b`: the first `i` of the twelve steps are done, the rows' logits being `Z`. -/
structure Prog (b : Fin 3) (j : Fin 2) (Z : Fin 6 → FVec Ideal S8x128 .f32) (s1 : St Ideal) (i : Nat) (s : St Ideal) : Prop where
  only : Only isMA s1 s
  m : ∀ (x : Fin 6) u (q : Fin 256), (q : Nat) / 128 = j →
    s.mAt b x u q = if (x : Nat) < i then max (s1.mAt b x u q) (Z x (ix2 u (lane q))) else s1.mAt b x u q
  a : ∀ (a : Fin 12) u (q : Fin 256), (q : Nat) / 128 = j →
    s.accAt b a u q = if (a : Nat) < i then shA (fun x => Z x (ix2 u (lane q))) (fun x => s1.mAt b x u q) (fun a => s1.accAt b a u q) a else s1.accAt b a u q
  om : ∀ b' (x : Fin 6) u (q : Fin 256), ¬(b' = b ∧ (q : Nat) / 128 = j) → s.mAt b' x u q = s1.mAt b' x u q
  oa : ∀ b' (a : Fin 12) u (q : Fin 256), ¬(b' = b ∧ (q : Nat) / 128 = j) → s.accAt b' a u q = s1.accAt b' a u q

/-- The old maximum's distance to the new one, and the new logit's, exponentiated. -/
def IsShrink (b : Fin 3) (j : Fin 2) (Z : Fin 6 → FVec Ideal S8x128 .f32) (s1 : St Ideal) (x : Fin 6) (f e : FVec Ideal S8x128 .f32) : Prop :=
  ∀ u l, f (ix2 u l) = Ideal.exp2 (s1.mAt b x u (colAt j l) - max (s1.mAt b x u (colAt j l)) (Z x (ix2 u l))) ∧
    e (ix2 u l) = Ideal.exp2 (Z x (ix2 u l) - max (s1.mAt b x u (colAt j l)) (Z x (ix2 u l)))

abbrev mBlk (s : St Ideal) (b : Fin 3) (j : Fin 2) (x : Fin 6) : FVec Ideal S8x128 .f32 :=
  flat fun y => s .m ((blk .m ![b, x, 0, 128 * j] S1x1x8x128.size (inb_mHalf b x j)).emb y)

theorem mBlk_apply (b : Fin 3) (j : Fin 2) (x : Fin 6) (u : Fin 8) (l : Fin 128) : mBlk s b j x (ix2 u l) = s.mAt b x u (colAt j l) := by
  refine (flat_apply _ u l).trans (congrArg (s .m) (emb_eq _ fun k => ?_))
  fin_cases k <;> simp [ix4]

section
variable {b : Fin 3} {j : Fin 2} {Z : Fin 6 → FVec Ideal S8x128 .f32}

theorem crop_step {x : Fin 6} (I : Prog b j Z s1 x s) {k : FVec Ideal S8x128 .f32 → FVec Ideal S8x128 .f32 → PR nD τ sig Λ Ideal PUnit}
    (hk : ∀ s' f e, Prog b j Z s1 (x + 1) s' → IsShrink b j Z s1 x f e → Wp defs B c s' (k f e) Q) :
    Wp defs B c s (shCrop B b j x (Z x) k) Q := by
  unfold shCrop ldM ldAcc
  refine wp_ld' <| stM_wp fun t1 o1 c1 u1 => wp_ld' <| stAcc_wp fun t2 o2 c2 u2 => hk t2 _ _ ?_ ?_
  · refine ⟨(I.only.trans (o1.weaken m_MA)).trans (o2.weaken acc_MA), fun x' u q hq => ?_, fun a u q hq => ?_, fun b' x' u q hn => ?_,
      fun b' a u q hn => ?_⟩
    · have e : t2.mAt b x' u q = t1.mAt b x' u q := congrFun (o2 .m rfl) _
      rw [e]
      by_cases hx : x' = x
      · subst hx
        rw [if_pos (by omega), col_of hq]
        refine (c1 u (lane q)).trans ?_
        show max (mBlk s b j x' (ix2 u (lane q))) _ = _
        rw [mBlk_apply, I.m x' u _ (colAt_div j _), if_neg (by omega), lane_colAt]
      · have hx' : (x' : Nat) ≠ x := fun h => hx (Fin.ext h)
        rw [u1 _ _ _ _ (fun h => hx h.2.1), I.m x' u q hq]
        by_cases h : (x' : Nat) < x
        · rw [if_pos h, if_pos (by omega)]
        · rw [if_neg h, if_neg (by omega)]
    · have e1 : ∀ b a u q, t1.accAt b a u q = s.accAt b a u q := fun b a u q => congrFun (o1 .acc rfl) _
      by_cases hx : (a : Nat) = x
      · have ea : a = ⟨x, by omega⟩ := Fin.ext hx
        rw [if_pos (by omega), col_of hq, ea]
        refine (c2 u (lane q)).trans ?_
        show aBlk t1 b j ⟨x, by omega⟩ (ix2 u (lane q)) * Ideal.exp2 (mBlk s b j x (ix2 u (lane q)) - max (mBlk s b j x (ix2 u (lane q))) (Z x (ix2 u (lane q))))
          + Ideal.exp2 (Z x (ix2 u (lane q)) - max (mBlk s b j x (ix2 u (lane q))) (Z x (ix2 u (lane q)))) = _
        rw [aBlk_apply, mBlk_apply, e1, I.m x u _ (colAt_div j _), if_neg (by omega), I.a _ u _ (colAt_div j _),
          if_neg (show ¬((⟨(x : Nat), by omega⟩ : Fin 12) : Nat) < x from by simp), lane_colAt]
        unfold shA
        have hb : bs ⟨x, by omega⟩ = x := bs_crop x
        have hw : wv ⟨x, by omega⟩ = none := wv_crop x
        rw [hb, hw]
        simp
      · rw [u2 _ _ _ _ (fun h => hx (congrArg Fin.val h.2.1)), e1, I.a a u q hq]
        by_cases h : (a : Nat) < x
        · rw [if_pos h, if_pos (by omega)]
        · rw [if_neg h, if_neg (by omega)]
    · have e : t2.mAt b' x' u q = t1.mAt b' x' u q := congrFun (o2 .m rfl) _
      rw [e, u1 _ _ _ _ (fun h => hn ⟨h.1, h.2.2⟩), I.om _ _ _ _ hn]
    · have e : t1.accAt b' a u q = s.accAt b' a u q := congrFun (o1 .acc rfl) _
      rw [u2 _ _ _ _ (fun h => hn ⟨h.1, h.2.2⟩), e, I.oa _ _ _ _ hn]
  · intro u l
    have e : mBlk s b j x (ix2 u l) = s1.mAt b x u (colAt j l) := by
      rw [mBlk_apply, I.m x u _ (colAt_div j _), if_neg (by omega)]
    rw [← e]
    exact ⟨rfl, rfl⟩

theorem pair_step {n x y : Fin 6} {i : Nat} (hi : i = n + 6) (I : Prog b j Z s1 i s) {f e : FVec Ideal S8x128 .f32} (hf : IsShrink b j Z s1 x f e)
    (hx : bs ⟨n + 6, by omega⟩ = x) (hy : wv ⟨n + 6, by omega⟩ = some y) (hk : ∀ s', Prog b j Z s1 (i + 1) s' → Wp defs B c s' k Q) :
    Wp defs B c s (shPair B b j n f e (Z y) k) Q := by
  subst hi
  unfold shPair ldAcc
  refine wp_ld' <| stAcc_wp fun t2 o2 c2 u2 => hk t2 ?_
  refine ⟨I.only.trans (o2.weaken acc_MA), fun x' u q hq => ?_, fun a u q hq => ?_, fun b' x' u q hn => ?_, fun b' a u q hn => ?_⟩
  · have e : t2.mAt b x' u q = s.mAt b x' u q := congrFun (o2 .m rfl) _
    rw [e, I.m x' u q hq, if_pos (by omega), if_pos (by omega)]
  · by_cases ha : (a : Nat) = n + 6
    · have ea : a = ⟨n + 6, by omega⟩ := Fin.ext ha
      rw [if_pos (by omega), col_of hq, ea]
      refine (c2 u (lane q)).trans ?_
      show aBlk s b j ⟨n + 6, by omega⟩ (ix2 u (lane q)) * f (ix2 u (lane q)) + e (ix2 u (lane q)) * Z y (ix2 u (lane q)) = _
      rw [aBlk_apply, I.a _ u _ (colAt_div j _), if_neg (show ¬((⟨(n : Nat) + 6, by omega⟩ : Fin 12) : Nat) < n + 6 from by simp), (hf u (lane q)).1,
        (hf u (lane q)).2, lane_colAt]
      unfold shA
      rw [hx, hy]
      rfl
    · rw [u2 _ _ _ _ (fun h => ha (congrArg Fin.val h.2.1)), I.a a u q hq]
      by_cases h : (a : Nat) < n + 6
      · rw [if_pos h, if_pos (by omega)]
      · rw [if_neg h, if_neg (by omega)]
  · have e : t2.mAt b' x' u q = s.mAt b' x' u q := congrFun (o2 .m rfl) _
    rw [e, I.om _ _ _ _ hn]
  · rw [u2 _ _ _ _ (fun h => hn ⟨h.1, h.2.2⟩), I.oa _ _ _ _ hn]

end

/-! ## One half -/

abbrev sRowB (s : St Ideal) {r : Nat} (h : r + 8 ≤ 256) (j : Fin 2) (x : Fin 6) : FVec Ideal S8x128 .f32 :=
  flat fun y => s .s ((blk .s ![0, x, r, 128 * j] S1x1x8x128.size (inb_sRow h x j)).emb y)
abbrev fRowB (s : St Ideal) {r : Nat} (h : r + 8 ≤ 256) (f : Fin 3) : FVec Ideal S8x128 .f32 :=
  flat fun y => s .fac ((blk .fac ![0, f, r, 0] S1x1x8x128.size (inb_facRow h f)).emb y)

theorem sRowB_apply {r : Nat} (h : r + 8 ≤ 256) (j : Fin 2) (x : Fin 6) (u : Fin 8) (l : Fin 128) :
    sRowB s h j x (ix2 u l) = s.sAt 0 x ⟨r + u, by omega⟩ (colAt j l) := by
  refine (flat_apply _ u l).trans (congrArg (s .s) (emb_eq _ fun k => ?_))
  fin_cases k <;> simp [ix4]

theorem fRowB_apply {r : Nat} (h : r + 8 ≤ 256) (f : Fin 3) (u : Fin 8) (l : Fin 128) :
    fRowB s h f (ix2 u l) = s.facAt 0 f ⟨r + u, by omega⟩ l := by
  refine (flat_apply _ u l).trans (congrArg (s .fac) (emb_eq _ fun k => ?_))
  fin_cases k <;> simp [ix4]

abbrev zSh (s : St Ideal) {r : Nat} (h : r + 8 ≤ 256) (j : Fin 2) (x : Fin 6) : FVec Ideal S8x128 .f32 :=
  zRows (fRowB s h 0) (fRowB s h 1) (fRowB s h 2) (sRowB s h j) x

theorem zSh_apply {r : Nat} (h : r + 8 ≤ 256) (j : Fin 2) (u : Fin 8) (q : Fin 256) (hq : (q : Nat) / 128 = j) (x : Fin 6) :
    zSh s h j x (ix2 u (lane q)) = zAt s 0 0 ⟨r + u, by omega⟩ q x := by
  unfold zAt
  unfold zSh zRows
  have e := sRowB_apply (s := s) h j x u (lane q)
  rw [← col_of hq] at e
  split
  · show sRowB s h j x (ix2 u (lane q)) * fRowB s h 0 (ix2 u (lane q)) - fRowB s h 2 (ix2 u (lane q)) = _
    rw [e, fRowB_apply, fRowB_apply]
  · show sRowB s h j x (ix2 u (lane q)) * fRowB s h 1 (ix2 u (lane q)) = _
    rw [e, fRowB_apply]

theorem shHalf_wp {b : Fin 3} {r : Nat} {h : r + 8 ≤ 256} {j : Fin 2} (hk : ∀ s', Prog b j (zSh s h j) s 12 s' → Wp defs B c s' k Q) :
    Wp defs B c s (shHalf B b h j k) Q := by
  unfold shHalf ldFacR ldSR
  refine wp_ld' <| wp_ld' <| wp_ld' <| wp_ld' <| wp_ld' <| wp_ld' <| wp_ld' <| wp_ld' <| wp_ld' ?_
  have i0 : Prog b j (zSh s h j) s 0 s := ⟨Only.refl _ _, fun _ _ _ _ => by simp, fun _ _ _ _ => by simp, fun _ _ _ _ _ => rfl, fun _ _ _ _ _ => rfl⟩
  refine crop_step (x := 0) i0 fun t f0 e0 I f0h => crop_step (x := 1) I fun t f1 e1 I f1h => crop_step (x := 2) I fun t _ _ I _ => ?_
  refine crop_step (x := 3) I fun t _ _ I _ => crop_step (x := 4) I fun t _ _ I _ => crop_step (x := 5) I fun t _ _ I _ => ?_
  refine pair_step (n := 0) (x := 0) (y := 3) rfl I f0h rfl rfl fun t I => pair_step (n := 1) (x := 0) (y := 4) rfl I f0h rfl rfl fun t I => ?_
  refine pair_step (n := 2) (x := 0) (y := 5) rfl I f0h rfl rfl fun t I => pair_step (n := 3) (x := 1) (y := 2) rfl I f1h rfl rfl fun t I => ?_
  refine pair_step (n := 4) (x := 1) (y := 4) rfl I f1h rfl rfl fun t I => pair_step (n := 5) (x := 1) (y := 5) rfl I f1h rfl rfl fun t I => ?_
  exact hk t I

/-- Both halves. -/
theorem shRows_wp {b : Fin 3} {r : Nat} {h : r + 8 ≤ 256}
    (hk : ∀ s', Only isMA s s' → (∀ u q, (fun x => s'.mAt b x u q) = (fun x => max (s.mAt b x u q) (zAt s 0 0 ⟨r + u, by omega⟩ q x)) ∧
        (fun a => s'.accAt b a u q) = shA (zAt s 0 0 ⟨r + u, by omega⟩ q) (fun x => s.mAt b x u q) (fun a => s.accAt b a u q)) →
      (∀ b' u q, b' ≠ b → (fun x => s'.mAt b' x u q) = (fun x => s.mAt b' x u q) ∧ (fun a => s'.accAt b' a u q) = fun a => s.accAt b' a u q) →
      Wp defs B c s' k Q) :
    Wp defs B c s (shHalf B b h 0 <| shHalf B b h 1 k) Q := by
  refine shHalf_wp fun t1 I1 => shHalf_wp fun t2 I2 => hk t2 (I1.only.trans I2.only) (fun u q => ?_) fun b' u q hn =>
    ⟨funext fun x => (I2.om _ _ _ _ fun e => hn e.1).trans (I1.om _ _ _ _ fun e => hn e.1),
      funext fun a => (I2.oa _ _ _ _ fun e => hn e.1).trans (I1.oa _ _ _ _ fun e => hn e.1)⟩
  have hz : zAt t1 0 0 ⟨r + u, by omega⟩ q = zAt s 0 0 ⟨r + u, by omega⟩ q := by
    funext x
    unfold zAt St.sAt St.facAt
    rw [I1.only .s rfl, I1.only .fac rfl]
  by_cases hq : (q : Nat) / 128 = ((0 : Fin 2) : Nat)
  · have hq' : ¬(q : Nat) / 128 = ((1 : Fin 2) : Nat) := fun e => by rw [hq] at e; exact absurd e (by decide)
    have ez : (fun x => zSh s h 0 x (ix2 u (lane q))) = zAt s 0 0 ⟨r + u, by omega⟩ q := funext fun x => zSh_apply h 0 u q hq x
    refine ⟨funext fun x => ?_, funext fun a => ?_⟩
    · rw [I2.om _ _ _ _ (fun e => hq' e.2), I1.m x u q hq, if_pos (by omega), zSh_apply h 0 u q hq x]
    · rw [I2.oa _ _ _ _ (fun e => hq' e.2), I1.a a u q hq, if_pos a.2, ez]
  · have hq' : (q : Nat) / 128 = ((1 : Fin 2) : Nat) := by
      have h0 : ((0 : Fin 2) : Nat) = 0 := rfl
      have h1 : ((1 : Fin 2) : Nat) = 1 := rfl
      rw [h0] at hq; rw [h1]; omega
    have ez : (fun x => zSh t1 h 1 x (ix2 u (lane q))) = zAt s 0 0 ⟨r + u, by omega⟩ q := (funext fun x => zSh_apply h 1 u q hq' x).trans hz
    refine ⟨funext fun x => ?_, funext fun a => ?_⟩
    · rw [I2.m x u q hq', if_pos (by omega), I1.om _ _ _ _ (fun e => hq e.2)]
      exact congrArg _ (congrFun ez x)
    · rw [I2.a a u q hq', if_pos a.2, ez]
      simp only [I1.om _ _ _ _ (fun e => hq e.2), I1.oa _ _ _ _ (fun e => hq e.2)]

/-! ## The rows of a chunk -/

/-- The rows of one sublane: chunk and group of eight rows. -/
abbrev Rw : Type := Fin 64 × Fin 32

/-- The rows taken in before group `g` of chunk `n`. -/
def taken (n g : Nat) : Finset Rw := Finset.univ.filter fun k => (k.1 : Nat) < n ∨ ((k.1 : Nat) = n ∧ (k.2 : Nat) < g)

theorem taken_succ (n : Fin 64) (g : Fin 32) : taken n (g + 1) = insert (n, g) (taken n g) := by
  ext k
  simp only [taken, Finset.mem_filter, Finset.mem_univ, true_and, Finset.mem_insert, Prod.ext_iff, Fin.ext_iff]
  omega
theorem taken_not (n : Fin 64) (g : Fin 32) : (n, g) ∉ taken n g := by simp [taken]
theorem taken_next (n : Nat) : taken n 32 = taken (n + 1) 0 := by
  ext k
  simp only [taken, Finset.mem_filter, Finset.mem_univ, true_and]
  omega
theorem taken_zero : taken 0 0 = ∅ := by
  ext k
  simp [taken]
theorem taken_all : taken 64 0 = Finset.univ := by
  ext k
  simp [taken]

/-- Batch row `b` stands for the rows `K`. -/
def Stands (zr : Fin 3 → Fin 256 → Fin 16384 → Fin 6 → ℝ) (s : St Ideal) (b : Fin 3) (K : Finset Rw) : Prop :=
  ∀ u q, Rep (fun k : Rw => zr b q (pr k.1 (rowIn k.2 u))) K (fun x => s.mAt b x u q) (fun a => s.accAt b a u q)

theorem rowAt_eq : ∀ t : Fin 32, rowAt t = 8 * t := by decide

theorem shBatches_wp {zr : Fin 3 → Fin 256 → Fin 16384 → Fin 6 → ℝ} (hz : ∀ b q p x, zOf s0 b q p x = (zr b q p x : EReal)) {b : Fin 3} {n : Fin 64}
    (hr : HasRows s0 s 0 n) (hs : HasS s0 s 0 b n) (hS : Stands zr s b (taken n 0)) {k : PUnit → PR nD τ sig Λ Ideal PUnit}
    (hk : ∀ s', Only isMA s s' → Stands zr s' b (taken (n + 1) 0) → (∀ b' K, b' ≠ b → Stands zr s b' K → Stands zr s' b' K) → Wp defs B c s' (k ⟨⟩) Q) :
    Wp defs B c s (forN 32#32 ok32 (shBatch B b) >>= k) Q := by
  refine wp_forN (fun t s' => Only isMA s s' ∧ Stands zr s' b (taken n t) ∧ ∀ b' K, b' ≠ b → Stands zr s b' K → Stands zr s' b' K)
    ⟨Only.refl _ _, hS, fun _ _ _ h => h⟩ (fun t t0 ⟨o, hS, hO⟩ => ?_) fun s' ⟨o, hS, hO⟩ => hk s' o ?_ hO
  · have ht : (t : Nat) < 32 := t.2.trans_eq trips32
    unfold shBatch
    refine shRows_wp fun t1 o1 h1 u1 => wp_ret' ⟨o.trans o1, fun u q => ?_, fun b' K hn h u q => ?_⟩
    · have e := taken_succ n ⟨t, ht⟩
      rw [show ((⟨t, ht⟩ : Fin 32) : Nat) + 1 = (t : Nat) + 1 from rfl] at e
      rw [e, (h1 u q).1, (h1 u q).2]
      have ez : zAt t0 0 0 ⟨rowAt t + u, by have := rowAt_le ⟨t, ht⟩; simp at this; omega⟩ q
          = fun x => ((zr b q (pr n (rowIn ⟨t, ht⟩ u)) x : ℝ) : EReal) := by
        have hr' := hr.congr (o .v rfl) (o .fac rfl)
        have hs' := hs.congr (o .s rfl)
        rw [zAt_eq hr' hs']
        funext x
        rw [hz]
        have : rowAt t = 8 * (t : Nat) := rowAt_eq ⟨t, ht⟩
        simp only [this]
      have := rep_step (hS u q) (taken_not n ⟨t, ht⟩)
      rw [ez]
      exact this
    · have := hO b' K hn h u q
      rw [(u1 b' u q hn).1, (u1 b' u q hn).2]
      exact this
  · rw [trips32, taken_next] at hS
    exact hS

/-- One chunk. -/
theorem shChunk_wp {zr : Fin 3 → Fin 256 → Fin 16384 → Fin 6 → ℝ} (hz : ∀ b q p x, zOf s0 b q p x = (zr b q p x : EReal))
    (n : Fin (⟨0#32, 64#32, 1#32⟩ : Scf.Loop 32).trips) (ho : Only mayChange s0 s) (hS : ∀ b, Stands zr s b (taken n 0)) :
    Wp defs B c s (shChunk B hB n) fun s' => Only mayChange s0 s' ∧ ∀ b, Stands zr s' b (taken (n + 1) 0) := by
  have hn : (n : Nat) < 64 := n.2.trans_eq trips64
  have same_eq : ∀ t : Fin 64, ∀ h : Fin 2, sameGroup (Scf.iv 0#32 1#32 t) (BitVec.ofNat 32 h) = BitVec.ofNat 32 (2 * (t : Nat) + (h : Nat)) := by
    decide +kernel
  have keep {s s' : St Ideal} (hm : s' .m = s .m) (ha : s' .acc = s .acc) {b : Fin 3} {K : Finset Rw} (h : Stands zr s b K) : Stands zr s' b K := by
    intro u q
    unfold St.mAt St.accAt
    rw [hm, ha]
    exact h u q
  unfold shChunk
  refine prep_wp ⟨n, hn⟩ (same_eq ⟨n, hn⟩ 0) (same_eq ⟨n, hn⟩ 1) ho fun s1 o1 r1 _ _ => ?_
  have m1 := ho.trans (o1.weaken prep_may)
  refine logits_has m1 r1 fun s2 o2 p2 _ => ?_
  have m2 := m1.trans (o2.weaken s_may)
  have r2 := r1.congr (o2 .v rfl) (o2 .fac rfl)
  have S2 : ∀ b, Stands zr s2 b (taken n 0) := fun b => keep (o2 .m rfl) (o2 .acc rfl) (keep (o1 .m rfl) (o1 .acc rfl) (hS b))
  refine shBatches_wp (n := ⟨n, hn⟩) hz r2 p2 (S2 0) fun s3 o3 b3 u3 => ?_
  have m3 := m2.trans (o3.weaken MA_may)
  have r3 := r2.congr (o3 .v rfl) (o3 .fac rfl)
  refine logits_has m3 r3 fun s4 o4 p4 _ => ?_
  have m4 := m3.trans (o4.weaken s_may)
  have r4 := r3.congr (o4 .v rfl) (o4 .fac rfl)
  refine shBatches_wp (n := ⟨n, hn⟩) hz r4 p4 (keep (o4 .m rfl) (o4 .acc rfl) (u3 1 _ (by decide) (S2 1))) fun s5 o5 b5 u5 => ?_
  have m5 := m4.trans (o5.weaken MA_may)
  have r5 := r4.congr (o5 .v rfl) (o5 .fac rfl)
  refine logits_has m5 r5 fun s6 o6 p6 _ => ?_
  have m6 := m5.trans (o6.weaken s_may)
  have r6 := r5.congr (o6 .v rfl) (o6 .fac rfl)
  refine shBatches_wp (n := ⟨n, hn⟩) hz r6 p6
    (keep (o6 .m rfl) (o6 .acc rfl) (u5 2 _ (by decide) (keep (o4 .m rfl) (o4 .acc rfl) (u3 2 _ (by decide) (S2 2))))) fun s7 o7 b7 u7 => ?_
  refine wp_ret' ⟨m6.trans (o7.weaken MA_may), fun b => ?_⟩
  have b5' := u7 1 _ (by decide) (keep (o6 .m rfl) (o6 .acc rfl) b5)
  have b3' := u7 0 _ (by decide) (keep (o6 .m rfl) (o6 .acc rfl) (u5 0 _ (by decide) (keep (o4 .m rfl) (o4 .acc rfl) b3)))
  fin_cases b
  · exact b3'
  · exact b5'
  · exact b7

end Dino
-- ==== Proof.LossValue.lean ====
/-
  The losses as real numbers: what the accumulators stand for gives the cross entropy of two softmaxes, whatever the
  shifts are.
-/
module

public import proofs.«01_k».proof.Proof.Losses
public import proofs.«01_k».proof.Proof.Shift

@[expose] public section

noncomputable section

namespace Dino

open Idealize.ShloMosaic Idealize.SL.Sem

variable [Gains Ideal]

/-- The cross entropy of the softmax of `yv` under the softmax of `yi`. -/
def lossR (yi yv : Fin 16384 → ℝ) : ℝ :=
  Real.log (∑ p, Real.exp (yv p)) - (∑ p, Real.exp (yi p) * yv p) / ∑ p, Real.exp (yi p)

/-! ## Pieces at an index -/

omit [Gains Ideal] in
theorem bot_lit : Ideal.ofBits .f32 0xFF800000#32 = (⊥ : EReal) := by simp [Ideal.ofBits, Ideal.ieee]
theorem two_lit : Ideal.ofBits .f32 0x40000000#32 = ((2 : ℝ) : EReal) := by
  simp [Ideal.ofBits, Ideal.ieee]
  rw [← EReal.coe_mul]
  norm_num

omit [Gains Ideal] in
/-- The greatest of finitely many real numbers is one. -/
theorem sup_real {ι : Type} [Fintype ι] [Nonempty ι] (f : ι → ℝ) : ∃ R : ℝ, Finset.fold max (⊥ : EReal) (fun x => (f x : EReal)) Finset.univ = R := by
  obtain ⟨i, -, h⟩ := Finset.exists_mem_eq_sup Finset.univ Finset.univ_nonempty fun x => (f x : EReal)
  exact ⟨f i, h⟩

theorem colMax_apply (m : FVec Ideal S8x256 .f32) (q : Fin 256) : colMax m (ix2 0 q) = Finset.fold max (⊥ : EReal) (fun u => m (ix2 u q)) Finset.univ := by
  rw [← bot_lit]
  pointwise []

theorem colSum_apply (m : FVec Ideal S8x256 .f32) (q : Fin 256) : colSum m (ix2 0 q) = ∑ u, m (ix2 u q) := by
  pointwise []

theorem shiftOf_apply (m : FVec Ideal S8x256 .f32) (u : Fin 8) (q : Fin 256) :
    shiftOf m (ix2 u q) = Ideal.exp2 (m (ix2 u q) - colMax m (ix2 0 q)) := by
  rw [colMax_apply, ← bot_lit]
  pointwise []
  rfl

theorem lossOf_apply (a : FVec Ideal S1x256 .f32) (ti tv : Tot Ideal) (q : Fin 256) : lossOf a ti tv (ix2 0 q) =
    (tv.mx (ix2 0 q) + Ideal.div (Ideal.log (tv.tot (ix2 0 q))) (Ideal.log (Ideal.ofBits .f32 0x40000000#32))
      - Ideal.div (a (ix2 0 q)) (ti.tot (ix2 0 q))) * (Gains.ln2 : Ideal .f32) := rfl

omit [Gains Ideal] in
theorem log_real {r : ℝ} (h : 0 < r) : Ideal.log (r : EReal) = ((Real.log r : ℝ) : EReal) := by
  show (if r ≤ 0 then _ else _) = _
  rw [if_neg (not_le.mpr h)]

omit [Gains Ideal] in
theorem div_real (a : ℝ) {b : ℝ} (h : b ≠ 0) : Ideal.div (a : EReal) (b : EReal) = ((a / b : ℝ) : EReal) := by
  rw [Ideal.div_coe h, ← EReal.coe_mul]
  congr 1
  ring

/-! ## The rows of all sublanes -/

/-- The prototype of sublane `u` in row `k`. -/
abbrev cell (u : Fin 8) (k : Rw) : Fin 16384 := pr k.1 (rowIn k.2 u)

theorem sum_cells (f : Fin 16384 → ℝ) : ∑ u, ∑ k, f (cell u k) = ∑ p, f p := by
  rw [← Fintype.sum_prod_type' (f := fun u k => f (cell u k))]
  refine Fintype.sum_bijective (fun x : Fin 8 × Rw => cell x.1 x.2) ?_ _ _ fun _ => rfl
  rw [Fintype.bijective_iff_injective_and_card]
  refine ⟨fun a b h => ?_, by simp⟩
  obtain ⟨u, n, g⟩ := a
  obtain ⟨u', n', g'⟩ := b
  have h' : 256 * (n : Nat) + (8 * (g : Nat) + u) = 256 * (n' : Nat) + (8 * (g' : Nat) + u') := congrArg Fin.val h
  simp only [Prod.mk.injEq, Fin.ext_iff]
  omega

variable {zc : Fin 8 → Rw → Fin 6 → ℝ} {zr : Fin 16384 → Fin 6 → ℝ} {μ : Fin 8 → Fin 6 → ℝ}

theorem scaled (hz : ∀ u k, zc u k = zr (cell u k)) (a : Fin 12) (R : ℝ) :
    ∑ u, ((∑ k, termR (zc u k) (μ u) a : ℝ) : EReal) * Ideal.exp2 ((μ u (bs a) : EReal) - (R : EReal))
      = (((2 : ℝ) ^ (-R) * ∑ p, (2 : ℝ) ^ (zr p (bs a)) * (wv a).elim 1 (zr p) : ℝ) : EReal) := by
  simp only [← EReal.coe_sub, exp2_real, ← EReal.coe_mul]
  rw [← coe_sum, ← sum_cells]
  refine congrArg _ ?_
  rw [Finset.mul_sum]
  refine Finset.sum_congr rfl fun u _ => ?_
  rw [Finset.sum_mul, Finset.mul_sum]
  refine Finset.sum_congr rfl fun k _ => ?_
  unfold termR
  rw [hz, mul_right_comm, ← Real.rpow_add two_pos, ← mul_assoc, ← Real.rpow_add two_pos]
  congr 2
  ring

theorem exp_two (z : ℝ) : (2 : ℝ) ^ z = Real.exp (z * Real.log 2) := by
  rw [Real.rpow_def_of_pos two_pos, mul_comm]

/-- The loss, whatever the shifts `R`. -/
theorem loss_real (zi zv : Fin 16384 → ℝ) (Ri Rv : ℝ) :
    (Rv + Ideal.div (Ideal.log ((((2 : ℝ) ^ (-Rv) * ∑ p, (2 : ℝ) ^ (zv p) * 1 : ℝ) : EReal))) (Ideal.log ((2 : ℝ) : EReal))
      - Ideal.div ((((2 : ℝ) ^ (-Ri) * ∑ p, (2 : ℝ) ^ (zi p) * zv p : ℝ) : EReal)) ((((2 : ℝ) ^ (-Ri) * ∑ p, (2 : ℝ) ^ (zi p) * 1 : ℝ) : EReal)))
      * ((Real.log 2 : ℝ) : EReal)
    = ((lossR (fun p => zi p * Real.log 2) (fun p => zv p * Real.log 2) : ℝ) : EReal) := by
  have pos (z : Fin 16384 → ℝ) : 0 < ∑ p, (2 : ℝ) ^ (z p) * 1 :=
    Finset.sum_pos (fun p _ => by positivity) Finset.univ_nonempty
  have p2 (R : ℝ) : 0 < (2 : ℝ) ^ (-R) := by positivity
  have l2 : Real.log 2 ≠ 0 := (Real.log_pos one_lt_two).ne'
  rw [log_real (mul_pos (p2 _) (pos _)), log_real two_pos, div_real _ l2, div_real _ (mul_pos (p2 _) (pos _)).ne', ← EReal.coe_add,
    ← EReal.coe_sub, ← EReal.coe_mul]
  refine congrArg _ ?_
  rw [Real.log_mul (p2 _).ne' (pos _).ne', Real.log_rpow two_pos, mul_div_mul_left _ _ (p2 Ri).ne']
  unfold lossR
  simp only [← exp_two, mul_one]
  have e : (∑ p, (2 : ℝ) ^ (zi p) * (zv p * Real.log 2)) = (∑ p, (2 : ℝ) ^ (zi p) * zv p) * Real.log 2 := by
    rw [Finset.sum_mul]
    exact Finset.sum_congr rfl fun p _ => by ring
  rw [e]
  field_simp
  ring

/-! ## The losses of the state -/

section
variable {s : St Ideal} {zr : Fin 3 → Fin 256 → Fin 16384 → Fin 6 → ℝ} {b : Fin 3}

theorem lossV_eq (hln : (Gains.ln2 : Ideal .f32) = ((Real.log 2 : ℝ) : EReal)) (h : Stands zr s b Finset.univ) (n i v : Fin 6)
    (hi : bs ⟨n + 6, by omega⟩ = i) (hv : wv ⟨n + 6, by omega⟩ = some v) (q : Fin 256) :
    lossV s b n i v (ix2 0 q) = ((lossR (fun p => zr b q p i * Real.log 2) (fun p => zr b q p v * Real.log 2) : ℝ) : EReal) := by
  choose μ hA hm using fun u => h u q
  have hm : ∀ u x, s.mAt b x u q = (μ u x : EReal) := fun u x => (hm u x).trans (if_neg Finset.univ_nonempty.ne_empty)
  have hM (x : Fin 6) : ∃ R : ℝ, colMax (mV s b x) (ix2 0 q) = R := by
    rw [colMax_apply]
    simp only [mV_apply, hm]
    exact sup_real _
  choose R hR using hM
  have tot (a : Fin 12) (x : Fin 6) (hx : bs a = x) : colSum (mulf (aV s b a) (shiftOf (mV s b x))) (ix2 0 q)
      = (((2 : ℝ) ^ (-R x) * ∑ p, (2 : ℝ) ^ (zr b q p x) * (wv a).elim 1 (zr b q p) : ℝ) : EReal) := by
    subst hx
    rw [colSum_apply, ← scaled (zc := fun u k => zr b q (cell u k)) (μ := μ) (fun _ _ => rfl) a (R (bs a))]
    refine Finset.sum_congr rfl fun u _ => ?_
    show aV s b a (ix2 u q) * shiftOf (mV s b (bs a)) (ix2 u q) = _
    rw [shiftOf_apply, aV_apply, mV_apply, hR, hm]
    exact congrArg (· * _) (hA u a)
  unfold lossV
  rw [lossOf_apply]
  show (colMax (mV s b v) (ix2 0 q) + Ideal.div (Ideal.log (colSum (mulf (aV s b ⟨v, by omega⟩) (shiftOf (mV s b v))) (ix2 0 q))) _
    - Ideal.div (colSum (mulf (aV s b ⟨n + 6, by omega⟩) (shiftOf (mV s b i))) (ix2 0 q))
      (colSum (mulf (aV s b ⟨i, by omega⟩) (shiftOf (mV s b i))) (ix2 0 q))) * _ = _
  rw [hR, tot _ _ hi, tot ⟨v, by omega⟩ v (bs_crop v), tot ⟨i, by omega⟩ i (bs_crop i), hv, wv_crop, wv_crop, hln, two_lit]
  exact loss_real _ _ _ _

/-- Every row's loss. -/
def lossRow (zr : Fin 3 → Fin 256 → Fin 16384 → Fin 6 → ℝ) (i : Fin 2) (v : Fin 4) (b : Fin 3) (q : Fin 256) : EReal :=
  if (i : Nat) = v then 0
  else ((lossR (fun p => zr b q p ⟨i, by omega⟩ * Real.log 2) (fun p => zr b q p ⟨v + 2, by omega⟩ * Real.log 2) : ℝ) : EReal)

theorem lossAt_eq (hln : (Gains.ln2 : Ideal .f32) = ((Real.log 2 : ℝ) : EReal)) (h : ∀ b, Stands zr s b Finset.univ) (i : Fin 2) (v : Fin 4)
    (b : Fin 3) (q : Fin 256) : lossAt s i v b q = lossRow zr i v b q := by
  have e := lossV_eq hln (h b)
  fin_cases i <;> fin_cases v
  · rfl
  · exact (e 0 0 3 rfl rfl q)
  · exact (e 1 0 4 rfl rfl q)
  · exact (e 2 0 5 rfl rfl q)
  · exact (e 3 1 2 rfl rfl q)
  · rfl
  · exact (e 4 1 4 rfl rfl q)
  · exact (e 5 1 5 rfl rfl q)

end

end Dino
-- ==== Proof.Features.lean ====
/-
  What runs before the first chunk is prepared: cleared buffers, the features of the six crops, their average over the rows.
-/
module

public import proofs.«01_k».proof.Proof.Trips

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s1 s s' : St Ideal} {k : PR nD τ sig Λ Ideal PUnit}

/-- Feature `d` of row `q` of crop `x` and batch row `b`: teachers first. -/
def featOf (st : St Ideal) (x : Fin 6) (b : Fin 3) (q : Fin 256) (d : Fin 512) : EReal :=
  if h : (x : Nat) < 2 then (st .tc : FVec Ideal S2x3x256x512 .fp8e4m3) (ix4 ⟨x, h⟩ b q d) * (st .ts : FVec Ideal S2x3x256 .f32) (ix3 ⟨x, h⟩ b q)
  else (st .sc : FVec Ideal S4x3x256x512 .fp8e4m3) (ix4 ⟨x - 2, by omega⟩ b q d) * (st .ss : FVec Ideal S4x3x256 .f32) (ix3 ⟨x - 2, by omega⟩ b q)

/-- The features `D` are stored. -/
structure Feats (D : Fin 6 → Fin 3 → Prop) (s1 s : St Ideal) : Prop where
  only : Only (one .xt) s1 s
  at' : ∀ x b, D x b → ∀ d q, s.xtAt x b d q = featOf s1 x b q d

theorem putXt_apply (codes : FVec Ideal S256x512 .bf16) (scale : FVec Ideal S1x256 .bf16) (d : Fin 512) (q : Fin 256) :
    shapeCast (s := S512x256) S1x1x512x256 (mulf (transpose (s := S256x512) S512x256 [1, 0] codes (by decide))
      (broadcastTo (s := S1x256) S512x256 scale (by decide))) (by decide) (ix4 0 0 d q) = codes (ix2 q d) * scale (ix2 0 q) := by
  pointwise []

theorem putXt_wp {D : Fin 6 → Fin 3 → Prop} (I : Feats D s1 s) {x : Fin 6} {b : Fin 3} {codes : FVec Ideal S256x512 .bf16}
    {scale : FVec Ideal S1x256 .bf16} (hf : ∀ d q, codes (ix2 q d) * scale (ix2 0 q) = featOf s1 x b q d)
    (hk : ∀ s', Feats (fun x' b' => D x' b' ∨ (x' = x ∧ b' = b)) s1 s' → Wp defs B c s' k Q) :
    Wp defs B c s (putXt B hB x b codes scale k) Q := by
  unfold putXt
  refine wp_ld' <| wp_st' fun s2 h2 => hk s2 ?_
  have o2 := I.only.trans (Only.one h2)
  refine ⟨o2, fun x' b' hD d q => ?_⟩
  subst h2
  unfold St.xtAt
  rw [set_same]
  by_cases e : x' = x ∧ b' = b
  · obtain ⟨rfl, rfl⟩ := e
    refine (over_in _ _ (ix4 0 0 d q) fun k => ?_).trans ?_
    · fin_cases k
      · exact (Nat.add_zero _).symm
      · exact (Nat.add_zero _).symm
      · exact (Nat.zero_add _).symm
      · exact (Nat.zero_add _).symm
    · exact (putXt_apply codes scale d q).trans (hf d q)
  · refine Eq.trans ?_ (I.at' x' b' (hD.resolve_right e) d q)
    by_cases h1 : x' = x
    · refine over_out _ _ 1 ?_
      have : b' ≠ b := fun h => e ⟨h1, h⟩
      show (b' : Nat) < b ∨ (b : Nat) + 1 ≤ b'
      omega
    · refine over_out _ _ 0 ?_
      show (x' : Nat) < x ∨ (x : Nat) + 1 ≤ x'
      omega

theorem codesB_apply (w : FVec Ideal S1x1x256x512 .fp8e4m3) (q : Fin 256) (d : Fin 512) : codesB w (ix2 q d) = w (ix4 0 0 q d) := by
  pointwise [codesB]
theorem scaleB_apply (w : FVec Ideal S1x1x256 .f32) (q : Fin 256) : scaleB w (ix2 0 q) = w (ix3 0 0 q) := by
  pointwise [scaleB]

/-- One teacher crop's rows added in. -/
abbrev cropStep (st : St Ideal) (x : Fin 2) (b : Fin 3) (xs : FVec Ideal S8x512 .f32) : FVec Ideal S8x512 .f32 :=
  xsStep (codesB fun y => st .tc ((blk .tc ![x, b, 0, 0] S1x1x256x512.size (inb_tc x b)).emb y))
    (scaleB fun y => st .ts ((blk .ts ![x, b, 0] S1x1x256.size (inb_ts x b)).emb y)) xs

theorem teacher_wp {D : Fin 6 → Fin 3 → Prop} (I : Feats D s1 s) {x : Fin 2} {b : Fin 3} {xs : FVec Ideal S8x512 .f32}
    {k : FVec Ideal S8x512 .f32 → PR nD τ sig Λ Ideal PUnit}
    (hk : ∀ s', Feats (fun x' b' => D x' b' ∨ (x' = ⟨x, by omega⟩ ∧ b' = b)) s1 s' → Wp defs B c s' (k (cropStep s1 x b xs)) Q) :
    Wp defs B c s (teacherCrop B hB x b xs k) Q := by
  unfold teacherCrop
  refine wp_ldv (w := fun y => s1 .tc ((blk .tc ![x, b, 0, 0] S1x1x256x512.size (inb_tc x b)).emb y))
    (funext fun y => congrFun (I.only .tc rfl) _) ?_
  refine wp_ldv (w := fun y => s1 .ts ((blk .ts ![x, b, 0] S1x1x256.size (inb_ts x b)).emb y))
    (funext fun y => congrFun (I.only .ts rfl) _) ?_
  refine putXt_wp I (fun d q => ?_) hk
  rw [codesB_apply, scaleB_apply]
  unfold featOf
  rw [dif_pos (show (x : Nat) < 2 from x.2)]
  refine congrArg₂ (· * ·) (congrArg (s1 .tc) (emb_eq _ fun k => ?_)) (congrArg (s1 .ts) (emb_eq _ fun k => ?_))
  · fin_cases k <;> simp [ix4]
  · fin_cases k <;> simp [ix3]

theorem student_wp {D : Fin 6 → Fin 3 → Prop} (I : Feats D s1 s) {x : Fin 4} {b : Fin 3}
    (hk : ∀ s', Feats (fun x' b' => D x' b' ∨ (x' = ⟨x + 2, by omega⟩ ∧ b' = b)) s1 s' → Wp defs B c s' k Q) :
    Wp defs B c s (studentCrop B hB x b k) Q := by
  unfold studentCrop
  refine wp_ldv (w := fun y => s1 .sc ((blk .sc ![x, b, 0, 0] S1x1x256x512.size (inb_sc x b)).emb y))
    (funext fun y => congrFun (I.only .sc rfl) _) ?_
  refine wp_ldv (w := fun y => s1 .ss ((blk .ss ![x, b, 0] S1x1x256.size (inb_ss x b)).emb y))
    (funext fun y => congrFun (I.only .ss rfl) _) ?_
  refine putXt_wp I (fun d q => ?_) hk
  rw [codesB_apply, scaleB_apply]
  unfold featOf
  rw [dif_neg (show ¬((x : Nat) + 2) < 2 by omega)]
  refine congrArg₂ (· * ·) (congrArg (s1 .sc) (emb_eq _ fun k => ?_)) (congrArg (s1 .ss) (emb_eq _ fun k => ?_))
  · fin_cases k <;> simp [ix4]
  · fin_cases k <;> simp [ix3]

/-- The averaged features, as the body computes them. -/
abbrev xsumOf (st : St Ideal) (inv : EReal) : FVec Ideal S8x512 .f32 :=
  shapeCast (s := S8x512) S8x512 (mulf (cropStep st 1 2 <| cropStep st 1 1 <| cropStep st 1 0 <| cropStep st 0 2 <| cropStep st 0 1 <|
    cropStep st 0 0 (broadcast S8x512 (Scalar.ofBits .f32 0x00000000#32))) (broadcast S8x512 inv)) (by decide)

/-- All but the inputs. -/
def notIn (i : Ref') : Bool := !isIn i

/-- Before the first chunk is prepared: the inputs, the averaged features, the six crops' features, no sums yet. -/
theorem features_wp {inv : EReal} (hk : ∀ s, Only notIn s0 s → s .xsum = xsumOf s0 inv →
      (∀ x b d q, s.xtAt x b d q = featOf s0 x b q d) → (∀ i, s .acc i = (0 : EReal)) → (∀ i, s .m i = (0 : EReal)) → Wp defs B c s k Q) :
    Wp defs B c s0 (initAll B (loadFeatures B hB inv k)) Q := by
  have z : (Scalar.ofBits .f32 0x00000000#32 : Ideal .f32) = (0 : EReal) := by simp [Scalar.ofBits, FloatOps.ofBits, Ideal.ofBits, Ideal.ieee]
  unfold initAll fill2
  refine wp_ld' <| wp_st' fun a1 e1 => wp_ld' <| wp_st' fun a2 e2 => wp_ld' <| wp_st' fun a3 e3 => ?_
  refine wp_ld' <| wp_st' fun a4 e4 => wp_ld' <| wp_st' fun a5 e5 => wp_ld' <| wp_st' fun a6 e6 => ?_
  have ha : ∀ i, a6 .acc i = (0 : EReal) := fun i => by
    rw [e6, set_other _ _ (by decide), e5, set_other _ _ (by decide), e4, set_other _ _ (by decide), e3, set_same]
    exact (over_in _ _ i fun k => by fin_cases k <;> simp).trans z
  have hm : ∀ i, a6 .m i = (0 : EReal) := fun i => by
    rw [e6, set_other _ _ (by decide), e5, set_other _ _ (by decide), e4, set_same]
    exact (over_in _ _ i fun k => by fin_cases k <;> simp).trans z
  have ho : Only notIn s0 a6 := fun i hi => by
    have n (j : Ref') (hj : notIn j = true) : i ≠ j := by rintro rfl; rw [hj] at hi; exact absurd hi (by decide)
    rw [e6, set_other _ _ (n .fac rfl), e5, set_other _ _ (n .s rfl), e4, set_other _ _ (n .m rfl), e3, set_other _ _ (n .acc rfl),
      e2, set_other _ _ (n .bct rfl), e1, set_other _ _ (n .par rfl)]
  clear e1 e2 e3 e4 e5 e6
  unfold loadFeatures
  simp only [loop, rep]
  have i0 : Feats (fun _ _ => False) a6 a6 := ⟨Only.refl _ _, fun _ _ h => h.elim⟩
  refine teacher_wp i0 fun s1 i1 => teacher_wp i1 fun s2 i2 => teacher_wp i2 fun s3 i3 => ?_
  refine teacher_wp i3 fun s1 i1 => teacher_wp i1 fun s2 i2 => teacher_wp i2 fun s3 i3 => ?_
  refine student_wp i3 fun s1 i1 => student_wp i1 fun s2 i2 => student_wp i2 fun s3 i3 => ?_
  refine student_wp i3 fun s1 i1 => student_wp i1 fun s2 i2 => student_wp i2 fun s3 i3 => ?_
  refine student_wp i3 fun s1 i1 => student_wp i1 fun s2 i2 => student_wp i2 fun s3 i3 => ?_
  refine student_wp i3 fun s1 i1 => student_wp i1 fun s2 i2 => student_wp i2 fun s3 i3 => ?_
  refine wp_ld' <| wp_st' fun s4 h4 => hk s4 ?_ ?_ ?_ ?_ ?_
  · intro i hi
    have n (j : Ref') (hj : notIn j = true) : i ≠ j := by rintro rfl; rw [hj] at hi; exact absurd hi (by decide)
    rw [h4, set_other _ _ (n .xsum rfl), i3.only i (by simp [one, n .xt rfl]), ho i hi]
  · rw [h4, set_same]
    have e : xsumOf s0 inv = xsumOf a6 inv := by
      unfold xsumOf cropStep
      rw [ho .tc rfl, ho .ts rfl]
    rw [e]
    exact over_whole2 _ _
  · intro x b d q
    have e : featOf a6 = featOf s0 := by
      unfold featOf
      rw [ho .tc rfl, ho .ts rfl, ho .sc rfl, ho .ss rfl]
    unfold St.xtAt
    rw [h4, set_other _ _ (by decide), ← e]
    refine i3.at' x b ?_ d q
    revert x b
    decide
  · intro i
    rw [h4, set_other _ _ (by decide), i3.only .acc rfl, ha]
  · intro i
    rw [h4, set_other _ _ (by decide), i3.only .m rfl, hm]

end Dino
-- ==== Proof.Results.lean ====
/-
  The whole body: it leaves its inputs, stores the batch centre, and, where the logits are real numbers, the losses they
  determine, whether or not the second pass runs.
-/
module

public import proofs.«01_k».proof.Proof.LossValue
public import proofs.«01_k».proof.Proof.Features
public import proofs.«01_k».proof.Proof.Untouched

@[expose] public section

noncomputable section

namespace Dino

open Idealize.ShloMosaic Idealize.SL.Sem

variable {nD : Nat} {τ : Topo} {sig : RefSig} {Λ : Labels} [Gains Ideal]
variable {defs : Defs nD τ sig (Elt Ideal) Λ} {B : Refs sig} {hB : ∀ i, (B i).IsWhole} {c : Dev nD} {Q : St Ideal → Prop}
variable {s0 s1 s s' : St Ideal} {k : PR nD τ sig Λ Ideal PUnit}

/-- Logits: by batch row, column, prototype and crop. -/
abbrev Logits : Type := Fin 3 → Fin 256 → Fin 16384 → Fin 6 → ℝ

/-- The losses are the ones the logits determine. -/
def HasLosses (zr : Logits) (s : St Ideal) : Prop :=
  (∀ i v b q, s.rowAt i v b q = lossRow zr i v b q) ∧
    ∀ i v, (s .pair : FVec Ideal S2x4 .f32) (ix2 i v) = if (i : Nat) = v then 0 else
      meanOf fun q => 0 + lossRow zr i v 0 q + lossRow zr i v 1 q + lossRow zr i v 2 q

theorem finish_has {zr : Logits} (hln : (Gains.ln2 : Ideal .f32) = ((Real.log 2 : ℝ) : EReal)) (h : ∀ b, Stands zr s b Finset.univ)
    {k : IVec S1x256 1 → PR nD τ sig Λ Ideal PUnit} (hk : ∀ s' g, Only isLoss s s' → HasLosses zr s' → Wp defs B c s' (k g) Q) :
    Wp defs B c s (finish B k) Q := by
  refine finish_wp fun s' g o r p => hk s' g o ⟨fun i v b q => ?_, fun i v => ?_⟩
  · rw [r, lossAt_eq hln h]
  · rw [p]
    simp only [lossAt_eq hln h]

/-! ## After the first pass -/

theorem term_eq (z : Fin 6 → EReal) (a : Fin 12) : term z a = Ideal.exp2 (z (bs a)) * (wv a).elim 1 z := by
  fin_cases a <;> simp [term, bs, wv]

theorem stands_of {zr : Logits} (hz : ∀ b q p x, zOf s0 b q p x = (zr b q p x : EReal)) (hm : ∀ i, s .m i = (0 : EReal)) {b : Fin 3}
    (h : HasAcc s0 s b 64) : Stands zr s b Finset.univ := fun u q => by
  refine rep_plain Finset.univ_nonempty.ne_empty (fun x => hm _) fun a => ?_
  rw [h a u q, Finset.filter_true_of_mem fun m _ => m.2,
    ← Fintype.sum_prod_type' (f := fun m g => term (zOf s0 b q (pr m (rowIn g u))) a)]
  refine Finset.sum_congr rfl fun k _ => ?_
  rw [term_eq]
  have e : zOf s0 b q (pr k.1 (rowIn k.2 u)) = fun x => ((zr b q (pr k.1 (rowIn k.2 u)) x : ℝ) : EReal) := funext fun x => hz _ _ _ _
  rw [e]

/-! ## The second pass -/

/-- What may change after `bc` is stored. -/
def afterBc : Ref' → Bool
  | .bc => false
  | .xt | .xsum => false
  | i => !isIn i

theorem may_after : ∀ i, afterBc i = false → mayChange i = false := fun i => by cases i <;> decide
theorem loss_after : ∀ i, afterBc i = false → isLoss i = false := fun i => by cases i <;> decide

theorem redo_wp {zr : Logits} (hln : (Gains.ln2 : Ideal .f32) = ((Real.log 2 : ℝ) : EReal)) (hz : ∀ b q p x, zOf s b q p x = (zr b q p x : EReal)) :
    Wp defs B c s (redo B hB) fun s' => Only afterBc s s' ∧ HasLosses zr s' := by
  unfold redo fill2
  refine wp_ld' <| wp_st' fun a1 e1 => wp_ld' <| wp_st' fun a2 e2 => ?_
  have hm : ∀ i, a2 .m i = (⊥ : EReal) := fun i => by
    rw [e2, set_other _ _ (by decide), e1, set_same]
    exact (over_in _ _ i fun k => by fin_cases k <;> simp).trans bot_lit
  have ha : ∀ i, a2 .acc i = (0 : EReal) := fun i => by
    rw [e2, set_same]
    exact (over_in _ _ i fun k => by fin_cases k <;> simp).trans zero_lit
  have o : Only mayChange s a2 := (Only.stored (S := mayChange) e1 rfl).trans (Only.stored e2 rfl)
  refine wp_forN (fun t s' => Only mayChange s s' ∧ ∀ b, Stands zr s' b (taken t 0))
    ⟨o, fun b u q => ?_⟩ (fun t t0 h => shChunk_wp hz t h.1 h.2) fun t1 h => ?_
  · rw [taken_zero]
    exact rep_empty (fun x => hm _) fun a => ha _
  · obtain ⟨o1, h1⟩ := h
    rw [trips64, taken_all] at h1
    exact finish_has hln h1 fun t2 g o2 h2 => wp_ret' ⟨(o1.weaken may_after).trans (o2.weaken loss_after), h2⟩

/-! ## The whole body -/

theorem centreOf_congr {s s' : St Ideal} (hpc : s .pc = s' .pc) (hps : s .ps = s' .ps) (hg : s .g = s' .g) (hx : s .xsum = s' .xsum) :
    centreOf s = centreOf s' := by
  unfold centreOf vProto
  rw [hpc, hps, hg, hx]

/-- The scaled logits of the inputs. -/
def logitOf (st : St Ideal) (b : Fin 3) (q : Fin 256) (p : Fin 16384) (x : Fin 6) : EReal :=
  if (x : Nat) < 2 then (∑ d, vProto st p d * featOf st x b q d) * facOf st 0 p - facOf st 2 p
  else (∑ d, vProto st p d * featOf st x b q d) * facOf st 1 p

theorem logitOf_eq (ho : Only notIn s0 s) (hx : ∀ x b d q, s.xtAt x b d q = featOf s0 x b q d) : zOf s = logitOf s0 := by
  have e1 : vProto s = vProto s0 := by unfold vProto; rw [ho .pc rfl, ho .ps rfl]
  have e2 : facOf s = facOf s0 := by unfold facOf wt cenAt; rw [e1, ho .g rfl, ho .cen rfl]
  unfold zOf logitOf dotOf
  simp only [e1, e2, hx]

theorem zOf_after (h : Only afterBc s s') : zOf s' = zOf s := by
  have e1 : vProto s' = vProto s := by unfold vProto; rw [h .pc rfl, h .ps rfl]
  have e2 : facOf s' = facOf s := by unfold facOf wt cenAt; rw [e1, h .g rfl, h .cen rfl]
  unfold zOf dotOf St.xtAt
  rw [e1, e2, h .xt rfl]

/-- What the body leaves. -/
structure Post (inv : EReal) (s0 s : St Ideal) : Prop where
  kept : ∀ i, isIn i = true → s i = s0 i
  bc : ∀ n i : Fin 128, (s .bc : FVec Ideal S128x128 .f32) (ix2 n i) = centreOf (set s0 .xsum (xsumOf s0 inv)) n i
  losses : ∀ zr : Logits, (∀ b q p x, logitOf s0 b q p x = (zr b q p x : EReal)) → HasLosses zr s

/-- What may change after `bc` is stored, the losses' own values not followed. -/
def afterAny : Ref' → Bool
  | .bc => false
  | i => !isIn i

theorem after_any : ∀ i, afterAny i = false → afterBc i = false := fun i => by cases i <;> decide

theorem body_post (hln : (Gains.ln2 : Ideal .f32) = ((Real.log 2 : ℝ) : EReal)) (hB : ∀ i, (B i).IsWhole) (inv : EReal) (s0 : St Ideal) :
    Wp defs B c s0 (body B hB inv) (Post inv s0) := by
  unfold body before
  refine features_wp fun s1 h1 hx hxt hacc hm => ?_
  have hc : centreOf (set s0 .xsum (xsumOf s0 inv)) = centreOf s1 := by
    refine centreOf_congr ?_ ?_ ?_ ?_
    · rw [set_other _ _ (by decide), h1 .pc rfl]
    · rw [set_other _ _ (by decide), h1 .ps rfl]
    · rw [set_other _ _ (by decide), h1 .g rfl]
    · rw [set_same, hx]
  have hl := logitOf_eq h1 hxt
  have z0 : ∀ b, HasAcc s1 s1 b 0 := fun b a u q => by
    rw [Finset.filter_false_of_mem (fun m _ => by omega), Finset.sum_empty]
    exact hacc _
  refine prep_wp (s0 := s1) (n := 0) rfl rfl (Only.refl _ _) fun s2 o2 r2 _ d2 => ?_
  have d2 := d2 (fun _ => False) fun _ h => h.elim
  have I0 : Inv s1 0 0 s2 :=
    ⟨o2.weaken prep_may, o2 .m rfl, fun y hy => d2 y (.inr (by omega)), fun m hm => (Fin.ext hm : m = 0) ▸ r2, fun m h => by omega,
      (z0 0).congr (o2 .acc rfl), (z0 1).congr (o2 .acc rfl), (z0 2).congr (o2 .acc rfl)⟩
  refine wp_forN (fun t => Inv s1 0 (2 * t)) I0 (fun t s ht => trip_inv ⟨t, t.2.trans_eq trips32⟩ ht) fun s4 h4 => ?_
  rw [trips32] at h4
  unfold after
  obtain ⟨r63, p63⟩ := h4.last 63 rfl
  refine accumulate_has r63 p63 h4.acc2 fun s5 o5 a5 u5 => ?_
  have o15 := h4.only.trans (o5.weaken acc_may)
  have d5 : ∀ y x : Fin 128, (s5 .bct : FVec Ideal S128x128 .f32) (ix2 x y) = centreOf s1 y x := fun y x =>
    (congrFun (o5 .bct rfl) _).trans (h4.done y (by omega) x)
  unfold fill2
  refine wp_ld' <| wp_ld' <| wp_st' fun s6 h6 => ?_
  have hb : ∀ n i : Fin 128, (s6 .bc : FVec Ideal S128x128 .f32) (ix2 n i) = centreOf s1 n i := fun n i => by
    rw [h6, set_same, over_whole2]
    have e (w : FVec Ideal S128x128 .f32) : transpose (s := S128x128) S128x128 [1, 0] w (by decide) (ix2 n i) = w (ix2 i n) := by pointwise []
    refine (e _).trans ?_
    rw [emb_whole2]
    exact d5 n i
  have hi : ∀ i, isIn i = true → s6 i = s0 i := fun i hi => by
    have hm : mayChange i = false := by cases i <;> first | rfl | exact absurd hi (by decide)
    have hn : i ≠ .bc := by rintro rfl; exact absurd hi (by decide)
    rw [h6, set_other _ _ hn, o15 i hm, h1 i (by unfold notIn; rw [hi]; rfl)]
  have hQ : ∀ s, Only afterAny s6 s → (∀ zr : Logits, (∀ b q p x, logitOf s0 b q p x = (zr b q p x : EReal)) → HasLosses zr s) → Post inv s0 s :=
    fun s hs hL => ⟨fun i h => (hs i (by cases i <;> first | rfl | exact absurd h (by decide))).trans (hi i h),
      fun n i => ((congrFun (hs .bc rfl) _).trans (hb n i)).trans (congrFun (congrFun hc n) i).symm, hL⟩
  by_cases H : ∃ zr : Logits, ∀ b q p x, logitOf s0 b q p x = (zr b q p x : EReal)
  · obtain ⟨zr, hz⟩ := H
    have uniq : ∀ s, HasLosses zr s → ∀ zr' : Logits, (∀ b q p x, logitOf s0 b q p x = (zr' b q p x : EReal)) → HasLosses zr' s := fun s h zr' hz' => by
      have : zr' = zr := by
        funext b q p x
        exact EReal.coe_injective ((hz' b q p x).symm.trans (hz b q p x))
      rw [this]; exact h
    have hz1 : ∀ b q p x, zOf s1 b q p x = (zr b q p x : EReal) := fun b q p x => by rw [hl]; exact hz b q p x
    have n6 : ∀ i, i ≠ .bc → s6 i = s5 i := fun i hn => by rw [h6, set_other _ _ hn]
    have m6 : ∀ i, s6 .m i = (0 : EReal) := fun i => by
      rw [n6 _ (by decide), o5 .m rfl, h4.m]; exact hm i
    have S6 : ∀ b, Stands zr s6 b Finset.univ := fun b => by
      refine stands_of hz1 m6 (HasAcc.congr ?_ (n6 .acc (by decide)))
      fin_cases b
      · exact u5 0 64 (by decide) h4.acc0
      · exact u5 1 64 (by decide) h4.acc1
      · exact a5
    refine finish_has hln S6 fun s7 g o7 h7 => ?_
    have o7' := o7.weaken loss_after
    split
    · have hz7 : ∀ b q p x, zOf s7 b q p x = (zr b q p x : EReal) := fun b q p x => by
        have e6 : zOf s6 = zOf s1 := by
          rw [← zOf_only o15]
          unfold zOf dotOf facOf wt cenAt vProto St.xtAt
          rw [n6 .pc (by decide), n6 .ps (by decide), n6 .g (by decide), n6 .cen (by decide), n6 .xt (by decide)]
        rw [zOf_after o7', e6]
        exact hz1 b q p x
      exact (redo_wp hln hz7).mono fun s8 h8 => hQ s8 ((o7'.trans h8.1).weaken after_any) (uniq s8 h8.2)
    · exact wp_ret' (hQ s7 (o7'.weaken after_any) (uniq s7 h7))
  · have hL : ∀ s, ∀ zr : Logits, (∀ b q p x, logitOf s0 b q p x = (zr b q p x : EReal)) → HasLosses zr s := fun s zr h => (H ⟨zr, h⟩).elim
    refine (fr_finish rfl rfl fun g => ?_ : Fr afterAny defs B c s6 _ _) s6 (Only.refl _ _)
    split
    · exact fr_redo ⟨rfl, rfl, rfl, rfl, rfl, rfl, rfl, rfl, rfl⟩ fun s hs => hQ s hs (hL s)
    · exact Fr.ret fun s hs => hQ s hs (hL s)

end Dino
-- ==== Proof.MatchIdeal.lean ====
/-
  The printed program is the one of `Proof/Body.lean` and `Proof/Whole.lean`.

  Between two loops the printed statements and the structured ones reduce to the same effects, which the kernel checks
  by computing; a loop is opaque, so what precedes one is taken off statement by statement and the binds around it are
  associated by hand.
-/
module

public import proofs.«01_k».proof.KernelIdeal
public import proofs.«01_k».proof.Proof.Gen.KernelIdeal
public import proofs.«01_k».proof.Proof.Whole
public import Idealize.ShloMosaic.Lib.Pipeline.Regions

@[expose] public section

set_option maxRecDepth 100000

noncomputable section

namespace Dino.KernelIdeal

open Cert.KernelIdeal Cert.KernelIdeal.Facts₀ Idealize.ShloMosaic Idealize.SL.Sem Idealize.ShloMosaic.Pipeline

variable {F : FTy → Type} [FloatOps F] [Named F]

instance gains : Dino.Gains F := ⟨Named.named κ "t_gain" 0x421044FE#32, Named.named κ "s_gain" 0x4166D4CA#32, Named.named κ "ln_2" 0x3F317218#32⟩

/-- Take one statement off both sides. -/
theorem peel {E : Type → Type _} {α β γ : Type} {e e' : E β} {c : β → Prog E γ} {K : γ → Prog E α} {k' : β → Prog E α}
    (he : e = e') (hk : ∀ x, c x >>= K = k' x) : (Prog.lift e >>= c) >>= K = Prog.op e' k' := by
  subst he; exact congrArg _ (funext hk)

/-- Take one value returned by a part into what follows it. -/
theorem step {E : Type → Type _} {α β : Type} {a : β} {K : β → Prog E α} {r : Prog E α} (h : K a = r) :
    (pure a : Prog E β) >>= K = r := h

/-- Associate a part's bind. -/
theorem assoc {E : Type → Type _} {α β γ : Type} {p : Prog E β} {f : β → Prog E γ} {g : γ → Prog E α} {r : Prog E α}
    (h : (p >>= fun a => f a >>= g) = r) : p >>= f >>= g = r := (Prog.bind_assoc p f g).trans h

/-- A loop and what follows it. -/
theorem loops {E : Type → Type _} {α β : Type} {p p' : Prog E β} {f f' : β → Prog E α} (h : p = p') (hf : f = f') :
    p >>= f = p' >>= f' := by rw [h, hf]

/-! ## Up to the main loop -/

theorem pre_eq (B : Refs sig) (hB : ∀ i, (B i).IsWhole) {β : Type} (K : BitVec 32 → Prog (TpuEff nD τ sig (Elt F) Λ₀ .tc) β)
    (G : β → Prog (TpuEff nD τ sig (Elt F) Λ₀ .tc) PUnit) :
    (do
      let v24 : FVec F S8x512 .f32 ← k0_part696 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct)
      let v56 : FVec F S8x512 .f32 ← k0_part697 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v24
      let ⟨v88, v90⟩ : Σ' (v88 : FVec F S8x512 .f32), FVec F S256x512 .fp8e4m3 ← k0_part698 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v56
      let ⟨v120, v122⟩ : Σ' (v120 : FVec F S8x512 .f32), FVec F S256x512 .fp8e4m3 ← k0_part699 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v88 v90
      let v153 : FVec F S512x256 .bf16 ← k0_part700 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v122
      let v182 : FVec F S256x512 .fp8e4m3 ← k0_part701 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v153
      let v213 : FVec F S512x256 .bf16 ← k0_part702 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v182
      let v242 : FVec F S256x512 .fp8e4m3 ← k0_part703 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v213
      let v276 : FVec F S4x128 .f32 ← k0_part704 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v120 v242
      let ⟨v288, v289, v306, v310⟩ : Σ' (v288 : FVec F S128x8 .f32) (v289 : Vec F S1x512 .f32) (v306 : FVec F S128x128 .f32), FVec F S128x128 .f32 ← k0_part705 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v276
      let ⟨v344, v348, v357⟩ : Σ' (v344 : FVec F S128x128 .f32) (v348 : FVec F S128x128 .f32), FVec F S128x128 .bf16 ← k0_part706 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v289 v306 v310
      let v398 : FVec F S128x1 .f32 ← k0_part707 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v289 v344 v348 v357
      let v430 : FVec F S128x8 .f32 ← k0_part708 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v288 v398
      let ⟨v431, v467, v471⟩ : Σ' (v431 : Vec F S1x512 .f32) (v467 : FVec F S128x128 .f32), FVec F S128x128 .f32 ← k0_part709 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430
      let ⟨v509, v518⟩ : Σ' (v509 : FVec F S128x128 .f32), FVec F S128x1 .f32 ← k0_part710 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430 v431 v467 v471
      let c0_i32_345 : BitVec 32 ← k0_part711 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v430 v509 v518
      K c0_i32_345) >>= G = Dino.before B hB (Named.named κ "inv_rows" 0x3A2AAAAB#32) (K 0#32 >>= G) := by
  chain_rfl

/-! ## The main loop -/

theorem trip_eq (B : Refs sig) (hB : ∀ i, (B i).IsWhole) {α : Type} (K : _ → Prog (TpuEff nD τ sig (Elt F) Λ₀ .tc) α) :
    k0_part712 (F := F) (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) 0#32 >>= K
      = Dino.forN 32#32 ok32 (fun t => Dino.trip B hB (Scf.iv 0#32 1#32 t) (next_ok ⟨t, t.2.trans_eq trips32⟩) (.ret ⟨⟩)) >>= fun _ =>
        Dino.ldAcc B 2 0 0 fun o0 => Dino.ldAcc B 2 0 1 fun o1 => Dino.ldAcc B 2 0 2 fun o2 => Dino.ldAcc B 2 0 3 fun o3 =>
        Dino.ldAcc B 2 0 4 fun o4 => Dino.ldAcc B 2 0 5 fun o5 => Dino.ldAcc B 2 0 6 fun o6 => Dino.ldAcc B 2 0 7 fun o7 =>
        Dino.ldAcc B 2 0 8 fun o8 => K ⟨o0, o1, o2, o3, o4, o5, o6, o7, o8⟩ := by
  unfold k0_part712
  refine assoc (loops (congrArg _ (funext fun t => funext fun _ => ?_)) ?_)
  · chain_rfl
  · chain_rfl

/-! ## The second pass -/

/-- The second pass as printed. -/
def again (B : Refs sig) (hB : ∀ i, (B i).IsWhole) : Prog (TpuEff nD τ sig (Elt F) Λ₀ .tc) PUnit := do
    let ⟨v5320, v5321, v5381, v5383, cst_3783⟩ : Σ' (v5320 : IVec S8x128 32) (v5321 : IVec S8x128 32) (v5381 : FVec F S8x128 .f32) (v5383 : FVec F S1x1 .f32), F .f32 ← k0_part695 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct)
    have v5384 : FVec F S1x1 .f32 := broadcast S1x1 cst_3783
    have v5385 : FVec F S1x1 .f32 := mulf v5383 v5384
    let c1_i32_3784 : BitVec 32 := 1#32
    have v5386 : IVec S8x128 32 := broadcast S8x128 c1_i32_3784
    have v5387 : IVec S8x128 1 := cmpi .eq v5320 v5386
    let c3_i32_3785 : BitVec 32 := 3#32
    have v5388 : IVec S8x128 32 := broadcast S8x128 c3_i32_3785
    have v5389 : IVec S8x128 1 := cmpi .eq v5321 v5388
    have v5390 : IVec S8x128 1 := andi v5387 v5389
    have v5391 : FVec F S1x1 .f32 := shapeCast S1x1 v5385 (by decide)
    have v5392 : FVec F S8x128 .f32 := broadcastTo S8x128 v5391 (by decide)
    have v5393 : FVec F S8x128 .f32 := select v5390 v5392 v5381
    have v5394 : FVec F S2x4 .f32 := extractStridedSlice S2x4 ![0, 0] v5393 (by decide)
    let c0_3786 : Index := 0#32
    let c0_3787 : Index := 0#32
    let v5395 : Vec F S2x4 .f32 ← Prog.lift (.load (B .pair) (Rect.unit (s := S2x4) ![0, 0] S2x4.size (by decide)).toLoadRect (View.loadsAt_vmem (by decide)))
    Prog.lift (.store (B .pair) (Rect.unit (s := S2x4) ![0, 0] S2x4.size (by decide)) v5394 Finset.univ (View.stores_vmem_bits_univ (by decide) rfl) (.inl rfl))
    pure ⟨⟩

theorem chunk_pre (B : Refs sig) (hB : ∀ i, (B i).IsWhole) {α : Type} (k0_t2 : Fin k0_t2_loop.trips)
    (K : FVec F S256x512 .bf16 → Prog (TpuEff nD τ sig (Elt F) Λ₀ .tc) α) :
    (do
      let ⟨arg20, v5397, v5419, v5420, v5421, v5422, v5430, v5431⟩ : Σ' (arg20 : BitVec 32) (v5397 : BitVec 32) (v5419 : FVec F S128x8 .f32) (v5420 : Vec F S1x512 .f32) (v5421 : FVec F S128x128 .f32) (v5422 : FVec F S128x128 .f32) (v5430 : FVec F S128x128 .bf16), FVec F S128x128 .bf16 ← k0_part663 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) 0#32 1#32 k0_t2
      let ⟨v5458, v5462, v5472⟩ : Σ' (v5458 : FVec F S128x128 .f32) (v5462 : FVec F S128x128 .f32), FVec F S128x128 .bf16 ← k0_part664 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5397 v5419 v5420 v5421 v5422 v5430 v5431
      let ⟨v5511, v5521⟩ : Σ' (v5511 : FVec F S128x1 .f32), FVec F S128x128 .f32 ← k0_part665 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5397 v5419 v5420 v5458 v5462 v5472
      let ⟨v5548, v5556⟩ : Σ' (v5548 : BitVec 32), FVec F S4x128 .f32 ← k0_part666 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 arg20 v5419 v5511 v5521
      let ⟨v5570, v5571, v5589, v5593, v5594⟩ : Σ' (v5570 : FVec F S128x8 .f32) (v5571 : Vec F S1x512 .f32) (v5589 : FVec F S128x128 .f32) (v5593 : FVec F S128x128 .f32), BitVec 32 ← k0_part667 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5548 v5556
      let ⟨v5629, v5633, v5637, v5641⟩ : Σ' (v5629 : FVec F S128x128 .f32) (v5633 : FVec F S128x128 .f32) (v5637 : Vec F S128x128 .fp8e4m3), FVec F S128x128 .bf16 ← k0_part668 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) k0_t2 v5548 v5570 v5571 v5589 v5593 v5594
      let v5662 : FVec F S128x1 .f32 ← k0_part669 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5548 v5570 v5571 v5629 v5633 v5637 v5641
      let ⟨v5707, v5709, cst_3929⟩ : Σ' (v5707 : FVec F S256x512 .bf16) (v5709 : FVec F S512x256 .bf16), FVec F S256x256 .f32 ← k0_part670 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5570 v5662
      let v5731 : FVec F S256x512 .bf16 ← k0_part671 (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) v5707 v5709 cst_3929
      K v5731) =
    Dino.prep B hB 0 (sameGroup (Scf.iv 0#32 1#32 k0_t2) 0#32) (sameGroup (Scf.iv 0#32 1#32 k0_t2) 1#32)
      (same_ok ⟨k0_t2, k0_t2.2.trans_eq trips64⟩ 0) (same_ok ⟨k0_t2, k0_t2.2.trans_eq trips64⟩ 1) (
    Dino.logitsOf B 0 0 0 4 0 (by decide) <|
    Dino.ld B .v ![0, 0, 0] S1x256x512.size (inb_v 0) (by decide) fun v =>
    K (shapeCast (s := S1x256x512) S256x512 v (by decide))) := by
  chain_rfl

theorem again_eq (B : Refs sig) (hB : ∀ i, (B i).IsWhole) : again (F := F) B hB = Dino.redo B hB := by
  unfold again k0_part695 k0_part677
  refine assoc ?_
  refine assoc ?_
  iterate 4 (refine peel ?he (fun _ => ?_); (case he => chain_rfl))
  refine assoc (loops (congrArg _ (funext fun t => funext fun _ => ?_)) (funext fun _ => ?_))
  · refine (chunk_pre B hB t _).trans ?_
    refine congrArg (Dino.prep B hB 0 _ _ _ _) (congrArg (Dino.logitsOf B 0 0 0 4 0 _) ?_)
    refine congrArg (Dino.ld B .v _ _ _ _) (funext fun _ => ?_)
    unfold k0_part672
    iterate 7 (refine peel ?he (fun _ => ?_); (case he => chain_rfl))
    refine assoc (loops (congrArg _ (funext fun t => funext fun _ => ?_)) (funext fun _ => ?_))
    · chain_rfl
    iterate 3 (refine peel ?he (fun _ => ?_); (case he => chain_rfl))
    refine step ?_
    unfold k0_part673
    iterate 11 (refine peel ?he (fun _ => ?_); (case he => chain_rfl))
    refine step ?_
    unfold k0_part674
    iterate 10 (refine peel ?he (fun _ => ?_); (case he => chain_rfl))
    refine assoc (loops (congrArg _ (funext fun t => funext fun _ => ?_)) (funext fun _ => ?_))
    · chain_rfl
    iterate 1 (refine peel ?he (fun _ => ?_); (case he => chain_rfl))
    refine step ?_
    unfold k0_part675
    iterate 12 (refine peel ?he (fun _ => ?_); (case he => chain_rfl))
    refine step ?_
    unfold k0_part676
    iterate 11 (refine peel ?he (fun _ => ?_); (case he => chain_rfl))
    refine step ?_
    refine loops (congrArg _ (funext fun t => funext fun _ => ?_)) rfl
    chain_rfl
  · chain_rfl

/-! ## The whole -/

theorem body_eq (B : Refs sig) (hB : ∀ i, (B i).IsWhole) :
    cc0_dino_loss (F := F) (B .tc) (hB .tc) (B .ts) (hB .ts) (B .sc) (hB .sc) (B .ss) (hB .ss) (B .pc) (hB .pc) (B .ps) (hB .ps) (B .g) (hB .g) (B .cen) (hB .cen) (B .row) (hB .row) (B .pair) (hB .pair) (B .bc) (hB .bc) (B .xt) (hB .xt) (B .v) (hB .v) (B .fac) (hB .fac) (B .s) (hB .s) (B .acc) (hB .acc) (B .m) (hB .m) (B .xsum) (hB .xsum) (B .par) (hB .par) (B .bct) (hB .bct) = Dino.body B hB (Named.named κ "inv_rows" 0x3A2AAAAB#32) := by
  unfold cc0_dino_loss k0_part833
  refine (pre_eq B hB _ _).trans (congrArg _ ?_)
  refine assoc ((trip_eq B hB _).trans (loops rfl (funext fun _ => ?_)))
  rw [← again_eq]
  chain_rfl

end Dino.KernelIdeal

end
-- ==== Proof.RunIdeal.lean ====
/-
  `KernelIdeal`'s run: the body's triple (`Proof/Results.lean`) put under the pipeline's one grid point, and the launch.

  The batch centre is named (`bcOut`). So are the two losses where the logits are real numbers; without that they are
  forgotten (`fgt`).
-/
module

public import proofs.«01_k».proof.Proof.Results
public import proofs.«01_k».proof.Proof.MatchIdeal
public import proofs.«01_k».proof.Proof.Gen.KernelIdeal.Frame
public import Idealize.ShloMosaic.Lib.Pipeline.Frame
public import Idealize.ShloMosaic.Lib.Tactic

@[expose] public section

noncomputable section

namespace Dino.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! ## The buffers the body is handed -/

def bufs (t : Fin cfg0.N) : Refs sig
  | .tc => st0_0 t
  | .ts => st0_1 t
  | .sc => st0_2 t
  | .ss => st0_3 t
  | .pc => st0_4 t
  | .ps => st0_5 t
  | .g => st0_6 t
  | .cen => st0_7 t
  | .row => st0_8 t
  | .pair => st0_9 t
  | .bc => st0_10 t
  | .xt => Memref.whole cc0_scratch0
  | .v => Memref.whole cc0_scratch1
  | .fac => Memref.whole cc0_scratch2
  | .s => Memref.whole cc0_scratch3
  | .acc => Memref.whole cc0_scratch4
  | .m => Memref.whole cc0_scratch5
  | .xsum => Memref.whole cc0_scratch6
  | .par => Memref.whole cc0_scratch7
  | .bct => Memref.whole cc0_scratch8

theorem bufs_whole (t : Fin cfg0.N) : ∀ i, (bufs t i).IsWhole
  | .tc => hstage0_0 0
  | .ts => hstage0_1 0
  | .sc => hstage0_2 0
  | .ss => hstage0_3 0
  | .pc => hstage0_4 0
  | .ps => hstage0_5 0
  | .g => hstage0_6 0
  | .cen => hstage0_7 0
  | .row => hstage0_8 0
  | .pair => hstage0_9 0
  | .bc => hstage0_10 0
  | .xt => Memref.isWhole_whole _
  | .v => Memref.isWhole_whole _
  | .fac => Memref.isWhole_whole _
  | .s => Memref.isWhole_whole _
  | .acc => Memref.isWhole_whole _
  | .m => Memref.isWhole_whole _
  | .xsum => Memref.isWhole_whole _
  | .par => Memref.isWhole_whole _
  | .bct => Memref.isWhole_whole _

theorem bodyAt_eq (t : Fin cfg0.N) : bodyAt0 (F := Ideal) t = Dino.body (bufs t) (bufs_whole t) (Named.named κ "inv_rows" 0x3A2AAAAB#32) := body_eq (bufs t) (bufs_whole t)

/-- What the buffers hold when the body is called: the inputs their blocks, the others anything. -/
def start (c : Dev nD) (t : Fin cfg0.N) (x_row : Ref'.row.shape.Idx → Elt Ideal Ref'.row.elt) (x_pair : Ref'.pair.shape.Idx → Elt Ideal Ref'.pair.elt) (x_bc : Ref'.bc.shape.Idx → Elt Ideal Ref'.bc.elt) (x_xt : Ref'.xt.shape.Idx → Elt Ideal Ref'.xt.elt) (x_v : Ref'.v.shape.Idx → Elt Ideal Ref'.v.elt) (x_fac : Ref'.fac.shape.Idx → Elt Ideal Ref'.fac.elt) (x_s : Ref'.s.shape.Idx → Elt Ideal Ref'.s.elt) (x_acc : Ref'.acc.shape.Idx → Elt Ideal Ref'.acc.elt) (x_m : Ref'.m.shape.Idx → Elt Ideal Ref'.m.elt) (x_xsum : Ref'.xsum.shape.Idx → Elt Ideal Ref'.xsum.elt) (x_par : Ref'.par.shape.Idx → Elt Ideal Ref'.par.elt) (x_bct : Ref'.bct.shape.Idx → Elt Ideal Ref'.bct.elt) : St Ideal
  | .tc => iblk m c 0 t
  | .ts => iblk m c 1 t
  | .sc => iblk m c 2 t
  | .ss => iblk m c 3 t
  | .pc => iblk m c 4 t
  | .ps => iblk m c 5 t
  | .g => iblk m c 6 t
  | .cen => iblk m c 7 t
  | .row => x_row
  | .pair => x_pair
  | .bc => x_bc
  | .xt => x_xt
  | .v => x_v
  | .fac => x_fac
  | .s => x_s
  | .acc => x_acc
  | .m => x_m
  | .xsum => x_xsum
  | .par => x_par
  | .bct => x_bct

/-! ## The proof data -/

/-- The memory the batch centre is a function of: the inputs, the rest of no account. -/
def base (c : Dev nD) (t : Fin cfg0.N) : St Ideal :=
  start m c t (fun _ => Classical.arbitrary _) (fun _ => Classical.arbitrary _) (fun _ => Classical.arbitrary _) (fun _ => Classical.arbitrary _)
    (fun _ => Classical.arbitrary _) (fun _ => Classical.arbitrary _) (fun _ => Classical.arbitrary _) (fun _ => Classical.arbitrary _)
    (fun _ => Classical.arbitrary _) (fun _ => Classical.arbitrary _) (fun _ => Classical.arbitrary _) (fun _ => Classical.arbitrary _)

/-- The named constant `log 2`. -/
theorem ln_2 : (Dino.Gains.ln2 : Ideal .f32) = ((Real.log 2 : ℝ) : EReal) :=
  IdealRules.named_const.ideal_named_scalar _ _ _ _ rfl

/-- The named constant `1 / 1536`. -/
abbrev invRows : Ideal .f32 := Named.named κ "inv_rows" 0x3A2AAAAB#32

/-- The batch centre the body leaves. -/
def bcOut (c : Dev nD) (t : Fin cfg0.N) : FVec Ideal S128x128 .f32 := fun j =>
  centreOf (Dino.set (base m c t) .xsum (xsumOf (base m c t) invRows)) (j 0) (j 1)

theorem bc_eq (c : Dev nD) (t : Fin cfg0.N) x8 x9 x10 x11 x12 x13 x14 x15 x16 x17 x18 x19 (s : St Ideal)
    (h : ∀ n i : Fin 128, (s .bc : FVec Ideal S128x128 .f32) (ix2 n i)
      = centreOf (Dino.set (start m c t x8 x9 x10 x11 x12 x13 x14 x15 x16 x17 x18 x19) .xsum
        (xsumOf (start m c t x8 x9 x10 x11 x12 x13 x14 x15 x16 x17 x18 x19) invRows)) n i) :
    s .bc = bcOut m c t := by
  funext j
  refine (congrArg (s .bc) (ValueIdx.eq_ix2 j)).trans ((h (j 0) (j 1)).trans (congrFun (congrFun (centreOf_congr ?_ ?_ ?_ ?_) _) _))
  · rw [set_other _ _ (by decide), set_other _ _ (by decide)]; rfl
  · rw [set_other _ _ (by decide), set_other _ _ (by decide)]; rfl
  · rw [set_other _ _ (by decide), set_other _ _ (by decide)]; rfl
  · rw [set_same, set_same]; rfl

/-- The losses that logits determine. -/
def rowOut (zr : Dino.Logits) : FVec Ideal S2x4x3x256 .f32 := fun j => lossRow zr (j 0) (j 1) (j 2) (j 3)
def pairOut (zr : Dino.Logits) : FVec Ideal S2x4 .f32 := fun j =>
  if ((j 0 : Fin 2) : Nat) = (j 1 : Fin 4) then 0 else
    meanOf fun q => 0 + lossRow zr (j 0) (j 1) 0 q + lossRow zr (j 0) (j 1) 1 q + lossRow zr (j 0) (j 1) 2 q

theorem row_eq {zr : Dino.Logits} {s : St Ideal} (h : HasLosses zr s) : s .row = rowOut zr := by
  funext j
  exact (congrArg (s .row) (ValueIdx.eq_ix4 j)).trans (h.1 (j 0) (j 1) (j 2) (j 3))
theorem pair_eq {zr : Dino.Logits} {s : St Ideal} (h : HasLosses zr s) : s .pair = pairOut zr := by
  funext j
  exact (congrArg (s .pair) (ValueIdx.eq_ix2 j)).trans (h.2 (j 0) (j 1))

variable (zr : Dev nD → Dino.Logits) (fgt : Bool)

/-- The losses, forgotten where `fgt`. -/
def forgets : Fin 11 → Bool
  | 8 | 9 => fgt
  | _ => false

def dats (_ : Fin 1) (c : Dev nD) : Dat τ (Elt Ideal) Unit ℕ (UR sig nD τ) ℕ cfg0 c where
  A w := V m c (Pipeline.arrRef spec0 w)
  after
    | 8 => fun _ => rowOut (zr c)
    | 9 => fun _ => pairOut (zr c)
    | 10 => bcOut m c
    | 0 => iblk m c 0
    | 1 => iblk m c 1
    | 2 => iblk m c 2
    | 3 => iblk m c 3
    | 4 => iblk m c 4
    | 5 => iblk m c 5
    | 6 => iblk m c 6
    | 7 => iblk m c 7
  Φ _ := Pipeline.ΦA spec0 c
  q _ := fullShare
  owed _ := 0

theorem A_eq (c : Dev nD) (w : Fin cfg0.W) : (dats m zr 0 c).A w = V m c (Pipeline.arrRef spec0 w) := by dsimp only [dats]

def bodyPre (c : Dev nD) (t : Fin cfg0.N) : sProp 𝕄 :=
  iprop((dats m zr 0 c).Φ t.castSucc ∗ (dats m zr 0 c).owesAt () t.castSucc
    ∗ (∃ d, owns (c : Thread nD τ) (st0_0 t) fullShare ((dats m zr 0 c).before 0 t d))
    ∗ (∃ d, owns (c : Thread nD τ) (st0_1 t) fullShare ((dats m zr 0 c).before 1 t d))
    ∗ (∃ d, owns (c : Thread nD τ) (st0_2 t) fullShare ((dats m zr 0 c).before 2 t d))
    ∗ (∃ d, owns (c : Thread nD τ) (st0_3 t) fullShare ((dats m zr 0 c).before 3 t d))
    ∗ (∃ d, owns (c : Thread nD τ) (st0_4 t) fullShare ((dats m zr 0 c).before 4 t d))
    ∗ (∃ d, owns (c : Thread nD τ) (st0_5 t) fullShare ((dats m zr 0 c).before 5 t d))
    ∗ (∃ d, owns (c : Thread nD τ) (st0_6 t) fullShare ((dats m zr 0 c).before 6 t d))
    ∗ (∃ d, owns (c : Thread nD τ) (st0_7 t) fullShare ((dats m zr 0 c).before 7 t d))
    ∗ (∃ d, owns (c : Thread nD τ) (st0_8 t) fullShare (cond fgt d ((dats m zr 0 c).before 8 t d)))
    ∗ (∃ d, owns (c : Thread nD τ) (st0_9 t) fullShare (cond fgt d ((dats m zr 0 c).before 9 t d)))
    ∗ (∃ d, owns (c : Thread nD τ) (st0_10 t) fullShare ((dats m zr 0 c).before 10 t d)))

def bodyPost (c : Dev nD) (t : Fin cfg0.N) : sProp 𝕄 :=
  iprop((dats m zr 0 c).Φ t.succ ∗ (dats m zr 0 c).owesAt () t.succ
    ∗ owns (c : Thread nD τ) (st0_0 t) fullShare ((dats m zr 0 c).after 0 t)
    ∗ owns (c : Thread nD τ) (st0_1 t) fullShare ((dats m zr 0 c).after 1 t)
    ∗ owns (c : Thread nD τ) (st0_2 t) fullShare ((dats m zr 0 c).after 2 t)
    ∗ owns (c : Thread nD τ) (st0_3 t) fullShare ((dats m zr 0 c).after 3 t)
    ∗ owns (c : Thread nD τ) (st0_4 t) fullShare ((dats m zr 0 c).after 4 t)
    ∗ owns (c : Thread nD τ) (st0_5 t) fullShare ((dats m zr 0 c).after 5 t)
    ∗ owns (c : Thread nD τ) (st0_6 t) fullShare ((dats m zr 0 c).after 6 t)
    ∗ owns (c : Thread nD τ) (st0_7 t) fullShare ((dats m zr 0 c).after 7 t)
    ∗ cond fgt iprop(∃ d, owns (c : Thread nD τ) (st0_8 t) fullShare d) (owns (c : Thread nD τ) (st0_8 t) fullShare ((dats m zr 0 c).after 8 t))
    ∗ cond fgt iprop(∃ d, owns (c : Thread nD τ) (st0_9 t) fullShare d) (owns (c : Thread nD τ) (st0_9 t) fullShare ((dats m zr 0 c).after 9 t))
    ∗ owns (c : Thread nD τ) (st0_10 t) fullShare ((dats m zr 0 c).after 10 t))

/-- The invariant: the scratch buffers at anything, the generator register at some state. -/
theorem PhiA_eq (c : Dev nD) :
    (Pipeline.ΦA spec0 c : sProp 𝕄)
      = iprop(((∃ f, owns (c : Thread nD τ) (Memref.whole cc0_scratch0) fullShare f)
          ∗ (∃ f, owns (c : Thread nD τ) (Memref.whole cc0_scratch1) fullShare f)
          ∗ (∃ f, owns (c : Thread nD τ) (Memref.whole cc0_scratch2) fullShare f)
          ∗ (∃ f, owns (c : Thread nD τ) (Memref.whole cc0_scratch3) fullShare f)
          ∗ (∃ f, owns (c : Thread nD τ) (Memref.whole cc0_scratch4) fullShare f)
          ∗ (∃ f, owns (c : Thread nD τ) (Memref.whole cc0_scratch5) fullShare f)
          ∗ (∃ f, owns (c : Thread nD τ) (Memref.whole cc0_scratch6) fullShare f)
          ∗ (∃ f, owns (c : Thread nD τ) (Memref.whole cc0_scratch7) fullShare f)
          ∗ (∃ f, owns (c : Thread nD τ) (Memref.whole cc0_scratch8) fullShare f)) ∗ ∃ r, prngReg c r) := by
  unfold Pipeline.ΦA; rw [scopedRest0_eq]; simp only [owns_whole]; try rfl

set_option maxHeartbeats 2000000 in
/-- The body's triple at the point. -/
theorem sound_body (c : Dev nD) (t : Fin cfg0.N)
    (hz : fgt = false → ∀ b q p x, logitOf (base m c t) b q p x = (zr c b q p x : EReal)) :
    bodyPre m zr fgt c t ⊢ wp frame (wpE (defs₀ (F := Ideal)) Variants.none c none) Set.univ (bodyAt0 t) (fun _ => bodyPost m zr fgt c t) := by
  unfold bodyPre bodyPost
  rw [show (dats m zr 0 c).Φ t.succ = (dats m zr 0 c).Φ t.castSucc from rfl,
    show (dats m zr 0 c).owesAt () t.succ = (dats m zr 0 c).owesAt () t.castSucc from rfl,
    show (dats m zr 0 c).Φ t.castSucc = Pipeline.ΦA spec0 c from rfl, PhiA_eq, bodyAt_eq]
  simp only [before0_0_of m (dats m zr 0 c) (A_eq m zr c 0) (fun _ => rfl) t]
  simp only [before0_1_of m (dats m zr 0 c) (A_eq m zr c 1) (fun _ => rfl) t]
  simp only [before0_2_of m (dats m zr 0 c) (A_eq m zr c 2) (fun _ => rfl) t]
  simp only [before0_3_of m (dats m zr 0 c) (A_eq m zr c 3) (fun _ => rfl) t]
  simp only [before0_4_of m (dats m zr 0 c) (A_eq m zr c 4) (fun _ => rfl) t]
  simp only [before0_5_of m (dats m zr 0 c) (A_eq m zr c 5) (fun _ => rfl) t]
  simp only [before0_6_of m (dats m zr 0 c) (A_eq m zr c 6) (fun _ => rfl) t]
  simp only [before0_7_of m (dats m zr 0 c) (A_eq m zr c 7) (fun _ => rfl) t]
  iintro ⟨⟨⟨⟨%x11, H11⟩, ⟨%x12, H12⟩, ⟨%x13, H13⟩, ⟨%x14, H14⟩, ⟨%x15, H15⟩, ⟨%x16, H16⟩, ⟨%x17, H17⟩, ⟨%x18, H18⟩, ⟨%x19, H19⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%x8, H8⟩, ⟨%x9, H9⟩, ⟨%x10, H10⟩⟩
  have hw := body_post (defs := defs₀ (F := Ideal)) (c := c) ln_2 (bufs_whole t) invRows (start m c t
    (cond fgt x8 ((dats m zr 0 c).before 8 t x8)) (cond fgt x9 ((dats m zr 0 c).before 9 t x9)) ((dats m zr 0 c).before 10 t x10) x11 x12 x13 x14 x15 x16 x17 x18 x19)
  unfold Wp at hw
  simp only [own_eq] at hw
  iapply (wp_wand_r frame (wpE (defs₀ (F := Ideal)) Variants.none c none) Set.univ)
  isplitl [H0 H1 H2 H3 H4 H5 H6 H7 H8 H9 H10 H11 H12 H13 H14 H15 H16 H17 H18 H19]
  · iapply hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %_ ⟨%s', %hs', H0, H1, H2, H3, H4, H5, H6, H7, H8, H9, H10, H11, H12, H13, H14, H15, H16, H17, H18, H19⟩
  have hs := hs'.kept
  have hl : fgt = false → HasLosses (zr c) s' := fun e => hs'.losses (zr c) (hz e)
  isplitl [Hg H11 H12 H13 H14 H15 H16 H17 H18 H19]
  · isplitr [Hg]; swap; · iexact Hg
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  isplitl [HO]; · iexact HO
  isplitl [H0]
  · iapply (show (owns (c : Thread nD τ) (st0_0 t) fullShare (s' .tc) : sProp 𝕄) ⊢ owns (c : Thread nD τ) (st0_0 t) fullShare ((dats m zr 0 c).after 0 t) from by
      rw [hs .tc rfl]; exact .rfl)
    iexact H0
  isplitl [H1]
  · iapply (show (owns (c : Thread nD τ) (st0_1 t) fullShare (s' .ts) : sProp 𝕄) ⊢ owns (c : Thread nD τ) (st0_1 t) fullShare ((dats m zr 0 c).after 1 t) from by
      rw [hs .ts rfl]; exact .rfl)
    iexact H1
  isplitl [H2]
  · iapply (show (owns (c : Thread nD τ) (st0_2 t) fullShare (s' .sc) : sProp 𝕄) ⊢ owns (c : Thread nD τ) (st0_2 t) fullShare ((dats m zr 0 c).after 2 t) from by
      rw [hs .sc rfl]; exact .rfl)
    iexact H2
  isplitl [H3]
  · iapply (show (owns (c : Thread nD τ) (st0_3 t) fullShare (s' .ss) : sProp 𝕄) ⊢ owns (c : Thread nD τ) (st0_3 t) fullShare ((dats m zr 0 c).after 3 t) from by
      rw [hs .ss rfl]; exact .rfl)
    iexact H3
  isplitl [H4]
  · iapply (show (owns (c : Thread nD τ) (st0_4 t) fullShare (s' .pc) : sProp 𝕄) ⊢ owns (c : Thread nD τ) (st0_4 t) fullShare ((dats m zr 0 c).after 4 t) from by
      rw [hs .pc rfl]; exact .rfl)
    iexact H4
  isplitl [H5]
  · iapply (show (owns (c : Thread nD τ) (st0_5 t) fullShare (s' .ps) : sProp 𝕄) ⊢ owns (c : Thread nD τ) (st0_5 t) fullShare ((dats m zr 0 c).after 5 t) from by
      rw [hs .ps rfl]; exact .rfl)
    iexact H5
  isplitl [H6]
  · iapply (show (owns (c : Thread nD τ) (st0_6 t) fullShare (s' .g) : sProp 𝕄) ⊢ owns (c : Thread nD τ) (st0_6 t) fullShare ((dats m zr 0 c).after 6 t) from by
      rw [hs .g rfl]; exact .rfl)
    iexact H6
  isplitl [H7]
  · iapply (show (owns (c : Thread nD τ) (st0_7 t) fullShare (s' .cen) : sProp 𝕄) ⊢ owns (c : Thread nD τ) (st0_7 t) fullShare ((dats m zr 0 c).after 7 t) from by
      rw [hs .cen rfl]; exact .rfl)
    iexact H7
  isplitl [H8]
  · iapply (show (owns (c : Thread nD τ) (st0_8 t) fullShare (s' .row) : sProp 𝕄) ⊢ cond fgt
        iprop(∃ d, owns (c : Thread nD τ) (st0_8 t) fullShare d) (owns (c : Thread nD τ) (st0_8 t) fullShare ((dats m zr 0 c).after 8 t)) from by
      cases fgt
      · rw [row_eq (hl rfl)]; exact .rfl
      · show _ ⊢ iprop(∃ d, owns (c : Thread nD τ) (st0_8 t) fullShare d)
        iintro H; iexists _; iexact H)
    iexact H8
  isplitl [H9]
  · iapply (show (owns (c : Thread nD τ) (st0_9 t) fullShare (s' .pair) : sProp 𝕄) ⊢ cond fgt
        iprop(∃ d, owns (c : Thread nD τ) (st0_9 t) fullShare d) (owns (c : Thread nD τ) (st0_9 t) fullShare ((dats m zr 0 c).after 9 t)) from by
      cases fgt
      · rw [pair_eq (hl rfl)]; exact .rfl
      · show _ ⊢ iprop(∃ d, owns (c : Thread nD τ) (st0_9 t) fullShare d)
        iintro H; iexists _; iexact H)
    iexact H9
  iapply (show (owns (c : Thread nD τ) (st0_10 t) fullShare (s' .bc) : sProp 𝕄) ⊢ owns (c : Thread nD τ) (st0_10 t) fullShare ((dats m zr 0 c).after 10 t) from by
      rw [bc_eq m c t _ _ _ _ _ _ _ _ _ _ _ _ s' hs'.bc]; exact .rfl)
  iexact H10

theorem defs₀_row (t : Fin cfg0.N) : defs₀ (F := Ideal) .tc cfg0.body (cfg0.bodyArgs t (cfg0.slots t)) = bodyAt0 t := by
  unfold defs₀; rw [Defs.onTc_tc]

variable (hz : fgt = false → ∀ c t b q p x, logitOf (base m c t) b q p x = (zr c b q p x : EReal))
include hz

theorem body_obligation (c : Dev nD) :
    BodyObligation (dats m zr 0 c) (defs₀ (F := Ideal)) Variants.none () Set.univ (forgets fgt) := fun t => by
  rw [bigSep_W0, bigSep_W0, defs₀_row]
  have h := sound_body m zr fgt c t fun e => hz e c t
  cases fgt
  · exact triple_restated h rfl .rfl fun _ => .rfl
  · exact triple_restated h rfl .rfl fun _ => .rfl

/-! ## The launch -/

-- the run theorem's implicit arguments are found by unifying its conclusion with this statement, which unifies only
-- when unification may unfold plain definitions in a metavariable's type
set_option backward.isDefEq.respectTransparency.types false in
theorem run_main :
    θ_run defs (onTc (τ := τ) (main (F := Ideal))) (s₀ m ρ)
      (fun r => Pipeline.RDat.FramePost (cfgs 0) (fun c => (dats m zr 0 c).toRForget (forgets fgt)) (V m) r ∧ r.2.sem = fun _ => 0) :=
  Pipeline.θ_run_frame_forget (Q' := _) cfgs (dats m zr) (0 : Fin 1) launch0 defs₀ Variants.none (forgets fgt) m ρ main
    (hbody := fun c => (body_obligation m zr fgt hz c).loose) (hshare := fun c => (dats m zr 0 c).share_full fun _ => rfl)
    (howed := fun _ _ => rfl) (V := V m) (hmain := hmain m Variants.none) (hA := A_eq m zr) (hΦ := fun _ _ => rfl)

omit hz
variable {m zr fgt}

theorem kept {r : PUnit × MemSt nD τ sig (Elt Ideal)}
    (h : Pipeline.RDat.FramePost (cfgs 0) (fun c => (dats m zr 0 c).toRForget (forgets fgt)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    (Pipeline.RDat.FramePost.arr_in h c 3 rfl).trans (V_main_arg3 m c),
    (Pipeline.RDat.FramePost.arr_in h c 4 rfl).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Dino.KernelIdeal
-- ==== Proof.Average.lean ====
/-
  The averaged teacher features, one at a time: the sum over the rows of scale times code, times the named constant.
-/
module

public import proofs.«01_k».proof.Proof.Features
public import Idealize.ShloMosaic.Lib.Pointwise

@[expose] public section

noncomputable section

namespace Dino

open Idealize.ShloMosaic

variable {st : St Ideal}

theorem cropStep_apply (x : Fin 2) (b : Fin 3) (xs : FVec Ideal S8x512 .f32) (i : Fin 8) (d : Fin 512) :
    cropStep st x b xs (ix2 i d)
      = xs (ix2 i d) + ∑ q : Fin 256, (st .ts : FVec Ideal S2x3x256 .f32) (ix3 x b q) * (st .tc : FVec Ideal S2x3x256x512 .fp8e4m3) (ix4 x b q d) := by
  pointwise [xsStep, codesB, scaleB]
  refine congrArg _ (Finset.sum_congr rfl fun q _ => congrArg₂ _ (congrArg (st .ts) ?_) (congrArg (st .tc) ?_))
  · funext a
    apply Fin.ext
    rw [Rect.emb_apply]
    fin_cases a
    · show (x : Nat) + 1 * 0 = x
      omega
    · show (b : Nat) + 1 * 0 = b
      omega
    · show 0 + 1 * (q : Nat) = q
      omega
  · funext a
    apply Fin.ext
    rw [Rect.emb_apply]
    fin_cases a
    · show (x : Nat) + 1 * 0 = x
      omega
    · show (b : Nat) + 1 * 0 = b
      omega
    · show 0 + 1 * (q : Nat) = q
      omega
    · show 0 + 1 * (d : Nat) = d
      omega

theorem xsumOf_apply (inv : EReal) (i : Fin 8) (d : Fin 512) :
    xsumOf st inv (ix2 i d) = (∑ r : (Fin 2 × Fin 3) × Fin 256, (st .ts : FVec Ideal S2x3x256 .f32) (ix3 r.1.1 r.1.2 r.2)
      * (st .tc : FVec Ideal S2x3x256x512 .fp8e4m3) (ix4 r.1.1 r.1.2 r.2 d)) * inv := by
  have e (w : FVec Ideal S8x512 .f32) (h : S8x512.ShapeCasts S8x512) :
      shapeCast S8x512 (mulf w (broadcast S8x512 (inv : Ideal .f32))) h (ix2 i d) = w (ix2 i d) * inv := by pointwise []
  refine (e _ _).trans (congrArg (· * inv) ?_)
  rw [cropStep_apply, cropStep_apply, cropStep_apply, cropStep_apply, cropStep_apply, cropStep_apply]
  have z : (broadcast S8x512 (Scalar.ofBits .f32 0x00000000#32) : FVec Ideal S8x512 .f32) (ix2 i d) = 0 := by pointwise []
  rw [z, zero_add, Fintype.sum_prod_type, Fintype.sum_prod_type, Fin.sum_univ_two, Fin.sum_univ_three, Fin.sum_univ_three]
  simp only [add_assoc]

end Dino
-- ==== Proof.Formula.lean ====
/-
  The batch centre as two formulas of the argument arrays: the kernel's, which averages the teacher's features before the
  product with the prototypes, and the reference's, which averages the products. On finite features, scales and gains they
  are equal.
-/
module

public import proofs.«01_k».proof.Proof.Equation
public import Idealize.ShloMosaic.Lib.Pointwise

@[expose] public section

noncomputable section

namespace Dino

open Idealize.ShloMosaic

/-- A row of the teacher's batch: its view, its crop's batch entry and its place there. -/
abbrev Row : Type := (Fin 2 × Fin 3) × Fin 256

variable (tc : FVec Ideal ⟨4, ![2, 3, 256, 512]⟩ .f32) (ts : FVec Ideal ⟨3, ![2, 3, 256]⟩ .f32)
variable (pc : FVec Ideal ⟨2, ![16384, 512]⟩ .fp8e4m3) (ps : FVec Ideal ⟨2, ![16384, 4]⟩ .f32) (g : FVec Ideal ⟨1, ![16384]⟩ .f32)

/-- The row's codes, -/
def rowCodes (r : Row) (d : Fin 512) : EReal := tc (ix4 r.1.1 r.1.2 r.2 d)

/-- and its scale. -/
def rowScale (r : Row) : EReal := ts (ix3 r.1.1 r.1.2 r.2)

/-- The scaled codes of prototype `p`, -/
def proto (p : Fin 16384) (d : Fin 512) : EReal := pc (ix2 p d) * ps (ix2 p ⟨(d : Nat) / 128, by omega⟩)

/-- and its gain. -/
def gain (p : Fin 16384) : EReal := g (ix1 p)

/-- The prototype at place `(n, i)` of the result. -/
def protoAt (n i : Fin 128) : Fin 16384 := ⟨128 * (n : Nat) + i, by omega⟩

/-- The features averaged first, then one product with the prototype. -/
def featuresFirst (inv : EReal) (p : Fin 16384) : EReal :=
  (∑ d, proto pc ps p d * ((∑ r, rowScale ts r * rowCodes tc r d) * inv)) * weightOf (gain g p) (proto pc ps p)

/-- Every row's product with the prototype, then the mean. -/
def productsFirst (p : Fin 16384) : EReal :=
  Ideal.div (∑ r, (∑ d, rowCodes tc r d * proto pc ps p d) * rowScale ts r * weightOf (gain g p) (proto pc ps p)) ((1536 : ℝ) : EReal)

theorem featuresFirst_eq (hc : ∀ i, Fin' (tc i)) (ht : ∀ i, Fin' (ts i)) (hg : ∀ i, Fin' (g i)) (p : Fin 16384) :
    featuresFirst tc ts pc ps g ((1 / 1536 : ℝ) : EReal) p = productsFirst tc ts pc ps g p :=
  centre_eq _ _ _ _ 1536 (by norm_num) (fun _ _ => hc _) (fun _ => ht _) (hg _)

end Dino
-- ==== Proof.Logit.lean ====
/-
  The logits as two formulas of the argument arrays: the reference's, and the kernel's, which scales the features before the
  product and divides by `log 2`. On finite arguments both are real numbers, and the kernel's is the reference's divided by
  `log 2`. The losses of the two are then the same.
-/
module

public import proofs.«01_k».proof.Proof.Formula
public import proofs.«01_k».proof.Proof.LossValue

@[expose] public section

noncomputable section

namespace Dino

open Idealize.ShloMosaic

/-! ## One logit -/

section One

variable {δ : Type} [Fintype δ] (v c : δ → EReal) (t g : EReal)

/-- A row's product with a prototype, weighted, the two ways; both are one real number. -/
theorem product_eq (hc : ∀ d, Fin' (c d)) (ht : Fin' t) (hg : Fin' g) :
    ∃ y : ℝ, (∑ d, c d * v d) * t * weightOf g v = (y : EReal) ∧
      ∀ G : ℝ, (∑ d, v d * (c d * t)) * (weightOf g v * (G : EReal)) = ((y * G : ℝ) : EReal) := by
  by_cases hv : ∀ d, Fin' (v d)
  · choose v' hv' using fun d => (hv d).lift
    choose c' hc' using fun d => (hc d).lift
    obtain ⟨t, rfl⟩ := ht.lift
    obtain rfl : v = fun d => (v' d : EReal) := funext hv'
    obtain rfl : c = fun d => (c' d : EReal) := funext hc'
    obtain ⟨w, hw⟩ := weight_finite hg v'
    rw [hw]
    refine ⟨(∑ d, c' d * v' d) * t * w, ?_, fun G => ?_⟩
    · simp only [← EReal.coe_mul, ← coe_sum]
    · simp only [← EReal.coe_mul, ← coe_sum]
      congr 1
      simp only [Finset.sum_mul]
      exact Finset.sum_congr rfl fun d _ => by ring
  · obtain ⟨d, hd⟩ := not_forall.mp hv
    rw [weight_infinite g v hd]
    exact ⟨0, by simp, fun G => by simp⟩

theorem teacher_eq (e : EReal) (hc : ∀ d, Fin' (c d)) (ht : Fin' t) (hg : Fin' g) (he : Fin' e) (a l : ℝ) :
    ∃ y : ℝ, ((∑ d, c d * v d) * t * weightOf g v - e) * (a : EReal) = (y : EReal) ∧
      (∑ d, v d * (c d * t)) * (weightOf g v * ((a * l : ℝ) : EReal)) - e * ((a * l : ℝ) : EReal) = ((y * l : ℝ) : EReal) := by
  obtain ⟨y, h1, h2⟩ := product_eq v c t g hc ht hg
  obtain ⟨e, rfl⟩ := he.lift
  refine ⟨(y - e) * a, ?_, ?_⟩
  · rw [h1, ← EReal.coe_sub, ← EReal.coe_mul]
  · rw [h2, ← EReal.coe_mul, ← EReal.coe_sub]
    congr 1
    ring

theorem student_eq (hc : ∀ d, Fin' (c d)) (ht : Fin' t) (hg : Fin' g) (a l : ℝ) :
    ∃ y : ℝ, (∑ d, c d * v d) * t * weightOf g v * (a : EReal) = (y : EReal) ∧
      (∑ d, v d * (c d * t)) * (weightOf g v * ((a * l : ℝ) : EReal)) = ((y * l : ℝ) : EReal) := by
  obtain ⟨y, h1, h2⟩ := product_eq v c t g hc ht hg
  refine ⟨y * a, ?_, ?_⟩
  · rw [h1, ← EReal.coe_mul]
  · rw [h2]
    congr 1
    ring

end One

/-! ## All of them -/

variable (tc : FVec Ideal ⟨4, ![2, 3, 256, 512]⟩ .f32) (ts : FVec Ideal ⟨3, ![2, 3, 256]⟩ .f32)
variable (sc : FVec Ideal ⟨4, ![4, 3, 256, 512]⟩ .f32) (ss : FVec Ideal ⟨3, ![4, 3, 256]⟩ .f32)
variable (pc : FVec Ideal ⟨2, ![16384, 512]⟩ .fp8e4m3) (ps : FVec Ideal ⟨2, ![16384, 4]⟩ .f32) (g cen : FVec Ideal ⟨1, ![16384]⟩ .f32)

/-- The reference's teacher logit, -/
def teacherLogit (i : Fin 2) (b : Fin 3) (q : Fin 256) (p : Fin 16384) : EReal :=
  ((∑ d, tc (ix4 i b q d) * proto pc ps p d) * ts (ix3 i b q) * weightOf (gain g p) (proto pc ps p) - cen (ix1 p)) * ((25 : ℝ) : EReal)

/-- and its student logit. -/
def studentLogit (v : Fin 4) (b : Fin 3) (q : Fin 256) (p : Fin 16384) : EReal :=
  (∑ d, sc (ix4 v b q d) * proto pc ps p d) * ss (ix3 v b q) * weightOf (gain g p) (proto pc ps p) * ((10 : ℝ) : EReal)

/-- The kernel's logits, teachers first. -/
def kernelLogit (tg sg : EReal) (b : Fin 3) (q : Fin 256) (p : Fin 16384) (x : Fin 6) : EReal :=
  if h : (x : Nat) < 2 then (∑ d, proto pc ps p d * (tc (ix4 ⟨x, h⟩ b q d) * ts (ix3 ⟨x, h⟩ b q))) * (weightOf (gain g p) (proto pc ps p) * tg)
    - cen (ix1 p) * tg
  else (∑ d, proto pc ps p d * (sc (ix4 ⟨x - 2, by omega⟩ b q d) * ss (ix3 ⟨x - 2, by omega⟩ b q))) * (weightOf (gain g p) (proto pc ps p) * sg)

/-- Every argument the logits need is a real number. -/
structure Reals : Prop where
  tc : ∀ i, Fin' (tc i)
  ts : ∀ i, Fin' (ts i)
  sc : ∀ i, Fin' (sc i)
  ss : ∀ i, Fin' (ss i)
  g : ∀ i, Fin' (g i)
  cen : ∀ i, Fin' (cen i)

variable {tc ts sc ss g cen}

/-- Teachers' numbers and students' numbers, teachers first. -/
def joined (yt : Fin 2 → Fin 3 → Fin 256 → Fin 16384 → ℝ) (ys : Fin 4 → Fin 3 → Fin 256 → Fin 16384 → ℝ) (b : Fin 3) (q : Fin 256)
    (p : Fin 16384) (x : Fin 6) : ℝ := if h : (x : Nat) < 2 then yt ⟨x, h⟩ b q p else ys ⟨x - 2, by omega⟩ b q p

theorem logits_eq (h : Reals tc ts sc ss g cen) : ∃ y : Fin 3 → Fin 256 → Fin 16384 → Fin 6 → ℝ,
    (∀ i b q p, teacherLogit tc ts pc ps g cen i b q p = (y b q p ⟨i, by omega⟩ : EReal)) ∧
    (∀ v b q p, studentLogit sc ss pc ps g v b q p = (y b q p ⟨v + 2, by omega⟩ : EReal)) ∧
    ∀ b q p x, kernelLogit tc ts sc ss pc ps g cen ((25 * (Real.log 2)⁻¹ : ℝ) : EReal) ((10 * (Real.log 2)⁻¹ : ℝ) : EReal) b q p x
      = ((y b q p x * (Real.log 2)⁻¹ : ℝ) : EReal) := by
  choose yt ht using fun (i : Fin 2) b q p => teacher_eq (proto pc ps p) (fun d => tc (ix4 i b q d)) (ts (ix3 i b q)) (gain g p) (cen (ix1 p))
    (fun _ => h.tc _) (h.ts _) (h.g _) (h.cen _) 25 (Real.log 2)⁻¹
  choose ys hs using fun (v : Fin 4) b q p => student_eq (proto pc ps p) (fun d => sc (ix4 v b q d)) (ss (ix3 v b q)) (gain g p)
    (fun _ => h.sc _) (h.ss _) (h.g _) 10 (Real.log 2)⁻¹
  refine ⟨joined yt ys, fun i b q p => ?_, fun v b q p => ?_, fun b q p x => ?_⟩
  · unfold joined
    rw [dif_pos (show ((⟨i, by omega⟩ : Fin 6) : Nat) < 2 from i.2)]
    exact (ht i b q p).1
  · unfold joined
    rw [dif_neg (show ¬((⟨v + 2, by omega⟩ : Fin 6) : Nat) < 2 from by show ¬((v : Nat) + 2 < 2); omega)]
    exact (hs v b q p).1
  · unfold kernelLogit joined
    by_cases hx : (x : Nat) < 2
    · rw [dif_pos hx, dif_pos hx]
      exact (ht _ b q p).2
    · rw [dif_neg hx, dif_neg hx]
      exact (hs _ b q p).2

/-! ## The losses of real logits -/

/-- One row's loss for teacher crop `i` and student crop `v`; none for a crop with itself. -/
def rowLoss (y : Fin 3 → Fin 256 → Fin 16384 → Fin 6 → ℝ) (i : Fin 2) (v : Fin 4) (b : Fin 3) (q : Fin 256) : EReal :=
  if (i : Nat) = v then 0 else ((lossR (fun p => y b q p ⟨i, by omega⟩) (fun p => y b q p ⟨v + 2, by omega⟩) : ℝ) : EReal)

theorem lossRow_scaled (y : Fin 3 → Fin 256 → Fin 16384 → Fin 6 → ℝ) (i : Fin 2) (v : Fin 4) (b : Fin 3) (q : Fin 256) :
    lossRow (fun b q p x => y b q p x * (Real.log 2)⁻¹) i v b q = rowLoss y i v b q := by
  have hl : Real.log 2 ≠ 0 := (Real.log_pos (by norm_num)).ne'
  unfold lossRow rowLoss
  simp only [mul_assoc, inv_mul_cancel₀ hl, mul_one]

/-- The mean of the rows' losses, over `3 · 256` of them. -/
def pairLoss (y : Fin 3 → Fin 256 → Fin 16384 → Fin 6 → ℝ) (i : Fin 2) (v : Fin 4) : EReal :=
  (∑ b, ∑ q, rowLoss y i v b q) * Ideal.ofBits .f32 0x3AAAAAAB#32

/-- The kernel adds the three batch rows first. -/
theorem pairLoss_eq (y : Fin 3 → Fin 256 → Fin 16384 → Fin 6 → ℝ) (i : Fin 2) (v : Fin 4) : pairLoss y i v
    = if (i : Nat) = v then 0 else (∑ q, (0 + rowLoss y i v 0 q + rowLoss y i v 1 q + rowLoss y i v 2 q)) * Ideal.ofBits .f32 0x3AAAAAAB#32 := by
  unfold pairLoss
  by_cases h : (i : Nat) = v
  · rw [if_pos h]
    have e (b q) : rowLoss y i v b q = 0 := by unfold rowLoss; rw [if_pos h]
    simp only [e, Finset.sum_const_zero, zero_mul]
  · rw [if_neg h, Finset.sum_comm]
    refine congrArg (· * _) (Finset.sum_congr rfl fun q _ => ?_)
    rw [Fin.sum_univ_three, zero_add]

end Dino
-- ==== Proof.KernelValue.lean ====
/-
  What the kernel's run leaves in its three result arrays, as functions of the argument arrays: the losses from its scaled
  logits, the batch centre from the averaged features.
-/
module

public import proofs.«01_k».proof.Proof.RunIdeal
public import proofs.«01_k».proof.Proof.Average
public import proofs.«01_k».proof.Proof.Formula
public import proofs.«01_k».proof.Proof.Logit
public import Idealize.ShloMosaic.Lib.Pipeline.ValueKit
public import Idealize.ShloMosaic.Lib.Claim
public import Idealize.ShloMosaic.Lib.Pointwise

@[expose] public section

noncomputable section

namespace Dino.KernelIdeal

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ)

/-- Every window's block index at the one point. -/
theorem idx : ∀ t : Fin cfg0.N, win0_0.index t = ![0, 0, 0, 0] ∧ win0_1.index t = ![0, 0, 0] ∧ win0_2.index t = ![0, 0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0, 0, 0] ∧ win0_9.index t = ![0, 0] ∧ win0_10.index t = ![0, 0] :=
  (by decide +kernel : ∀ t : Fin grid0.N, _)

theorem blk_ts (c : Dev nD) : iblk m c 1 t0_0 = m ((c : Thread nD τ).loc main_arg1) := by
  blk_ext! [iblk, V, idx t0_0]

theorem blk_pc (c : Dev nD) : iblk m c 4 t0_0 = m ((c : Thread nD τ).loc main_arg4) := by
  blk_ext! [iblk, V, idx t0_0]

/-- The codes of the teacher's rows, cast on the host: over the extended reals the argument itself. -/
theorem blk_tc (c : Dev nD) (x : Fin 2) (b : Fin 3) (q : Fin 256) (d : Fin 512) :
    (iblk m c 0 t0_0 : FVec Ideal S2x3x256x512 .fp8e4m3) (ix4 x b q d)
      = (m ((c : Thread nD τ).loc main_arg0) : FVec Ideal S2x3x256x512 .f32) (ix4 x b q d) := by
  blk_point [iblk, V, idx t0_0]

theorem blk_ss (c : Dev nD) : iblk m c 3 t0_0 = m ((c : Thread nD τ).loc main_arg3) := by
  blk_ext! [iblk, V, idx t0_0]

/-- The student's codes likewise. -/
theorem blk_sc (c : Dev nD) (x : Fin 4) (b : Fin 3) (q : Fin 256) (d : Fin 512) :
    (iblk m c 2 t0_0 : FVec Ideal S4x3x256x512 .fp8e4m3) (ix4 x b q d)
      = (m ((c : Thread nD τ).loc main_arg2) : FVec Ideal S4x3x256x512 .f32) (ix4 x b q d) := by
  blk_point [iblk, V, idx t0_0]

/-- The scales of the prototypes, transposed on the host. -/
theorem blk_ps (c : Dev nD) (k : Fin 4) (p : Fin 16384) :
    (iblk m c 5 t0_0 : FVec Ideal S4x16384 .f32) (ix2 k p)
      = (m ((c : Thread nD τ).loc main_arg5) : FVec Ideal S16384x4 .f32) (ix2 p k) := by
  blk_point [iblk, V, idx t0_0]

/-- The gains of the prototypes, reshaped on the host. -/
theorem blk_g (c : Dev nD) (n i : Fin 128) :
    (iblk m c 6 t0_0 : FVec Ideal S128x128 .f32) (ix2 n i)
      = (m ((c : Thread nD τ).loc main_arg6) : FVec Ideal S16384 .f32) (ix1 ⟨128 * n + i, by omega⟩) := by
  blk_point [iblk, V, idx t0_0]

/-- The centre, reshaped on the host. -/
theorem blk_cen (c : Dev nD) (n i : Fin 128) :
    (iblk m c 7 t0_0 : FVec Ideal S128x128 .f32) (ix2 n i)
      = (m ((c : Thread nD τ).loc main_arg7) : FVec Ideal S16384 .f32) (ix1 ⟨128 * n + i, by omega⟩) := by
  blk_point [iblk, V, idx t0_0]

/-! ## The logits -/

theorem t_gain : (Dino.tgE : EReal) = ((25 * (Real.log 2)⁻¹ : ℝ) : EReal) :=
  IdealRules.named_const.ideal_named_scalar _ _ _ _ rfl

theorem s_gain : (Dino.sgE : EReal) = ((10 * (Real.log 2)⁻¹ : ℝ) : EReal) :=
  IdealRules.named_const.ideal_named_scalar _ _ _ _ rfl

theorem vProto_base (c : Dev nD) (p : Fin 16384) :
    vProto (base m c t0_0) p = proto (m ((c : Thread nD τ).loc main_arg4)) (m ((c : Thread nD τ).loc main_arg5)) p := by
  funext d
  exact congrArg₂ (· * ·) (congrFun (blk_pc m c) _) (blk_ps m c _ _)

theorem place_eq (p : Fin 16384) : (⟨128 * (p / 128) + p % 128, by omega⟩ : Fin 16384) = p := Fin.ext (by dsimp only; omega)

theorem wt_base (c : Dev nD) (p : Fin 16384) : wt (base m c t0_0) p
    = weightOf (gain (m ((c : Thread nD τ).loc main_arg6)) p) (proto (m ((c : Thread nD τ).loc main_arg4)) (m ((c : Thread nD τ).loc main_arg5)) p) := by
  unfold wt gain
  rw [vProto_base]
  exact congrArg (weightOf · _) ((blk_g m c _ _).trans (congrArg (fun k => (m ((c : Thread nD τ).loc main_arg6) : FVec Ideal S16384 .f32) (ix1 k)) (place_eq p)))

theorem cen_base (c : Dev nD) (p : Fin 16384) : cenAt (base m c t0_0) p
    = (m ((c : Thread nD τ).loc main_arg7) : FVec Ideal S16384 .f32) (ix1 p) :=
  (blk_cen m c _ _).trans (congrArg (fun k => (m ((c : Thread nD τ).loc main_arg7) : FVec Ideal S16384 .f32) (ix1 k)) (place_eq p))

theorem logit_base (c : Dev nD) (b : Fin 3) (q : Fin 256) (p : Fin 16384) (x : Fin 6) :
    logitOf (base m c t0_0) b q p x
      = kernelLogit (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ((25 * (Real.log 2)⁻¹ : ℝ) : EReal)
          ((10 * (Real.log 2)⁻¹ : ℝ) : EReal) b q p x := by
  unfold logitOf kernelLogit facOf
  dsimp only
  rw [vProto_base, wt_base, cen_base, t_gain, s_gain]
  by_cases h : (x : Nat) < 2
  · rw [if_pos h, dif_pos h]
    refine congrArg (· * _ - _) (Finset.sum_congr rfl fun d _ => congrArg (proto _ _ p d * ·) ?_)
    unfold featOf
    rw [dif_pos h]
    exact congrArg₂ (· * ·) (blk_tc m c _ _ _ _) (congrFun (blk_ts m c) _)
  · rw [if_neg h, dif_neg h]
    refine congrArg (· * _) (Finset.sum_congr rfl fun d _ => congrArg (proto _ _ p d * ·) ?_)
    unfold featOf
    rw [dif_neg h]
    exact congrArg₂ (· * ·) (blk_sc m c _ _ _ _) (congrFun (blk_ss m c) _)

/-! ## The results -/

/-- The batch centre as the kernel computes it. -/
def centre (c : Dev nD) : FVec Ideal S128x128 .f32 := fun j =>
  featuresFirst (m ((c : Thread nD τ).loc main_arg0)) (m ((c : Thread nD τ).loc main_arg1)) (m ((c : Thread nD τ).loc main_arg4))
    (m ((c : Thread nD τ).loc main_arg5)) (m ((c : Thread nD τ).loc main_arg6)) invRows (protoAt (j 0) (j 1))

theorem vProto_eq (c : Dev nD) (p : Fin 16384) :
    vProto (Dino.set (base m c t0_0) .xsum (xsumOf (base m c t0_0) invRows)) p
      = proto (m ((c : Thread nD τ).loc main_arg4)) (m ((c : Thread nD τ).loc main_arg5)) p := by
  funext d
  unfold vProto proto
  rw [set_other _ _ (by decide), set_other _ _ (by decide)]
  exact congrArg₂ (· * ·) (congrFun (blk_pc m c) _) (blk_ps m c _ _)

theorem bcOut_eq (c : Dev nD) : bcOut m c t0_0 = centre m c := by
  funext j
  unfold bcOut centreOf centre featuresFirst
  rw [vProto_eq, set_same, set_other _ _ (by decide)]
  refine congrArg₂ (· * ·) (Finset.sum_congr rfl fun d _ => congrArg _ ?_) (congrArg (weightOf · _) (blk_g m c (j 0) (j 1)))
  refine (xsumOf_apply _ _ _).trans (congrArg (· * (invRows : EReal)) (Finset.sum_congr rfl fun r _ => ?_))
  exact congrArg₂ (· * ·) (congrFun (blk_ts m c) _) (blk_tc m c _ _ _ _)

variable (zr : Dev nD → Dino.Logits)

theorem final_centre (c : Dev nD) : (dats m zr 0 c).arrAt 10 cfg0.N = centre m c := by
  refine (dats m zr 0 c).arrAt_eq_of_after_last 10 t0_0 (by decide +kernel) _ fun j => ?_
  blk_simp
  exact congrFun (bcOut_eq m c) j

theorem final_row (c : Dev nD) : (dats m zr 0 c).arrAt 8 cfg0.N = rowOut (zr c) := by
  refine (dats m zr 0 c).arrAt_eq_of_after_last 8 t0_0 (by decide +kernel) _ fun j => ?_
  blk_simp
  rfl

theorem final_pair (c : Dev nD) : (dats m zr 0 c).arrAt 9 cfg0.N = pairOut (zr c) := by
  refine (dats m zr 0 c).arrAt_eq_of_after_last 9 t0_0 (by decide +kernel) _ fun j => ?_
  blk_simp
  rfl

theorem run (ρ : Dev nD → PrngReg) (hz : ∀ c b q p x, logitOf (base m c t0_0) b q p x = (zr c b q p x : EReal)) :
    θ_run defs (onTc (τ := τ) (main (F := Ideal))) ⟨m, fun _ => 0, ρ⟩ fun r => ∀ c : Dev nD,
      r.2.mem ((c : Thread nD τ).loc main_v5_1) = pairOut (zr c)
      ∧ r.2.mem ((c : Thread nD τ).loc main_v5_0) = rowOut (zr c)
      ∧ r.2.mem ((c : Thread nD τ).loc main_v5_2) = centre m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(((dats m zr 0 c).toRForget_arrAt_iff (fgt := forgets false) (w := 9) rfl _ _).mp ((h.1 c).1 9)).trans (final_pair m zr c),
      (((dats m zr 0 c).toRForget_arrAt_iff (fgt := forgets false) (w := 8) rfl _ _).mp ((h.1 c).1 8)).trans (final_row m zr c),
      (((dats m zr 0 c).toRForget_arrAt_iff (fgt := forgets false) (w := 10) rfl _ _).mp ((h.1 c).1 10)).trans (final_centre m zr c),
      kept h.1 c⟩) (run_main m ρ zr false fun _ c t b q p x => by
    have e : t = t0_0 := Subsingleton.elim (α := Fin 1) t t0_0
    rw [e]
    exact hz c b q p x)

end Dino.KernelIdeal
-- ==== Proof.ReferencePieces.lean ====
/-
  The reference's losses in pieces, index by index: softmax of the teacher, log-softmax of the student, and the sum of their
  product.
-/
module

public import proofs.«01_k».proof.Proof.Gen.ReferenceIdeal.Value
public import Idealize.ShloMosaic.Lib.Pointwise

@[expose] public section

noncomputable section

namespace Dino.ReferenceIdeal

open Cert.ReferenceIdeal Cert.ReferenceIdeal.Gen
open Idealize.ShloMosaic Idealize.ShloMosaic.TcCoe

/-! ## The loss payload in pieces -/

/-- The teacher's logits, -/
def tLog (a : EReal) (v31 : FVec Ideal S2x3x256x16384 .f32) (v45 : Vec Ideal S16384 .f32) : FVec Ideal S2x3x256x16384 .f32 :=
  mulf (subf v31 (broadcastTo S2x3x256x16384 (shapeCast S1x1x1x16384 v45 shapeCasts_S16384_S1x1x1x16384) broadcasts_S1x1x1x16384_S2x3x256x16384))
    (broadcast (α := Ideal .f32) S2x3x256x16384 a)

/-- less their maximum, -/
def tMax (x : FVec Ideal S2x3x256x16384 .f32) : FVec Ideal S2x3x256 .f32 :=
  maximumf (broadcast S2x3x256 (Scalar.ofBits .f32 0xFF800000#32))
    (multiReduction .maximumf [3] S2x3x256 x 0xFF800000#32 reduces_S2x3x256x16384_S2x3x256 (.inl rfl) rfl)
def tShift (x : FVec Ideal S2x3x256x16384 .f32) (M : FVec Ideal S2x3x256 .f32) : FVec Ideal S2x3x256x16384 .f32 :=
  subf x (broadcastTo S2x3x256x16384 (shapeCast S2x3x256x1 M shapeCasts_S2x3x256_S2x3x256x1) broadcasts_S2x3x256x1_S2x3x256x16384)

/-- as probabilities. -/
def tProb (x : FVec Ideal S2x3x256x16384 .f32) : FVec Ideal S2x3x256x16384 .f32 :=
  divf (exp x) (broadcastTo S2x3x256x16384 (shapeCast S2x3x256x1
    (multiReduction .add [3] S2x3x256 (exp x) 0x00000000#32 reduces_S2x3x256x16384_S2x3x256 (.inl rfl) rfl)
      shapeCasts_S2x3x256_S2x3x256x1) broadcasts_S2x3x256x1_S2x3x256x16384)

/-- The student's logits, -/
def sLog (a : EReal) (v18 : FVec Ideal S16384 .f32) (v37 : FVec Ideal S4x3x256x16384 .f32) (v38 : Vec Ideal S4x3x256 .f32) : FVec Ideal S4x3x256x16384 .f32 :=
  mulf (mulf (mulf v37 (broadcastTo S4x3x256x16384 (shapeCast S4x3x256x1 v38 shapeCasts_S4x3x256_S4x3x256x1) broadcasts_S4x3x256x1_S4x3x256x16384))
    (broadcastTo S4x3x256x16384 (shapeCast S1x1x1x16384 v18 shapeCasts_S16384_S1x1x1x16384) broadcasts_S1x1x1x16384_S4x3x256x16384))
    (broadcast (α := Ideal .f32) S4x3x256x16384 a)

/-- less their maximum, -/
def sMax (x : FVec Ideal S4x3x256x16384 .f32) : FVec Ideal S4x3x256 .f32 :=
  maximumf (broadcast S4x3x256 (Scalar.ofBits .f32 0xFF800000#32))
    (multiReduction .maximumf [3] S4x3x256 x 0xFF800000#32 reduces_S4x3x256x16384_S4x3x256 (.inl rfl) rfl)
def sShift (x : FVec Ideal S4x3x256x16384 .f32) (M : FVec Ideal S4x3x256 .f32) : FVec Ideal S4x3x256x16384 .f32 :=
  subf x (broadcastTo S4x3x256x16384 (shapeCast S4x3x256x1 M shapeCasts_S4x3x256_S4x3x256x1) broadcasts_S4x3x256x1_S4x3x256x16384)

/-- as logarithms of probabilities. -/
def sLogProb (x : FVec Ideal S4x3x256x16384 .f32) : FVec Ideal S4x3x256x16384 .f32 :=
  subf x (broadcastTo S4x3x256x16384 (log (shapeCast S4x3x256x1
    (multiReduction .add [3] S4x3x256 (exp x) 0x00000000#32 reduces_S4x3x256x16384_S4x3x256 (.inl rfl) rfl)
      shapeCasts_S4x3x256_S4x3x256x1)) broadcasts_S4x3x256x1_S4x3x256x16384)

/-- The negated sum of their products. -/
def cross (x : FVec Ideal S2x3x256x16384 .f32) (y : FVec Ideal S4x3x256x16384 .f32) : FVec Ideal S2x4x3x256 .f32 :=
  subf (broadcast S2x4x3x256 (Scalar.ofBits .f32 0x00000000#32)) (multiReduction .add [4] S2x4x3x256
    (mulf (broadcastTo S2x4x3x256x16384 (shapeCast S2x1x3x256x16384 x shapeCasts_S2x3x256x16384_S2x1x3x256x16384) broadcasts_S2x1x3x256x16384_S2x4x3x256x16384)
      (broadcastTo S2x4x3x256x16384 (shapeCast S1x4x3x256x16384 y shapeCasts_S4x3x256x16384_S1x4x3x256x16384) broadcasts_S1x4x3x256x16384_S2x4x3x256x16384))
    0x00000000#32 reduces_S2x4x3x256x16384_S2x4x3x256 (.inl rfl) rfl)

theorem pay8_eq (v18 : FVec Ideal S16384 .f32) (v31 : FVec Ideal S2x3x256x16384 .f32) (v37 : FVec Ideal S4x3x256x16384 .f32)
    (v38 : Vec Ideal S4x3x256 .f32) (v45 : Vec Ideal S16384 .f32) :
    k0_pay8 (F := Ideal) v18 v31 v37 v38 v45
      = cross (tProb (tShift (tLog (Ideal.ofBits .f32 0x41C80000#32) v31 v45) (tMax (tLog (Ideal.ofBits .f32 0x41C80000#32) v31 v45))))
          (sLogProb (sShift (sLog (Ideal.ofBits .f32 0x41200000#32) v18 v37 v38) (sMax (sLog (Ideal.ofBits .f32 0x41200000#32) v18 v37 v38)))) := rfl

theorem twentyfive : Ideal.ofBits .f32 0x41C80000#32 = ((25 : ℝ) : EReal) := by
  simp [Ideal.ofBits, Ideal.ieee]
  rw [← EReal.coe_mul]
  norm_num

theorem ten : Ideal.ofBits .f32 0x41200000#32 = ((10 : ℝ) : EReal) := by
  simp [Ideal.ofBits, Ideal.ieee]
  rw [← EReal.coe_mul]
  norm_num

/-! ## Each piece at an index -/

variable (i : Fin 2) (v : Fin 4) (b : Fin 3) (q : Fin 256) (p : Fin 16384)

theorem tLog_apply (a : EReal) (v31 : FVec Ideal S2x3x256x16384 .f32) (v45 : Vec Ideal S16384 .f32) :
    tLog a v31 v45 (ix4 i b q p) = (v31 (ix4 i b q p) - v45 (ix1 p)) * a := by
  pointwise [tLog]

theorem tShift_apply (x : FVec Ideal S2x3x256x16384 .f32) (M : FVec Ideal S2x3x256 .f32) :
    tShift x M (ix4 i b q p) = x (ix4 i b q p) - M (ix3 i b q) := by
  pointwise [tShift]

theorem tProb_apply (x : FVec Ideal S2x3x256x16384 .f32) :
    tProb x (ix4 i b q p) = Ideal.div (Ideal.exp (x (ix4 i b q p))) (∑ p, Ideal.exp (x (ix4 i b q p))) := by
  pointwise [tProb]

theorem sLog_apply (a : EReal) (v18 : FVec Ideal S16384 .f32) (v37 : FVec Ideal S4x3x256x16384 .f32) (v38 : Vec Ideal S4x3x256 .f32) :
    sLog a v18 v37 v38 (ix4 v b q p) = v37 (ix4 v b q p) * v38 (ix3 v b q) * v18 (ix1 p) * a := by
  pointwise [sLog]

theorem sShift_apply (x : FVec Ideal S4x3x256x16384 .f32) (M : FVec Ideal S4x3x256 .f32) :
    sShift x M (ix4 v b q p) = x (ix4 v b q p) - M (ix3 v b q) := by
  pointwise [sShift]

theorem sLogProb_apply (x : FVec Ideal S4x3x256x16384 .f32) :
    sLogProb x (ix4 v b q p) = x (ix4 v b q p) - Ideal.log (∑ p, Ideal.exp (x (ix4 v b q p))) := by
  pointwise [sLogProb]

theorem cross_apply (x : FVec Ideal S2x3x256x16384 .f32) (y : FVec Ideal S4x3x256x16384 .f32) :
    cross x y (ix4 i v b q) = 0 - ∑ p, x (ix4 i b q p) * y (ix4 v b q p) := by
  pointwise [cross]

end Dino.ReferenceIdeal
-- ==== Proof.ReferenceLoss.lean ====
/-
  The reference's losses.
  On real logits they are the losses of `Proof/LossValue.lean`.
-/
module

public import proofs.«01_k».proof.Proof.ReferencePieces
public import proofs.«01_k».proof.Proof.LossValue

@[expose] public section

noncomputable section

namespace Dino.ReferenceIdeal

open Cert.ReferenceIdeal Cert.ReferenceIdeal.Gen
open Idealize.ShloMosaic Idealize.ShloMosaic.TcCoe

variable (i : Fin 2) (v : Fin 4) (b : Fin 3) (q : Fin 256) (p : Fin 16384)

/-! ## On real logits -/

theorem softmax_loss (yi yv : Fin 16384 → ℝ) (M N : ℝ) :
    0 - ∑ p, Real.exp (yi p - M) / (∑ x, Real.exp (yi x - M)) * (yv p - N - Real.log (∑ x, Real.exp (yv x - N))) = lossR yi yv := by
  have hi : (0 : ℝ) < ∑ p, Real.exp (yi p) := Finset.sum_pos (fun p _ => Real.exp_pos _) ⟨0, Finset.mem_univ _⟩
  have hv : (0 : ℝ) < ∑ p, Real.exp (yv p) := Finset.sum_pos (fun p _ => Real.exp_pos _) ⟨0, Finset.mem_univ _⟩
  have e (y : Fin 16384 → ℝ) (K : ℝ) : ∑ x, Real.exp (y x - K) = (∑ x, Real.exp (y x)) / Real.exp K := by
    rw [Finset.sum_div]
    exact Finset.sum_congr rfl fun x _ => Real.exp_sub _ _
  rw [e, e, Real.log_div hv.ne' (Real.exp_ne_zero _), Real.log_exp]
  unfold lossR
  have h (p : Fin 16384) : Real.exp (yi p - M) / ((∑ x, Real.exp (yi x)) / Real.exp M) * (yv p - N - (Real.log (∑ x, Real.exp (yv x)) - N))
      = (Real.exp (yi p) * yv p) / (∑ x, Real.exp (yi x)) - Real.exp (yi p) / (∑ x, Real.exp (yi x)) * Real.log (∑ x, Real.exp (yv x)) := by
    rw [Real.exp_sub]
    have := Real.exp_ne_zero M
    field_simp
    ring
  rw [Finset.sum_congr rfl fun p _ => h p, Finset.sum_sub_distrib, ← Finset.sum_div, ← Finset.sum_mul, ← Finset.sum_div, div_self hi.ne']
  ring

/-- The maximum of real numbers along the last axis is a real number. -/
theorem max_real {n0 n1 n2 n3 : Nat} [Nonempty (Fin n3)] {t : Shape} (x : FVec Ideal ⟨4, ![n0, n1, n2, n3]⟩ .f32) (hx : ∀ k, ∃ r : ℝ, x k = (r : EReal))
    (h : (⟨4, ![n0, n1, n2, n3]⟩ : Shape).Reduces [3] t) (hφ : FKind.Formats .f32) (hacc : 0xFF800000#32 = FKind.maximumf.neutral .f32 hφ)
    (j : t.Idx) : ∃ R : ℝ, max (Ideal.ofBits .f32 0xFF800000#32) (multiReduction (F := Ideal) .maximumf [3] t x 0xFF800000#32 h hφ hacc j : EReal) = (R : EReal) := by
  choose f hf using hx
  obtain rfl : x = fun k => (f k : EReal) := funext hf
  rw [multiReduction_maximumf_eq_fold, h.fold_fiber_r4_a3]
  obtain ⟨R, e⟩ := sup_real fun k : Fin n3 => f (ix4 ⟨(j ⟨0, h.lt_r4_a3_0⟩).val, Shape.coordLt (j ⟨0, h.lt_r4_a3_0⟩) h.size_r4_a3_0⟩
    ⟨(j ⟨1, h.lt_r4_a3_1⟩).val, Shape.coordLt (j ⟨1, h.lt_r4_a3_1⟩) h.size_r4_a3_1⟩
    ⟨(j ⟨2, h.lt_r4_a3_2⟩).val, Shape.coordLt (j ⟨2, h.lt_r4_a3_2⟩) h.size_r4_a3_2⟩ k)
  refine ⟨R, (congrArg (max _) ((congrArg (fun z => Finset.fold max z _ Finset.univ) bot_lit).trans e)).trans ?_⟩
  rw [bot_lit]
  exact max_eq_right bot_le

theorem maxTop (s : Shape) (w : FVec Ideal s .f32) (j : s.Idx) :
    maximumf (broadcast s (Scalar.ofBits .f32 0xFF800000#32)) w j = max (Ideal.ofBits .f32 0xFF800000#32) (w j : EReal) := rfl

theorem tMax_real (x : FVec Ideal S2x3x256x16384 .f32) (hx : ∀ k, ∃ r : ℝ, x k = (r : EReal)) (j : S2x3x256.Idx) :
    ∃ R : ℝ, tMax x j = (R : EReal) := by
  unfold tMax
  rw [maxTop]
  exact max_real x hx reduces_S2x3x256x16384_S2x3x256 (.inl rfl) rfl j

theorem sMax_real (x : FVec Ideal S4x3x256x16384 .f32) (hx : ∀ k, ∃ r : ℝ, x k = (r : EReal)) (j : S4x3x256.Idx) :
    ∃ R : ℝ, sMax x j = (R : EReal) := by
  unfold sMax
  rw [maxTop]
  exact max_real x hx reduces_S4x3x256x16384_S4x3x256 (.inl rfl) rfl j

theorem pay8_real (v18 : FVec Ideal S16384 .f32) (v31 : FVec Ideal S2x3x256x16384 .f32) (v37 : FVec Ideal S4x3x256x16384 .f32)
    (v38 : Vec Ideal S4x3x256 .f32) (v45 : Vec Ideal S16384 .f32) (y : Fin 3 → Fin 256 → Fin 16384 → Fin 6 → ℝ)
    (hi : ∀ i b q p, (v31 (ix4 i b q p) - v45 (ix1 p)) * ((25 : ℝ) : EReal) = (y b q p ⟨i, by omega⟩ : EReal))
    (hv : ∀ v b q p, v37 (ix4 v b q p) * v38 (ix3 v b q) * v18 (ix1 p) * ((10 : ℝ) : EReal) = (y b q p ⟨v + 2, by omega⟩ : EReal)) :
    k0_pay8 (F := Ideal) v18 v31 v37 v38 v45 (ix4 i v b q)
      = ((lossR (fun p => y b q p ⟨i, by omega⟩) (fun p => y b q p ⟨v + 2, by omega⟩) : ℝ) : EReal) := by
  rw [pay8_eq]
  generalize hx : tLog (Ideal.ofBits .f32 0x41C80000#32) v31 v45 = x
  generalize hz : sLog (Ideal.ofBits .f32 0x41200000#32) v18 v37 v38 = z
  have ht (i b q p) : x (ix4 i b q p) = (y b q p ⟨i, by omega⟩ : EReal) := by
    rw [← hx, tLog_apply, twentyfive]; exact hi i b q p
  have hs (v b q p) : z (ix4 v b q p) = (y b q p ⟨v + 2, by omega⟩ : EReal) := by
    rw [← hz, sLog_apply, ten]; exact hv v b q p
  obtain ⟨M, hM⟩ := tMax_real x (fun k => ⟨_, (congrArg x (ValueIdx.eq_ix4 k)).trans (ht _ _ _ _)⟩) (ix3 i b q)
  obtain ⟨N, hN⟩ := sMax_real z (fun k => ⟨_, (congrArg z (ValueIdx.eq_ix4 k)).trans (hs _ _ _ _)⟩) (ix3 v b q)
  generalize hyi : (fun p => y b q p ⟨i, by omega⟩) = yi
  generalize hyv : (fun p => y b q p ⟨v + 2, by omega⟩) = yv
  have ht' (p) : tShift x (tMax x) (ix4 i b q p) = ((yi p - M : ℝ) : EReal) := by
    rw [tShift_apply, ht, hM, EReal.coe_sub, ← hyi]
  have hs' (p) : sShift z (sMax z) (ix4 v b q p) = ((yv p - N : ℝ) : EReal) := by
    rw [sShift_apply, hs, hN, EReal.coe_sub, ← hyv]
  generalize tShift x (tMax x) = x' at ht' ⊢
  generalize sShift z (sMax z) = z' at hs' ⊢
  have et (p) : Ideal.exp (x' (ix4 i b q p)) = ((Real.exp (yi p - M) : ℝ) : EReal) := by rw [ht']; rfl
  have es (p) : Ideal.exp (z' (ix4 v b q p)) = ((Real.exp (yv p - N) : ℝ) : EReal) := by rw [hs']; rfl
  have pi : (0 : ℝ) < ∑ p, Real.exp (yi p - M) := Finset.sum_pos (fun p _ => Real.exp_pos _) ⟨0, Finset.mem_univ _⟩
  have pv : (0 : ℝ) < ∑ p, Real.exp (yv p - N) := Finset.sum_pos (fun p _ => Real.exp_pos _) ⟨0, Finset.mem_univ _⟩
  have ht2 (p) : tProb x' (ix4 i b q p) = ((Real.exp (yi p - M) / ∑ x, Real.exp (yi x - M) : ℝ) : EReal) := by
    rw [tProb_apply, et, Finset.sum_congr rfl fun p _ => et p, ← coe_sum, div_real _ pi.ne']
  have hs2 (p) : sLogProb z' (ix4 v b q p) = ((yv p - N - Real.log (∑ x, Real.exp (yv x - N)) : ℝ) : EReal) := by
    rw [sLogProb_apply, hs', Finset.sum_congr rfl fun p _ => es p, ← coe_sum, log_real pv, ← EReal.coe_sub]
  rw [cross_apply, Finset.sum_congr rfl fun p _ => congrArg₂ (· * ·) (ht2 p) (hs2 p), ← softmax_loss yi yv M N, EReal.coe_sub, coe_sum]
  simp only [EReal.coe_mul, EReal.coe_zero]

end Dino.ReferenceIdeal
-- ==== Proof.ReferenceValue.lean ====
/-
  What the reference computes, index by index: the mean over the 1536 rows of the weighted products, and the losses.
-/
module

public import proofs.«01_k».proof.Proof.Gen.ReferenceIdeal.Value
public import proofs.«01_k».proof.Proof.Formula
public import proofs.«01_k».proof.Proof.Logit
public import proofs.«01_k».proof.Proof.ReferenceLoss
public import Idealize.ShloMosaic.Lib.Pipeline.ValueKit
public import Idealize.ShloMosaic.Lib.Claim
public import Idealize.ShloMosaic.Lib.Pointwise

@[expose] public section

noncomputable section

namespace Dino.ReferenceIdeal

open Cert.ReferenceIdeal Cert.ReferenceIdeal.Gen
open Idealize.ShloMosaic Idealize.ShloMosaic.TcCoe
open Idealize.SL.Sem
open Idealize.ShloMosaic.Pipeline (Dat)

/-! ## The payload at an index -/

theorem rows : Ideal.ofBits .f32 0x44C00000#32 = ((1536 : ℝ) : EReal) := by
  simp [Ideal.ofBits, Ideal.ieee]
  rw [← EReal.coe_mul]
  norm_num

theorem length_eq (v : Fin 512 → EReal) :
    (if 0 < Ideal.sqrt (∑ d, v d * v d) then Ideal.sqrt (∑ d, v d * v d) else 1) = length v := by
  unfold length Scalar.select Ideal.cmp
  by_cases h : 0 < Ideal.sqrt (∑ d, v d * v d) <;> simp [h]

/-- A prototype's weight. -/
theorem weight_apply (v0 : Vec Ideal S16384x512 .fp8e4m3) (v3 : Vec Ideal S16384x4 .f32) (v13 : Vec Ideal S16384 .f32) (p : Fin 16384) :
    k0_pay5 (F := Ideal) v0 v3 v13 (ix1 p) = weightOf (gain v13 p) (proto v0 v3 p) := by
  pointwise [k0_pay5, k0_pay4]
  exact congrArg (fun x => Ideal.div _ x) (length_eq (proto v0 v3 p))

/-- A teacher row's weighted product with a prototype, -/
theorem teacher_apply (v0 : Vec Ideal S16384x512 .fp8e4m3) (v3 : Vec Ideal S16384x4 .f32) (v13 : Vec Ideal S16384 .f32)
    (v19 : Vec Ideal S2x3x256x512 .fp8e4m3) (v25 : Vec Ideal S2x3x256 .f32) (i : Fin 2) (b : Fin 3) (q : Fin 256) (p : Fin 16384) :
    k0_pay6 (F := Ideal) v0 v3 v13 v19 v25 (ix4 i b q p)
      = (∑ d, v19 (ix4 i b q d) * proto v0 v3 p d) * v25 (ix3 i b q) * weightOf (gain v13 p) (proto v0 v3 p) := by
  rw [← weight_apply]
  pointwise [k0_pay6, k0_pay4]
  rfl

/-- and a student row's product. -/
theorem student_apply (v0 : Vec Ideal S16384x512 .fp8e4m3) (v3 : Vec Ideal S16384x4 .f32) (v32 : Vec Ideal S4x3x256x512 .fp8e4m3)
    (v : Fin 4) (b : Fin 3) (q : Fin 256) (p : Fin 16384) :
    k0_pay7 (F := Ideal) v0 v3 v32 (ix4 v b q p) = ∑ d, v32 (ix4 v b q d) * proto v0 v3 p d := by
  pointwise [k0_pay7, k0_pay4]
  rfl

theorem sum_rows (v : S2x3x256x16384.Idx → EReal) (p : Fin 16384) :
    Ideal.reduceAdd reduces_S2x3x256x16384_S16384 v (ix1 p) = ∑ r : Row, v (ix4 r.1.1 r.1.2 r.2 p) :=
  Finset.sum_filter_eq_sum_of_fiber _ (fun r : Row => (ix4 r.1.1 r.1.2 r.2 p : S2x3x256x16384.Idx))
    (fun _ _ e => Prod.ext (Prod.ext (congrFun e 0) (congrFun e 1)) (congrFun e 2)) (fun i => by
      constructor
      · intro e
        refine ⟨((i 0, i 1), i 2), ?_⟩
        funext a
        apply Fin.ext
        match a with
        | ⟨0, _⟩ => rfl
        | ⟨1, _⟩ => rfl
        | ⟨2, _⟩ => rfl
        | ⟨3, _⟩ => exact (congrArg Fin.val (congrFun e 0)).symm
      · rintro ⟨r, rfl⟩
        funext b
        apply Fin.ext
        match b with
        | ⟨0, _⟩ => rfl) v

theorem mean_apply (v31 : FVec Ideal S2x3x256x16384 .f32) (n i : Fin 128) :
    k0_pay3 (F := Ideal) v31 (ix2 n i) = Ideal.div (∑ r : Row, v31 (ix4 r.1.1 r.1.2 r.2 (protoAt n i))) ((1536 : ℝ) : EReal) := by
  have hp : protoAt n i = ⟨(n : Nat) * 128 + i, by omega⟩ := Fin.ext (by unfold protoAt; dsimp only; omega)
  rw [hp]
  pointwise [k0_pay3]
  rw [rows, sum_rows]

theorem diag : ∀ (i : Fin 2) (v : Fin 4), IntOp.cmpi .eq (BitVec.ofNat 32 i) (BitVec.ofNat 32 v) = if (i : Nat) = v then 1#1 else 0#1 := by
  decide

theorem row_apply (v83 : FVec Ideal S2x4x3x256 .f32) (i : Fin 2) (v : Fin 4) (b : Fin 3) (q : Fin 256) :
    k0_pay1 (F := Ideal) v83 (iota .tc S2x4x3x256 32 [0] iota_S2x4x3x256_d0_w32) (ix4 i v b q) = if (i : Nat) = v then 0 else v83 (ix4 i v b q) := by
  pointwise [k0_pay1]
  rw [diag]
  by_cases h : (i : Nat) = v
  · rw [if_pos h, if_pos h]
    rfl
  · rw [if_neg h, if_neg h]
    rfl

theorem pair_apply (v83 : FVec Ideal S2x4x3x256 .f32) (v84 : IVec S2x4x3x256 32) (i : Fin 2) (v : Fin 4) :
    k0_pay2 (F := Ideal) v83 v84 (ix2 i v) = (∑ b, ∑ q, k0_pay1 (F := Ideal) v83 v84 (ix4 i v b q)) * Ideal.ofBits .f32 0x3AAAAAAB#32 := by
  pointwise [k0_pay2]

/-- The place of teacher crop `i`, and of student crop `v`, among the six crops. -/
abbrev tAt (i : Fin 2) : Fin 6 := ⟨i, by omega⟩
abbrev sAt (v : Fin 4) : Fin 6 := ⟨v + 2, by omega⟩

section Real

variable (v0 : Vec Ideal S16384x512 .fp8e4m3) (v3 : Vec Ideal S16384x4 .f32) (v13 : Vec Ideal S16384 .f32)
variable (v19 : Vec Ideal S2x3x256x512 .fp8e4m3) (v25 : Vec Ideal S2x3x256 .f32) (v32 : Vec Ideal S4x3x256x512 .fp8e4m3)
variable (v38 : Vec Ideal S4x3x256 .f32) (v45 : Vec Ideal S16384 .f32)

/-- The reference's losses off the diagonal. -/
abbrev losses : FVec Ideal S2x4x3x256 .f32 :=
  k0_pay8 (F := Ideal) (k0_pay5 v0 v3 v13) (k0_pay6 v0 v3 v13 v19 v25) (k0_pay7 v0 v3 v32) v38 v45

abbrev place : IVec S2x4x3x256 32 := iota .tc S2x4x3x256 32 [0] iota_S2x4x3x256_d0_w32

variable {v0 v3 v13 v19 v25 v32 v38 v45} {y : Fin 3 → Fin 256 → Fin 16384 → Fin 6 → ℝ}
variable (ht : ∀ i b q p, teacherLogit v19 v25 v0 v3 v13 v45 i b q p = (y b q p (tAt i) : EReal))
variable (hs : ∀ v b q p, studentLogit v32 v38 v0 v3 v13 v b q p = (y b q p (sAt v) : EReal))
include ht hs

theorem row_real (i : Fin 2) (v : Fin 4) (b : Fin 3) (q : Fin 256) :
    k0_pay1 (F := Ideal) (losses v0 v3 v13 v19 v25 v32 v38 v45) place (ix4 i v b q) = rowLoss y i v b q := by
  rw [row_apply]
  unfold rowLoss
  refine congrArg (ite _ 0) (pay8_real i v b q _ _ _ _ _ y (fun i b q p => ?_) fun v b q p => ?_)
  · rw [teacher_apply]
    exact ht i b q p
  · rw [student_apply, weight_apply]
    exact hs v b q p

theorem pair_real (i : Fin 2) (v : Fin 4) :
    k0_pay2 (F := Ideal) (losses v0 v3 v13 v19 v25 v32 v38 v45) place (ix2 i v) = pairLoss y i v := by
  rw [pair_apply]
  exact congrArg (· * _) (Finset.sum_congr rfl fun b _ => Finset.sum_congr rfl fun q _ => row_real ht hs i v b q)

end Real

theorem centre_apply (v0 : Vec Ideal S16384x512 .fp8e4m3) (v3 : Vec Ideal S16384x4 .f32) (v13 : Vec Ideal S16384 .f32)
    (v19 : Vec Ideal S2x3x256x512 .fp8e4m3) (v25 : Vec Ideal S2x3x256 .f32) (n i : Fin 128) :
    k0_pay3 (F := Ideal) (k0_pay6 v0 v3 v13 v19 v25) (ix2 n i) = productsFirst v19 v25 v0 v3 v13 (protoAt n i) := by
  rw [mean_apply]
  exact congrArg (Ideal.div · _) (Finset.sum_congr rfl fun r _ => teacher_apply _ _ _ _ _ _ _ _ _)

/-! ## The result arrays -/

variable (m : (ℓ : Loc nD τ sig) → Buf (Elt Ideal) ℓ)

theorem idx : ∀ t : Fin cfg0.N, win0_0.index t = ![0, 0, 0, 0] ∧ win0_1.index t = ![0, 0, 0] ∧ win0_2.index t = ![0, 0, 0, 0]
    ∧ win0_3.index t = ![0, 0, 0] ∧ win0_4.index t = ![0, 0] ∧ win0_5.index t = ![0, 0] ∧ win0_6.index t = ![0] ∧ win0_7.index t = ![0]
    ∧ win0_8.index t = ![0, 0] ∧ win0_9.index t = ![0, 0, 0, 0] ∧ win0_10.index t = ![0, 0] :=
  (by decide +kernel : ∀ t : Fin grid0.N, _)

theorem blk_ts (c : Dev nD) : iblk m c 1 t0_0 = m ((c : Thread nD τ).loc main_arg1) := by
  blk_ext! [iblk, V, idx t0_0]

theorem blk_ss (c : Dev nD) : iblk m c 3 t0_0 = m ((c : Thread nD τ).loc main_arg3) := by
  blk_ext! [iblk, V, idx t0_0]

theorem blk_pc (c : Dev nD) : iblk m c 4 t0_0 = m ((c : Thread nD τ).loc main_arg4) := by
  blk_ext! [iblk, V, idx t0_0]

theorem blk_ps (c : Dev nD) : iblk m c 5 t0_0 = m ((c : Thread nD τ).loc main_arg5) := by
  blk_ext! [iblk, V, idx t0_0]

theorem blk_g (c : Dev nD) : iblk m c 6 t0_0 = m ((c : Thread nD τ).loc main_arg6) := by
  blk_ext! [iblk, V, idx t0_0]

theorem blk_cen (c : Dev nD) : iblk m c 7 t0_0 = m ((c : Thread nD τ).loc main_arg7) := by
  blk_ext! [iblk, V, idx t0_0]

/-- The codes of the teacher's rows, cast on the host: over the extended reals the argument itself. -/
theorem blk_tc (c : Dev nD) (x : Fin 2) (b : Fin 3) (q : Fin 256) (d : Fin 512) :
    (iblk m c 0 t0_0 : FVec Ideal S2x3x256x512 .fp8e4m3) (ix4 x b q d)
      = (m ((c : Thread nD τ).loc main_arg0) : FVec Ideal S2x3x256x512 .f32) (ix4 x b q d) := by
  blk_point [iblk, V, idx t0_0]

/-- So are the student's. -/
theorem blk_sc (c : Dev nD) (x : Fin 4) (b : Fin 3) (q : Fin 256) (d : Fin 512) :
    (iblk m c 2 t0_0 : FVec Ideal S4x3x256x512 .fp8e4m3) (ix4 x b q d)
      = (m ((c : Thread nD τ).loc main_arg2) : FVec Ideal S4x3x256x512 .f32) (ix4 x b q d) := by
  blk_point [iblk, V, idx t0_0]

theorem final_pair (c : Dev nD) (j : S2x4.Idx) : (dats m 0 c).arrAt 8 cfg0.N j
    = k0_pay2 (F := Ideal) (losses (iblk m c 4 t0_0) (iblk m c 5 t0_0) (iblk m c 6 t0_0) (iblk m c 0 t0_0) (iblk m c 1 t0_0)
        (iblk m c 2 t0_0) (iblk m c 3 t0_0) (iblk m c 7 t0_0)) place j := by
  revert j
  refine congrFun ((dats m 0 c).arrAt_eq_of_after_last 8 t0_0 (by decide +kernel) _ fun j => ?_)
  blk_simp
  rw [after0_8]
  frame_out
  unfold k0_pay11 k0_pay10 k0_pay9
  frame_out

theorem final_row (c : Dev nD) (j : S2x4x3x256.Idx) : (dats m 0 c).arrAt 9 cfg0.N j
    = k0_pay1 (F := Ideal) (losses (iblk m c 4 t0_0) (iblk m c 5 t0_0) (iblk m c 6 t0_0) (iblk m c 0 t0_0) (iblk m c 1 t0_0)
        (iblk m c 2 t0_0) (iblk m c 3 t0_0) (iblk m c 7 t0_0)) place j := by
  revert j
  refine congrFun ((dats m 0 c).arrAt_eq_of_after_last 9 t0_0 (by decide +kernel) _ fun j => ?_)
  blk_simp
  rw [after0_9]
  frame_out
  unfold k0_pay11 k0_pay10 k0_pay9
  frame_out

theorem final_centre (c : Dev nD) (j : S128x128.Idx) : (dats m 0 c).arrAt 10 cfg0.N j
    = k0_pay3 (F := Ideal) (k0_pay6 (iblk m c 4 t0_0) (iblk m c 5 t0_0) (iblk m c 6 t0_0) (iblk m c 0 t0_0) (iblk m c 1 t0_0)) j := by
  revert j
  refine congrFun ((dats m 0 c).arrAt_eq_of_after_last 10 t0_0 (by decide +kernel) _ fun j => ?_)
  blk_simp
  rw [after0_10]
  frame_out
  unfold k0_pay9
  frame_out

theorem centre_value (c : Dev nD) (n i : Fin 128) :
    ((dats m 0 c).arrAt 10 cfg0.N : FVec Ideal S128x128 .f32) (ix2 n i)
      = productsFirst (m ((c : Thread nD τ).loc main_arg0)) (m ((c : Thread nD τ).loc main_arg1)) (m ((c : Thread nD τ).loc main_arg4))
          (m ((c : Thread nD τ).loc main_arg5)) (m ((c : Thread nD τ).loc main_arg6)) (protoAt n i) := by
  refine (final_centre m c _).trans ((centre_apply _ _ _ _ _ n i).trans ?_)
  rw [blk_pc, blk_ps, blk_g, blk_ts]
  unfold productsFirst
  refine congrArg (Ideal.div · _) (Finset.sum_congr rfl fun r _ => congrArg (· * _ * _) (Finset.sum_congr rfl fun d _ => ?_))
  exact congrArg (· * _) (blk_tc m c _ _ _ _)

section Losses

variable (c : Dev nD) (y : Fin 3 → Fin 256 → Fin 16384 → Fin 6 → ℝ)
variable (ht : ∀ i b q p, teacherLogit (m ((c : Thread nD τ).loc main_arg0)) (m ((c : Thread nD τ).loc main_arg1))
  (m ((c : Thread nD τ).loc main_arg4)) (m ((c : Thread nD τ).loc main_arg5)) (m ((c : Thread nD τ).loc main_arg6))
  (m ((c : Thread nD τ).loc main_arg7)) i b q p = (y b q p (tAt i) : EReal))
variable (hs : ∀ v b q p, studentLogit (m ((c : Thread nD τ).loc main_arg2)) (m ((c : Thread nD τ).loc main_arg3))
  (m ((c : Thread nD τ).loc main_arg4)) (m ((c : Thread nD τ).loc main_arg5)) (m ((c : Thread nD τ).loc main_arg6))
  v b q p = (y b q p (sAt v) : EReal))

include ht in
theorem teacher_blk (i : Fin 2) (b : Fin 3) (q : Fin 256) (p : Fin 16384) : teacherLogit (iblk m c 0 t0_0) (iblk m c 1 t0_0) (iblk m c 4 t0_0)
    (iblk m c 5 t0_0) (iblk m c 6 t0_0) (iblk m c 7 t0_0) i b q p = (y b q p (tAt i) : EReal) := by
  rw [← ht, blk_pc, blk_ps, blk_g, blk_ts, blk_cen]
  unfold teacherLogit
  exact congrArg (fun x => (x * _ * _ - _) * _) (Finset.sum_congr rfl fun d _ => congrArg (· * _) (blk_tc m c _ _ _ _))

include hs in
theorem student_blk (v : Fin 4) (b : Fin 3) (q : Fin 256) (p : Fin 16384) : studentLogit (iblk m c 2 t0_0) (iblk m c 3 t0_0) (iblk m c 4 t0_0)
    (iblk m c 5 t0_0) (iblk m c 6 t0_0) v b q p = (y b q p (sAt v) : EReal) := by
  rw [← hs, blk_pc, blk_ps, blk_g, blk_ss]
  unfold studentLogit
  exact congrArg (fun x => x * _ * _ * _) (Finset.sum_congr rfl fun d _ => congrArg (· * _) (blk_sc m c _ _ _ _))

include ht hs

theorem row_value (i : Fin 2) (v : Fin 4) (b : Fin 3) (q : Fin 256) :
    ((dats m 0 c).arrAt 9 cfg0.N : FVec Ideal S2x4x3x256 .f32) (ix4 i v b q) = rowLoss y i v b q :=
  (final_row m c _).trans (row_real (teacher_blk m c y ht) (student_blk m c y hs) i v b q)

theorem pair_value (i : Fin 2) (v : Fin 4) :
    ((dats m 0 c).arrAt 8 cfg0.N : FVec Ideal S2x4 .f32) (ix2 i v) = pairLoss y i v :=
  (final_pair m c _).trans (pair_real (teacher_blk m c y ht) (student_blk m c y hs) i v)

end Losses

end Dino.ReferenceIdeal
-- ==== Proof.Finite.lean ====
/-
  The precondition read: the codes and scales of both crops, the prototypes' gains and the centre are real numbers.
-/
module

public import proofs.«01_k».proof.Pre_finite
public import proofs.«01_k».proof.Proof.Logit
public import Idealize.ShloMosaic.Lib.ReduceAll

@[expose] public section

noncomputable section

namespace Dino.Finite

open Cert.Pre_finite Idealize.ShloMosaic

theorem fin_of_cmp (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  constructor
  · rintro rfl
    simp at h
  · rintro rfl
    simp at h

/-- `jnp.all (jnp.abs x < inf)`. -/
theorem fin_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : Fin' (x i) := by
  haveI : Subsingleton S_.Idx := ⟨fun a b => funext fun k => k.elim0⟩
  exact fin_of_cmp (x i) (Host.reduce_andi_all _ _ h hu j e i)

theorem and_split (a b : BitVec 1) (h : IntOp.andi a b = 1#1) : a = 1#1 ∧ b = 1#1 := by
  revert a b
  decide

theorem of_fn [Facts] (a0 : FVec Ideal S2x3x256x512 .f32) (a1 : FVec Ideal S2x3x256 .f32) (a2 : FVec Ideal S4x3x256x512 .f32)
    (a3 : FVec Ideal S4x3x256 .f32) (a4 : FVec Ideal S16384x512 .fp8e4m3) (a5 : FVec Ideal S16384x4 .f32) (a6 a7 : FVec Ideal S16384 .f32)
    (h : fn (F := Ideal) a0 a1 a2 a3 a4 a5 a6 a7 = fun _ => 1#1) : Reals a0 a1 a2 a3 a6 a7 := by
  have j : S_.Idx := fun k => k.elim0
  have h' := congrFun h j
  unfold fn fn_part1 at h'
  obtain ⟨h, h7⟩ := and_split _ _ h'
  obtain ⟨h, h6⟩ := and_split _ _ h
  obtain ⟨h, h3⟩ := and_split _ _ h
  obtain ⟨h, h2⟩ := and_split _ _ h
  obtain ⟨h0, h1⟩ := and_split _ _ h
  exact ⟨fin_of_all a0 _ _ _ j h0, fin_of_all a1 _ _ _ j h1, fin_of_all a2 _ _ _ j h2, fin_of_all a3 _ _ _ j h3,
    fin_of_all a6 _ _ _ j h6, fin_of_all a7 _ _ _ j h7⟩

end Dino.Finite
-- ==== Proof.Algebraic.lean ====
/-
  The kernel's three results are the reference's: the two runs, the precondition read, and the equations of the formulas.
-/
module

public import proofs.«01_k».proof.Defs
public import proofs.«01_k».proof.Proof.KernelValue
public import proofs.«01_k».proof.Proof.ReferenceValue
public import proofs.«01_k».proof.Proof.Finite
public import proofs.«01_k».proof.Proof.Gen.Pre_finite

@[expose] public section

noncomputable section

namespace Cert.Proof

open Idealize.ShloMosaic Idealize.ShloMosaic.TcCoe Idealize.SL.Sem

/-- The kernel's named constants are the reals they stand for. -/
theorem preserves : Cert.preserves_Kernel_KernelIdeal :=
  ⟨IdealRules.named_const.statement Cert.KernelIdeal.κ "inv_rows" .f32 0x3A2AAAAB#32 ((1 / 1536 : ℝ) : EReal) rfl,
    IdealRules.named_const.statement Cert.KernelIdeal.κ "t_gain" .f32 0x421044FE#32 ((25 * (Real.log 2)⁻¹ : ℝ) : EReal) rfl,
    IdealRules.named_const.statement Cert.KernelIdeal.κ "s_gain" .f32 0x4166D4CA#32 ((10 * (Real.log 2)⁻¹ : ℝ) : EReal) rfl,
    IdealRules.named_const.statement Cert.KernelIdeal.κ "ln_2" .f32 0x3F317218#32 ((Real.log 2 : ℝ) : EReal) rfl⟩

theorem inv_rows : (Dino.KernelIdeal.invRows : EReal) = ((1 / 1536 : ℝ) : EReal) :=
  IdealRules.named_const.ideal_named_scalar _ _ _ _ rfl

/-- The logits in units of `log 2`, as the kernel keeps them. -/
def scaled (y : Fin 3 → Fin 256 → Fin 16384 → Fin 6 → ℝ) : Dino.Logits := fun b q p x => y b q p x * (Real.log 2)⁻¹

theorem row_eq (y : Fin 3 → Fin 256 → Fin 16384 → Fin 6 → ℝ) (i : Fin 2) (v : Fin 4) (b : Fin 3) (q : Fin 256) :
    Dino.rowLoss y i v b q = Dino.KernelIdeal.rowOut (scaled y) (ValueIdx.ix4 i v b q) :=
  (Dino.lossRow_scaled y i v b q).symm

theorem pair_eq (y : Fin 3 → Fin 256 → Fin 16384 → Fin 6 → ℝ) (i : Fin 2) (v : Fin 4) :
    Dino.pairLoss y i v = Dino.KernelIdeal.pairOut (scaled y) (ValueIdx.ix2 i v) := by
  rw [Dino.pairLoss_eq]
  simp only [← Dino.lossRow_scaled]
  rfl

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  have hr (c : Dev Cert.KernelIdeal.nD) := Dino.Finite.of_fn _ _ _ _ _ _ _ _ (hpre c)
  choose y hy using fun c : Dev Cert.KernelIdeal.nD => Dino.logits_eq (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (hr c)
  refine ⟨_, _, _, Dino.KernelIdeal.run m (fun c => scaled (y c)) ρ
    fun c b q p x => (Dino.KernelIdeal.logit_base m c b q p x).trans ((hy c).2.2 b q p x), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run_blocks (F := Ideal) m' ρ')
  all_goals
    obtain ⟨e0, e1, e2, e3, e4, e5, e6, e7⟩ := hagree c
    funext j
  · refine (congrArg _ (ValueIdx.eq_ix2 j)).trans ((Dino.ReferenceIdeal.pair_value m' c (y c) ?_ ?_ (j 0) (j 1)).trans
      ((pair_eq _ _ _).trans (congrArg _ (ValueIdx.eq_ix2 j).symm)))
    · rw [e0, e1, e4, e5, e6, e7]
      exact (hy c).1
    · rw [e2, e3, e4, e5, e6]
      exact (hy c).2.1
  · refine (congrArg _ (ValueIdx.eq_ix4 j)).trans ((Dino.ReferenceIdeal.row_value m' c (y c) ?_ ?_ (j 0) (j 1) (j 2) (j 3)).trans
      ((row_eq _ _ _ _ _).trans (congrArg _ (ValueIdx.eq_ix4 j).symm)))
    · rw [e0, e1, e4, e5, e6, e7]
      exact (hy c).1
    · rw [e2, e3, e4, e5, e6]
      exact (hy c).2.1
  · refine (congrArg _ (ValueIdx.eq_ix2 j)).trans ((Dino.ReferenceIdeal.centre_value m' c (j 0) (j 1)).trans ?_)
    rw [e0, e1, e4, e5, e6]
    unfold Dino.KernelIdeal.centre
    rw [inv_rows]
    exact (Dino.featuresFirst_eq _ _ _ _ _ (hr c).tc (hr c).ts (hr c).g (Dino.protoAt (j 0) (j 1))).symm

end Cert.Proof
-- ==== Proof.lean ====
/-
  The proof of `Cert.Claim`: the kernel in both readings and the reference run to their end, leave their arguments as they
  were and every semaphore at zero; and over the extended reals the kernel's pair losses, row losses
  and batch centre are the reference's.
-/
module

public import proofs.«01_k».proof.Defs
public import proofs.«01_k».proof.Proof.Run
public import proofs.«01_k».proof.Proof.RunIdeal
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Pre_finite
public import Idealize.ShloMosaic.Adequacy
public import Idealize.ShloMosaic.Init

@[expose] public section

noncomputable section

namespace Cert.Proof

open Idealize.ShloMosaic Idealize.ShloMosaic.TcCoe Idealize.SL.Sem

theorem quiescent_Kernel : Cert.quiescent_Kernel (hKernel := Cert.Kernel.Gen.facts) := fun m ρ _ =>
  (θ_run Cert.Kernel.defs _ _).mono (fun _ h => ⟨fun c => Dino.Kernel.kept h.1 c, h.2⟩) (Dino.Kernel.run_main m ρ)

theorem quiescent_KernelIdeal : Cert.quiescent_KernelIdeal (hKernelIdeal := Cert.KernelIdeal.Gen.facts) := fun m ρ _ =>
  (θ_run Cert.KernelIdeal.defs _ _).mono (fun _ h => ⟨fun c => Dino.KernelIdeal.kept h.1 c, h.2⟩)
    (Dino.KernelIdeal.run_main m ρ (fun _ _ _ _ _ => 0) true nofun)

theorem quiescent_KernelIdeal_finite : Cert.quiescent_KernelIdeal_pre_finite (hKernelIdeal := Cert.KernelIdeal.Gen.facts)
    (hPre_finite := Cert.Pre_finite.Gen.facts) := fun m ρ _ => quiescent_KernelIdeal m ρ trivial

theorem quiescent_ReferenceIdeal : Cert.quiescent_ReferenceIdeal (hReferenceIdeal := Cert.ReferenceIdeal.Gen.facts) := fun m ρ _ =>
  Cert.ReferenceIdeal.Gen.frame m ρ

theorem quiescent_ReferenceIdeal_finite : Cert.quiescent_ReferenceIdeal_pre_finite (hReferenceIdeal := Cert.ReferenceIdeal.Gen.facts)
    (hPre_finite := Cert.Pre_finite.Gen.facts) := fun m ρ _ => quiescent_ReferenceIdeal m ρ trivial

theorem claim : Cert.Claim :=
  ⟨Cert.Kernel.Gen.facts, Cert.KernelIdeal.Gen.facts, Cert.ReferenceIdeal.Gen.facts, Cert.Pre_finite.Gen.facts,
    quiescent_Kernel, quiescent_KernelIdeal, quiescent_KernelIdeal_finite, quiescent_ReferenceIdeal,
    quiescent_ReferenceIdeal_finite, preserves, algebraic⟩

end Cert.Proof
